-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3)
      ∧ r.2.mem ((c.tc : Thread Cert.Input.nD Cert.Input.τ).loc Cert.Input.main_arg4) = m ((c.tc : Thread Cert.Input.nD Cert.Input.τ).loc Cert.Input.main_arg4)
      ∧ r.2.mem ((c.tc : Thread Cert.Input.nD Cert.Input.τ).loc Cert.Input.main_arg5) = m ((c.tc : Thread Cert.Input.nD Cert.Input.τ).loc Cert.Input.main_arg5)
      ∧ r.2.mem ((c.tc : Thread Cert.Input.nD Cert.Input.τ).loc Cert.Input.main_arg6) = m ((c.tc : Thread Cert.Input.nD Cert.Input.τ).loc Cert.Input.main_arg6)
      ∧ r.2.mem ((c.tc : Thread Cert.Input.nD Cert.Input.τ).loc Cert.Input.main_arg7) = m ((c.tc : Thread Cert.Input.nD Cert.Input.τ).loc Cert.Input.main_arg7)
      ∧ r.2.mem ((c.tc : Thread Cert.Input.nD Cert.Input.τ).loc Cert.Input.main_arg8) = m ((c.tc : Thread Cert.Input.nD Cert.Input.τ).loc Cert.Input.main_arg8)
      ∧ r.2.mem ((c.tc : Thread Cert.Input.nD Cert.Input.τ).loc Cert.Input.main_arg9) = m ((c.tc : Thread Cert.Input.nD Cert.Input.τ).loc Cert.Input.main_arg9)
      ∧ r.2.mem ((c.tc : Thread Cert.Input.nD Cert.Input.τ).loc Cert.Input.main_arg10) = m ((c.tc : Thread Cert.Input.nD Cert.Input.τ).loc Cert.Input.main_arg10)
      ∧ r.2.mem ((c.tc : Thread Cert.Input.nD Cert.Input.τ).loc Cert.Input.main_arg11) = m ((c.tc : Thread Cert.Input.nD Cert.Input.τ).loc Cert.Input.main_arg11)
      ∧ r.2.mem ((c.tc : Thread Cert.Input.nD Cert.Input.τ).loc Cert.Input.main_arg12) = m ((c.tc : Thread Cert.Input.nD Cert.Input.τ).loc Cert.Input.main_arg12)
      ∧ r.2.mem ((c.tc : Thread Cert.Input.nD Cert.Input.τ).loc Cert.Input.main_arg13) = m ((c.tc : Thread Cert.Input.nD Cert.Input.τ).loc Cert.Input.main_arg13)
      ∧ r.2.mem ((c.tc : Thread Cert.Input.nD Cert.Input.τ).loc Cert.Input.main_arg14) = m ((c.tc : Thread Cert.Input.nD Cert.Input.τ).loc Cert.Input.main_arg14))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
      ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
      ∧ r.2.mem ((c.tc : Thread Cert.InputIdeal.nD Cert.InputIdeal.τ).loc Cert.InputIdeal.main_arg5) = m ((c.tc : Thread Cert.InputIdeal.nD Cert.InputIdeal.τ).loc Cert.InputIdeal.main_arg5)
      ∧ r.2.mem ((c.tc : Thread Cert.InputIdeal.nD Cert.InputIdeal.τ).loc Cert.InputIdeal.main_arg6) = m ((c.tc : Thread Cert.InputIdeal.nD Cert.InputIdeal.τ).loc Cert.InputIdeal.main_arg6)
      ∧ r.2.mem ((c.tc : Thread Cert.InputIdeal.nD Cert.InputIdeal.τ).loc Cert.InputIdeal.main_arg7) = m ((c.tc : Thread Cert.InputIdeal.nD Cert.InputIdeal.τ).loc Cert.InputIdeal.main_arg7)
      ∧ r.2.mem ((c.tc : Thread Cert.InputIdeal.nD Cert.InputIdeal.τ).loc Cert.InputIdeal.main_arg8) = m ((c.tc : Thread Cert.InputIdeal.nD Cert.InputIdeal.τ).loc Cert.InputIdeal.main_arg8)
      ∧ r.2.mem ((c.tc : Thread Cert.InputIdeal.nD Cert.InputIdeal.τ).loc Cert.InputIdeal.main_arg9) = m ((c.tc : Thread Cert.InputIdeal.nD Cert.InputIdeal.τ).loc Cert.InputIdeal.main_arg9)
      ∧ r.2.mem ((c.tc : Thread Cert.InputIdeal.nD Cert.InputIdeal.τ).loc Cert.InputIdeal.main_arg10) = m ((c.tc : Thread Cert.InputIdeal.nD Cert.InputIdeal.τ).loc Cert.InputIdeal.main_arg10)
      ∧ r.2.mem ((c.tc : Thread Cert.InputIdeal.nD Cert.InputIdeal.τ).loc Cert.InputIdeal.main_arg11) = m ((c.tc : Thread Cert.InputIdeal.nD Cert.InputIdeal.τ).loc Cert.InputIdeal.main_arg11)
      ∧ r.2.mem ((c.tc : Thread Cert.InputIdeal.nD Cert.InputIdeal.τ).loc Cert.InputIdeal.main_arg12) = m ((c.tc : Thread Cert.InputIdeal.nD Cert.InputIdeal.τ).loc Cert.InputIdeal.main_arg12)
      ∧ r.2.mem ((c.tc : Thread Cert.InputIdeal.nD Cert.InputIdeal.τ).loc Cert.InputIdeal.main_arg13) = m ((c.tc : Thread Cert.InputIdeal.nD Cert.InputIdeal.τ).loc Cert.InputIdeal.main_arg13)
      ∧ r.2.mem ((c.tc : Thread Cert.InputIdeal.nD Cert.InputIdeal.τ).loc Cert.InputIdeal.main_arg14) = m ((c.tc : Thread Cert.InputIdeal.nD Cert.InputIdeal.τ).loc Cert.InputIdeal.main_arg14))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3)
      ∧ r.2.mem ((c.tc : Thread Cert.InputRefIdeal.nD Cert.InputRefIdeal.τ).loc Cert.InputRefIdeal.main_arg4) = m ((c.tc : Thread Cert.InputRefIdeal.nD Cert.InputRefIdeal.τ).loc Cert.InputRefIdeal.main_arg4)
      ∧ r.2.mem ((c.tc : Thread Cert.InputRefIdeal.nD Cert.InputRefIdeal.τ).loc Cert.InputRefIdeal.main_arg5) = m ((c.tc : Thread Cert.InputRefIdeal.nD Cert.InputRefIdeal.τ).loc Cert.InputRefIdeal.main_arg5)
      ∧ r.2.mem ((c.tc : Thread Cert.InputRefIdeal.nD Cert.InputRefIdeal.τ).loc Cert.InputRefIdeal.main_arg6) = m ((c.tc : Thread Cert.InputRefIdeal.nD Cert.InputRefIdeal.τ).loc Cert.InputRefIdeal.main_arg6)
      ∧ r.2.mem ((c.tc : Thread Cert.InputRefIdeal.nD Cert.InputRefIdeal.τ).loc Cert.InputRefIdeal.main_arg7) = m ((c.tc : Thread Cert.InputRefIdeal.nD Cert.InputRefIdeal.τ).loc Cert.InputRefIdeal.main_arg7)
      ∧ r.2.mem ((c.tc : Thread Cert.InputRefIdeal.nD Cert.InputRefIdeal.τ).loc Cert.InputRefIdeal.main_arg8) = m ((c.tc : Thread Cert.InputRefIdeal.nD Cert.InputRefIdeal.τ).loc Cert.InputRefIdeal.main_arg8)
      ∧ r.2.mem ((c.tc : Thread Cert.InputRefIdeal.nD Cert.InputRefIdeal.τ).loc Cert.InputRefIdeal.main_arg9) = m ((c.tc : Thread Cert.InputRefIdeal.nD Cert.InputRefIdeal.τ).loc Cert.InputRefIdeal.main_arg9)
      ∧ r.2.mem ((c.tc : Thread Cert.InputRefIdeal.nD Cert.InputRefIdeal.τ).loc Cert.InputRefIdeal.main_arg10) = m ((c.tc : Thread Cert.InputRefIdeal.nD Cert.InputRefIdeal.τ).loc Cert.InputRefIdeal.main_arg10)
      ∧ r.2.mem ((c.tc : Thread Cert.InputRefIdeal.nD Cert.InputRefIdeal.τ).loc Cert.InputRefIdeal.main_arg11) = m ((c.tc : Thread Cert.InputRefIdeal.nD Cert.InputRefIdeal.τ).loc Cert.InputRefIdeal.main_arg11)
      ∧ r.2.mem ((c.tc : Thread Cert.InputRefIdeal.nD Cert.InputRefIdeal.τ).loc Cert.InputRefIdeal.main_arg12) = m ((c.tc : Thread Cert.InputRefIdeal.nD Cert.InputRefIdeal.τ).loc Cert.InputRefIdeal.main_arg12)
      ∧ r.2.mem ((c.tc : Thread Cert.InputRefIdeal.nD Cert.InputRefIdeal.τ).loc Cert.InputRefIdeal.main_arg13) = m ((c.tc : Thread Cert.InputRefIdeal.nD Cert.InputRefIdeal.τ).loc Cert.InputRefIdeal.main_arg13)
      ∧ r.2.mem ((c.tc : Thread Cert.InputRefIdeal.nD Cert.InputRefIdeal.τ).loc Cert.InputRefIdeal.main_arg14) = m ((c.tc : Thread Cert.InputRefIdeal.nD Cert.InputRefIdeal.τ).loc Cert.InputRefIdeal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Input_InputIdeal : Prop :=
  True

def algebraic_InputIdeal_InputRefIdeal [hInputIdeal : Cert.InputIdeal.Facts] [hInputRefIdeal : Cert.InputRefIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)
      ∧ m' ((c.tc : Thread Cert.InputRefIdeal.nD Cert.InputRefIdeal.τ).loc Cert.InputRefIdeal.main_arg4) = m ((c.tc : Thread Cert.InputIdeal.nD Cert.InputIdeal.τ).loc Cert.InputIdeal.main_arg4)
      ∧ m' ((c.tc : Thread Cert.InputRefIdeal.nD Cert.InputRefIdeal.τ).loc Cert.InputRefIdeal.main_arg5) = m ((c.tc : Thread Cert.InputIdeal.nD Cert.InputIdeal.τ).loc Cert.InputIdeal.main_arg5)
      ∧ m' ((c.tc : Thread Cert.InputRefIdeal.nD Cert.InputRefIdeal.τ).loc Cert.InputRefIdeal.main_arg6) = m ((c.tc : Thread Cert.InputIdeal.nD Cert.InputIdeal.τ).loc Cert.InputIdeal.main_arg6)
      ∧ m' ((c.tc : Thread Cert.InputRefIdeal.nD Cert.InputRefIdeal.τ).loc Cert.InputRefIdeal.main_arg7) = m ((c.tc : Thread Cert.InputIdeal.nD Cert.InputIdeal.τ).loc Cert.InputIdeal.main_arg7)
      ∧ m' ((c.tc : Thread Cert.InputRefIdeal.nD Cert.InputRefIdeal.τ).loc Cert.InputRefIdeal.main_arg8) = m ((c.tc : Thread Cert.InputIdeal.nD Cert.InputIdeal.τ).loc Cert.InputIdeal.main_arg8)
      ∧ m' ((c.tc : Thread Cert.InputRefIdeal.nD Cert.InputRefIdeal.τ).loc Cert.InputRefIdeal.main_arg9) = m ((c.tc : Thread Cert.InputIdeal.nD Cert.InputIdeal.τ).loc Cert.InputIdeal.main_arg9)
      ∧ m' ((c.tc : Thread Cert.InputRefIdeal.nD Cert.InputRefIdeal.τ).loc Cert.InputRefIdeal.main_arg10) = m ((c.tc : Thread Cert.InputIdeal.nD Cert.InputIdeal.τ).loc Cert.InputIdeal.main_arg10)
      ∧ m' ((c.tc : Thread Cert.InputRefIdeal.nD Cert.InputRefIdeal.τ).loc Cert.InputRefIdeal.main_arg11) = m ((c.tc : Thread Cert.InputIdeal.nD Cert.InputIdeal.τ).loc Cert.InputIdeal.main_arg11)
      ∧ m' ((c.tc : Thread Cert.InputRefIdeal.nD Cert.InputRefIdeal.τ).loc Cert.InputRefIdeal.main_arg12) = m ((c.tc : Thread Cert.InputIdeal.nD Cert.InputIdeal.τ).loc Cert.InputIdeal.main_arg12)
      ∧ m' ((c.tc : Thread Cert.InputRefIdeal.nD Cert.InputRefIdeal.τ).loc Cert.InputRefIdeal.main_arg13) = m ((c.tc : Thread Cert.InputIdeal.nD Cert.InputIdeal.τ).loc Cert.InputIdeal.main_arg13)
      ∧ m' ((c.tc : Thread Cert.InputRefIdeal.nD Cert.InputRefIdeal.τ).loc Cert.InputRefIdeal.main_arg14) = m ((c.tc : Thread Cert.InputIdeal.nD Cert.InputIdeal.τ).loc Cert.InputIdeal.main_arg14)) →
    ∃ (v0 : (c : Dev Cert.InputIdeal.nD) → Buf (Elt Ideal) ((c.tc : Thread Cert.InputIdeal.nD Cert.InputIdeal.τ).loc Cert.InputIdeal.main_v0_0)) (v1 : (c : Dev Cert.InputIdeal.nD) → Buf (Elt Ideal) ((c.tc : Thread Cert.InputIdeal.nD Cert.InputIdeal.τ).loc Cert.InputIdeal.main_v0_1)) (v2 : (c : Dev Cert.InputIdeal.nD) → Buf (Elt Ideal) ((c.tc : Thread Cert.InputIdeal.nD Cert.InputIdeal.τ).loc Cert.InputIdeal.main_v0_3)) (v3 : (c : Dev Cert.InputIdeal.nD) → Buf (Elt Ideal) ((c.tc : Thread Cert.InputIdeal.nD Cert.InputIdeal.τ).loc Cert.InputIdeal.main_v0_6)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v0_0) = v0 c
          ∧ r.2.mem ((c.tc : Thread Cert.InputIdeal.nD Cert.InputIdeal.τ).loc Cert.InputIdeal.main_v0_1) = v1 c
          ∧ r.2.mem ((c.tc : Thread Cert.InputIdeal.nD Cert.InputIdeal.τ).loc Cert.InputIdeal.main_v0_3) = v2 c
          ∧ r.2.mem ((c.tc : Thread Cert.InputIdeal.nD Cert.InputIdeal.τ).loc Cert.InputIdeal.main_v0_6) = v3 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3)
          ∧ r.2.mem ((c.tc : Thread Cert.InputIdeal.nD Cert.InputIdeal.τ).loc Cert.InputIdeal.main_arg4) = m ((c.tc : Thread Cert.InputIdeal.nD Cert.InputIdeal.τ).loc Cert.InputIdeal.main_arg4)
          ∧ r.2.mem ((c.tc : Thread Cert.InputIdeal.nD Cert.InputIdeal.τ).loc Cert.InputIdeal.main_arg5) = m ((c.tc : Thread Cert.InputIdeal.nD Cert.InputIdeal.τ).loc Cert.InputIdeal.main_arg5)
          ∧ r.2.mem ((c.tc : Thread Cert.InputIdeal.nD Cert.InputIdeal.τ).loc Cert.InputIdeal.main_arg6) = m ((c.tc : Thread Cert.InputIdeal.nD Cert.InputIdeal.τ).loc Cert.InputIdeal.main_arg6)
          ∧ r.2.mem ((c.tc : Thread Cert.InputIdeal.nD Cert.InputIdeal.τ).loc Cert.InputIdeal.main_arg7) = m ((c.tc : Thread Cert.InputIdeal.nD Cert.InputIdeal.τ).loc Cert.InputIdeal.main_arg7)
          ∧ r.2.mem ((c.tc : Thread Cert.InputIdeal.nD Cert.InputIdeal.τ).loc Cert.InputIdeal.main_arg8) = m ((c.tc : Thread Cert.InputIdeal.nD Cert.InputIdeal.τ).loc Cert.InputIdeal.main_arg8)
          ∧ r.2.mem ((c.tc : Thread Cert.InputIdeal.nD Cert.InputIdeal.τ).loc Cert.InputIdeal.main_arg9) = m ((c.tc : Thread Cert.InputIdeal.nD Cert.InputIdeal.τ).loc Cert.InputIdeal.main_arg9)
          ∧ r.2.mem ((c.tc : Thread Cert.InputIdeal.nD Cert.InputIdeal.τ).loc Cert.InputIdeal.main_arg10) = m ((c.tc : Thread Cert.InputIdeal.nD Cert.InputIdeal.τ).loc Cert.InputIdeal.main_arg10)
          ∧ r.2.mem ((c.tc : Thread Cert.InputIdeal.nD Cert.InputIdeal.τ).loc Cert.InputIdeal.main_arg11) = m ((c.tc : Thread Cert.InputIdeal.nD Cert.InputIdeal.τ).loc Cert.InputIdeal.main_arg11)
          ∧ r.2.mem ((c.tc : Thread Cert.InputIdeal.nD Cert.InputIdeal.τ).loc Cert.InputIdeal.main_arg12) = m ((c.tc : Thread Cert.InputIdeal.nD Cert.InputIdeal.τ).loc Cert.InputIdeal.main_arg12)
          ∧ r.2.mem ((c.tc : Thread Cert.InputIdeal.nD Cert.InputIdeal.τ).loc Cert.InputIdeal.main_arg13) = m ((c.tc : Thread Cert.InputIdeal.nD Cert.InputIdeal.τ).loc Cert.InputIdeal.main_arg13)
          ∧ r.2.mem ((c.tc : Thread Cert.InputIdeal.nD Cert.InputIdeal.τ).loc Cert.InputIdeal.main_arg14) = m ((c.tc : Thread Cert.InputIdeal.nD Cert.InputIdeal.τ).loc Cert.InputIdeal.main_arg14))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v37) = v0 c
          ∧ r.2.mem ((c.tc : Thread Cert.InputRefIdeal.nD Cert.InputRefIdeal.τ).loc Cert.InputRefIdeal.main_v38) = v1 c
          ∧ r.2.mem ((c.tc : Thread Cert.InputRefIdeal.nD Cert.InputRefIdeal.τ).loc Cert.InputRefIdeal.main_v39) = v2 c
          ∧ r.2.mem ((c.tc : Thread Cert.InputRefIdeal.nD Cert.InputRefIdeal.τ).loc Cert.InputRefIdeal.main_v40) = v3 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3)
          ∧ r.2.mem ((c.tc : Thread Cert.InputRefIdeal.nD Cert.InputRefIdeal.τ).loc Cert.InputRefIdeal.main_arg4) = m' ((c.tc : Thread Cert.InputRefIdeal.nD Cert.InputRefIdeal.τ).loc Cert.InputRefIdeal.main_arg4)
          ∧ r.2.mem ((c.tc : Thread Cert.InputRefIdeal.nD Cert.InputRefIdeal.τ).loc Cert.InputRefIdeal.main_arg5) = m' ((c.tc : Thread Cert.InputRefIdeal.nD Cert.InputRefIdeal.τ).loc Cert.InputRefIdeal.main_arg5)
          ∧ r.2.mem ((c.tc : Thread Cert.InputRefIdeal.nD Cert.InputRefIdeal.τ).loc Cert.InputRefIdeal.main_arg6) = m' ((c.tc : Thread Cert.InputRefIdeal.nD Cert.InputRefIdeal.τ).loc Cert.InputRefIdeal.main_arg6)
          ∧ r.2.mem ((c.tc : Thread Cert.InputRefIdeal.nD Cert.InputRefIdeal.τ).loc Cert.InputRefIdeal.main_arg7) = m' ((c.tc : Thread Cert.InputRefIdeal.nD Cert.InputRefIdeal.τ).loc Cert.InputRefIdeal.main_arg7)
          ∧ r.2.mem ((c.tc : Thread Cert.InputRefIdeal.nD Cert.InputRefIdeal.τ).loc Cert.InputRefIdeal.main_arg8) = m' ((c.tc : Thread Cert.InputRefIdeal.nD Cert.InputRefIdeal.τ).loc Cert.InputRefIdeal.main_arg8)
          ∧ r.2.mem ((c.tc : Thread Cert.InputRefIdeal.nD Cert.InputRefIdeal.τ).loc Cert.InputRefIdeal.main_arg9) = m' ((c.tc : Thread Cert.InputRefIdeal.nD Cert.InputRefIdeal.τ).loc Cert.InputRefIdeal.main_arg9)
          ∧ r.2.mem ((c.tc : Thread Cert.InputRefIdeal.nD Cert.InputRefIdeal.τ).loc Cert.InputRefIdeal.main_arg10) = m' ((c.tc : Thread Cert.InputRefIdeal.nD Cert.InputRefIdeal.τ).loc Cert.InputRefIdeal.main_arg10)
          ∧ r.2.mem ((c.tc : Thread Cert.InputRefIdeal.nD Cert.InputRefIdeal.τ).loc Cert.InputRefIdeal.main_arg11) = m' ((c.tc : Thread Cert.InputRefIdeal.nD Cert.InputRefIdeal.τ).loc Cert.InputRefIdeal.main_arg11)
          ∧ r.2.mem ((c.tc : Thread Cert.InputRefIdeal.nD Cert.InputRefIdeal.τ).loc Cert.InputRefIdeal.main_arg12) = m' ((c.tc : Thread Cert.InputRefIdeal.nD Cert.InputRefIdeal.τ).loc Cert.InputRefIdeal.main_arg12)
          ∧ r.2.mem ((c.tc : Thread Cert.InputRefIdeal.nD Cert.InputRefIdeal.τ).loc Cert.InputRefIdeal.main_arg13) = m' ((c.tc : Thread Cert.InputRefIdeal.nD Cert.InputRefIdeal.τ).loc Cert.InputRefIdeal.main_arg13)
          ∧ r.2.mem ((c.tc : Thread Cert.InputRefIdeal.nD Cert.InputRefIdeal.τ).loc Cert.InputRefIdeal.main_arg14) = m' ((c.tc : Thread Cert.InputRefIdeal.nD Cert.InputRefIdeal.τ).loc Cert.InputRefIdeal.main_arg14))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInput : Cert.Input.Facts) (hInputIdeal : Cert.InputIdeal.Facts) (hInputRefIdeal : Cert.InputRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Input (hInput := hInput)
    ∧ quiescent_InputIdeal (hInputIdeal := hInputIdeal)
    ∧ quiescent_InputRefIdeal (hInputRefIdeal := hInputRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Input_InputIdeal
    ∧ algebraic_InputIdeal_InputRefIdeal (hInputIdeal := hInputIdeal) (hInputRefIdeal := hInputRefIdeal)
-- ==== Pre_finite.lean ====
abbrev S8x4096x1024 : Shape := ⟨3, ![8, 4096, 1024]⟩
abbrev S8x512x4096 : Shape := ⟨3, ![8, 512, 4096]⟩
abbrev S8x4096x128 : Shape := ⟨3, ![8, 4096, 128]⟩
abbrev S8x4096x640 : Shape := ⟨3, ![8, 4096, 640]⟩
abbrev S8x128x4096 : Shape := ⟨3, ![8, 128, 4096]⟩
abbrev S_ : Shape := ⟨0, ![]⟩
abbrev S8x4096x4 : Shape := ⟨3, ![8, 4096, 4]⟩

class Facts : Prop where
  bitsLt_bf16_f32 : FTy.bits .bf16 < FTy.bits .f32
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  slices_S8x4096x128_S8x4096x4_0_0_8 : S8x4096x128.Slices ![0, 0, 8] S8x4096x4
  bcast_S_S8x4096x4 : S_.BroadcastsInDim S8x4096x4 (![] : Fin 0 → Fin S8x4096x4.rank)
  reducesTo_S8x4096x4_S_d0_1_2 : S8x4096x4.ReducesTo [0, 1, 2] S_

variable [Facts]

def fn {F : FTy → Type} [FloatOps F] (main_arg0 : FVec F S8x4096x1024 .bf16) (main_arg1 : FVec F S8x512x4096 .bf16) (main_arg2 : FVec F S8x4096x128 .f32) (main_arg3 : FVec F S8x4096x640 .bf16) (main_arg4 : FVec F S8x4096x640 .bf16) (main_arg5 : FVec F S8x128x4096 .bf16) : IVec S_ 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_c : IVec S_ 1 := constantI S_ 1 1#1
  let main_v4 : IVec S_ 1 := (fun x v => Host.reduce IntOp.andi x v reducesTo_S8x4096x1024_S_d0_1_2 h_S_) main_v3 main_c
  let main_v5 : FVec F S8x4096x4 .f32 := (extractStridedSlice S8x4096x4 ![0, 0, 8] · slices_S8x4096x128_S8x4096x4_0_0_8) main_arg2
  let main_v6 : FVec F S8x4096x4 .f32 := Host.absf main_v5
  let main_cst_0 : FVec F S_ .f32 := constant S_ .f32 0x7F800000#32
  let main_v7 : FVec F S8x4096x4 .f32 := broadcastInDim S8x4096x4 ![] bcast_S_S8x4096x4 main_cst_0
  let main_v8 : IVec S8x4096x4 1 := cmpf .olt main_v6 main_v7
  let main_c_1 : IVec S_ 1 := constantI S_ 1 1#1
  let main_v9 : IVec S_ 1 := (fun x v => Host.reduce IntOp.andi x v reducesTo_S8x4096x4_S_d0_1_2 h_S_) main_v8 main_c_1
  let main_v10 : IVec S_ 1 := andi main_v4 main_v9
  main_v10
-- ==== Kernel.lean ====
abbrev S8x4096x1024 : Shape := ⟨3, ![8, 4096, 1024]⟩
abbrev S8x512x4096 : Shape := ⟨3, ![8, 512, 4096]⟩
abbrev S8x4096x128 : Shape := ⟨3, ![8, 4096, 128]⟩
abbrev S8x4096x640 : Shape := ⟨3, ![8, 4096, 640]⟩
abbrev S8x128x4096 : Shape := ⟨3, ![8, 128, 4096]⟩
abbrev S8x4096x512 : Shape := ⟨3, ![8, 4096, 512]⟩
abbrev S1x256x512 : Shape := ⟨3, ![1, 256, 512]⟩
abbrev S1x4096x512 : Shape := ⟨3, ![1, 4096, 512]⟩
abbrev S1x512x4096 : Shape := ⟨3, ![1, 512, 4096]⟩
abbrev S1x4096x128 : Shape := ⟨3, ![1, 4096, 128]⟩
abbrev S1x128x4096 : Shape := ⟨3, ![1, 128, 4096]⟩
abbrev S4096x256 : Shape := ⟨2, ![4096, 256]⟩
abbrev S16x256 : Shape := ⟨2, ![16, 256]⟩
abbrev S2x256x1024 : Shape := ⟨3, ![2, 256, 1024]⟩
abbrev S8x1024 : Shape := ⟨2, ![8, 1024]⟩
abbrev S128x1024 : Shape := ⟨2, ![128, 1024]⟩
abbrev S256x256 : Shape := ⟨2, ![256, 256]⟩
abbrev S256x128 : Shape := ⟨2, ![256, 128]⟩
abbrev S1x256x128 : Shape := ⟨3, ![1, 256, 128]⟩
abbrev S128x256 : Shape := ⟨2, ![128, 256]⟩
abbrev S8x256 : Shape := ⟨2, ![8, 256]⟩
abbrev S256x1024 : Shape := ⟨2, ![256, 1024]⟩
abbrev S1x256x1024 : Shape := ⟨3, ![1, 256, 1024]⟩
abbrev S1x256x1 : Shape := ⟨3, ![1, 256, 1]⟩
abbrev S256x1 : Shape := ⟨2, ![256, 1]⟩
abbrev S1x1024 : Shape := ⟨2, ![1, 1024]⟩
abbrev S1x128x256 : Shape := ⟨3, ![1, 128, 256]⟩
abbrev S1x256 : Shape := ⟨2, ![1, 256]⟩
abbrev S1024 : Shape := ⟨1, ![1024]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1024x128 : Shape := ⟨2, ![1024, 128]⟩

abbrev nBuf : Space → Nat
  | .hbm => 8
  | .vmem => 30
  | .smem => 0
  | _ => 0

abbrev bufTy : (tb : Table) → Fin (tcTables nBuf tb) → BufTy
  | .hbm, ⟨0, _⟩ => ⟨S8x4096x1024, .bf16⟩
  | .hbm, ⟨1, _⟩ => ⟨S8x512x4096, .bf16⟩
  | .hbm, ⟨2, _⟩ => ⟨S8x4096x128, .f32⟩
  | .hbm, ⟨3, _⟩ => ⟨S8x4096x640, .bf16⟩
  | .hbm, ⟨4, _⟩ => ⟨S8x4096x640, .bf16⟩
  | .hbm, ⟨5, _⟩ => ⟨S8x128x4096, .bf16⟩
  | .hbm, ⟨6, _⟩ => ⟨S8x4096x512, .bf16⟩
  | .hbm, ⟨7, _⟩ => ⟨S8x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x512x4096, .bf16⟩
  | .local _ .vmem, ⟨5, _⟩ => ⟨S1x512x4096, .bf16⟩
  | .local _ .vmem, ⟨6, _⟩ => ⟨S1x4096x128, .f32⟩
  | .local _ .vmem, ⟨7, _⟩ => ⟨S1x4096x128, .f32⟩
  | .local _ .vmem, ⟨8, _⟩ => ⟨S1x256x512, .bf16⟩
  | .local _ .vmem, ⟨9, _⟩ => ⟨S1x256x512, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x256x512, .bf16⟩
  | .local _ .vmem, ⟨13, _⟩ => ⟨S1x256x512, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x128x4096, .bf16⟩
  | .local _ .vmem, ⟨17, _⟩ => ⟨S1x128x4096, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x512, .bf16⟩
  | .local _ .vmem, ⟨22, _⟩ => ⟨S4096x256, .f32⟩
  | .local _ .vmem, ⟨23, _⟩ => ⟨S16x256, .f32⟩
  | .local _ .vmem, ⟨24, _⟩ => ⟨S2x256x1024, .f32⟩
  | .local _ .vmem, ⟨25, _⟩ => ⟨S2x256x1024, .bf16⟩
  | .local _ .vmem, ⟨26, _⟩ => ⟨S8x1024, .f32⟩
  | .local _ .vmem, ⟨27, _⟩ => ⟨S8x1024, .f32⟩
  | .local _ .vmem, ⟨28, _⟩ => ⟨S8x1024, .f32⟩
  | .local _ .vmem, ⟨29, _⟩ => ⟨S128x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v77 : BitVec 32 := Scalar.muli arg1 c256_i32
  v77
def k0_off1 (i : grid0.Coords) : Fin 3 → Nat :=
  let c0_40 : Index := 0#32
  let arg1 : BitVec 32 := BitVec.ofNat 32 (i 1).val
  let c256_i32 : BitVec 32 := 256#32
  let v77 : BitVec 32 := Scalar.muli arg1 c256_i32
  let v78 : BitVec 32 := v77
  let v79 : Index := Scalar.indexCast v78
  let c0_41 : Index := 0#32
  ![0, v79.toNat, 0]
def k0_mult2 : BitVec 32 :=
  let c0_i32_68 : BitVec 32 := 0#32
  c0_i32_68
@[reducible] def k0_t1_loop (i : grid0.Coords) : Scf.Loop 32 :=
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_110 : BitVec 32 := 1#32
  ⟨c0_i32_107, v200, c1_i32_110⟩
def k0_mult3 (i : grid0.Coords) (k0_t1 : Fin (k0_t1_loop i).trips) : BitVec 32 :=
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let c0_i32_272 : BitVec 32 := 0#32
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  v455
def k0_off2 (i : grid0.Coords) (k0_t1 : Fin (k0_t1_loop i).trips) (c0_i32_272 : BitVec 32) : Fin 3 → Nat :=
  let c0_283 : Index := 0#32
  let c0_284 : Index := 0#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  let v456 : BitVec 32 := v455
  let v457 : Index := Scalar.indexCast v456
  ![0, 0, v457.toNat]
def k0_off3 (i : grid0.Coords) (k0_t1 : Fin (k0_t1_loop i).trips) (c0_i32_272 : BitVec 32) : Fin 3 → Nat :=
  let c0_286 : Index := 0#32
  let c128_287 : Index := 128#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  let v456 : BitVec 32 := v455
  let v462 : Index := Scalar.indexCast v456
  ![0, 128, v462.toNat]
def k0_off4 (i : grid0.Coords) (k0_t1 : Fin (k0_t1_loop i).trips) (c0_i32_272 : BitVec 32) : Fin 3 → Nat :=
  let c0_289 : Index := 0#32
  let c256_290 : Index := 256#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  let v456 : BitVec 32 := v455
  let v467 : Index := Scalar.indexCast v456
  ![0, 256, v467.toNat]
def k0_off5 (i : grid0.Coords) (k0_t1 : Fin (k0_t1_loop i).trips) (c0_i32_272 : BitVec 32) : Fin 3 → Nat :=
  let c0_292 : Index := 0#32
  let c384_293 : Index := 384#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  let v456 : BitVec 32 := v455
  let v472 : Index := Scalar.indexCast v456
  ![0, 384, v472.toNat]
def k0_mult4 (i : grid0.Coords) (k0_t1 : Fin (k0_t1_loop i).trips) : BitVec 32 :=
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let c0_i32_272 : BitVec 32 := 0#32
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  v483
def k0_off6 (i : grid0.Coords) (k0_t1 : Fin (k0_t1_loop i).trips) (c0_i32_272 : BitVec 32) : Fin 3 → Nat :=
  let c0_299 : Index := 0#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v485 : Index := Scalar.indexCast v484
  let c0_300 : Index := 0#32
  ![0, v485.toNat, 0]
def k0_off7 (i : grid0.Coords) (k0_t1 : Fin (k0_t1_loop i).trips) (c0_i32_272 : BitVec 32) : Fin 3 → Nat :=
  let c0_305 : Index := 0#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v491 : Index := Scalar.indexCast v484
  let c8_306 : Index := 8#32
  ![0, v491.toNat, 8]
def k0_off8 (i : grid0.Coords) (k0_t1 : Fin (k0_t1_loop i).trips) (c0_i32_272 : BitVec 32) : Fin 3 → Nat :=
  let c0_307 : Index := 0#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v496 : Index := Scalar.indexCast v484
  let c128_308 : Index := 128#32
  ![0, v496.toNat, 128]
def k0_off9 (i : grid0.Coords) (k0_t1 : Fin (k0_t1_loop i).trips) (c0_i32_272 : BitVec 32) : Fin 3 → Nat :=
  let c0_313 : Index := 0#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v502 : Index := Scalar.indexCast v484
  let c9_314 : Index := 9#32
  ![0, v502.toNat, 9]
def k0_off10 (i : grid0.Coords) (k0_t1 : Fin (k0_t1_loop i).trips) (c0_i32_272 : BitVec 32) : Fin 3 → Nat :=
  let c0_315 : Index := 0#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v507 : Index := Scalar.indexCast v484
  let c256_316 : Index := 256#32
  ![0, v507.toNat, 256]
def k0_off11 (i : grid0.Coords) (k0_t1 : Fin (k0_t1_loop i).trips) (c0_i32_272 : BitVec 32) : Fin 3 → Nat :=
  let c0_321 : Index := 0#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v513 : Index := Scalar.indexCast v484
  let c10_322 : Index := 10#32
  ![0, v513.toNat, 10]
def k0_off12 (i : grid0.Coords) (k0_t1 : Fin (k0_t1_loop i).trips) (c0_i32_272 : BitVec 32) : Fin 3 → Nat :=
  let c0_323 : Index := 0#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v518 : Index := Scalar.indexCast v484
  let c384_324 : Index := 384#32
  ![0, v518.toNat, 384]
def k0_off13 (i : grid0.Coords) (k0_t1 : Fin (k0_t1_loop i).trips) (c0_i32_272 : BitVec 32) : Fin 3 → Nat :=
  let c0_329 : Index := 0#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v524 : Index := Scalar.indexCast v484
  let c11_330 : Index := 11#32
  ![0, v524.toNat, 11]
def k0_mult5 (i : grid0.Coords) (k0_t1 : Fin (k0_t1_loop i).trips) : BitVec 32 :=
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let c0_i32_272 : BitVec 32 := 0#32
  let v446 : BitVec 32 := Scalar.addi v445 c0_i32_272
  let c256_i32_334 : BitVec 32 := 256#32
  let v533 : BitVec 32 := Scalar.muli v446 c256_i32_334
  v533
def k0_off14 (i : grid0.Coords) (k0_t1 : Fin (k0_t1_loop i).trips) (c0_i32_272 : BitVec 32) : Fin 3 → Nat :=
  let c0_335 : Index := 0#32
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c256_i32_334 : BitVec 32 := 256#32
  let v533 : BitVec 32 := Scalar.muli v446 c256_i32_334
  let v534 : BitVec 32 := v533
  let v535 : Index := Scalar.indexCast v534
  let c0_336 : Index := 0#32
  ![0, v535.toNat, 0]
def k0_off15 (i : grid0.Coords) (k0_t1 : Fin (k0_t1_loop i).trips) (c0_i32_272 : BitVec 32) : Fin 2 → Nat :=
  let c4_i32_271 : BitVec 32 := 4#32
  let c0_i32_107 : BitVec 32 := 0#32
  let c1_i32_110 : BitVec 32 := 1#32
  let arg21 : BitVec 32 := Scf.iv c0_i32_107 c1_i32_110 k0_t1
  let v445 : BitVec 32 := Scalar.muli c4_i32_271 arg21
  let v446 : BitVec 32 := Scalar.addi v445 c0_i32_272
  let c256_i32_334 : BitVec 32 := 256#32
  let v533 : BitVec 32 := Scalar.muli v446 c256_i32_334
  let v534 : BitVec 32 := v533
  let v595 : Index := Scalar.indexCast v534
  let c0_354 : Index := 0#32
  ![v595.toNat, 0]
def k0_mult6 (i : grid0.Coords) (k0_t1 : Fin (k0_t1_loop i).trips) : BitVec 32 :=
  let c4_i32_381 : BitVec 32 := 4#32
  let c0_i32_107 : BitVec 32 := 0#32
  let c1_i32_110 : BitVec 32 := 1#32
  let arg21 : BitVec 32 := Scf.iv c0_i32_107 c1_i32_110 k0_t1
  let v764 : BitVec 32 := Scalar.muli c4_i32_381 arg21
  let c1_i32_382 : BitVec 32 := 1#32
  let v765 : BitVec 32 := Scalar.addi v764 c1_i32_382
  let c1_i32_383 : BitVec 32 := 1#32
  let v766 : BitVec 32 := Scalar.subi v765 c1_i32_383
  let c0_i32_384 : BitVec 32 := 0#32
  let v767 : BitVec 32 := Scalar.maxsi v766 c0_i32_384
  let c256_i32_392 : BitVec 32 := 256#32
  let v774 : BitVec 32 := Scalar.muli v767 c256_i32_392
  v774
def k0_mult7 (i : grid0.Coords) (k0_t1 : Fin (k0_t1_loop i).trips) : BitVec 32 :=
  let c4_i32_381 : BitVec 32 := 4#32
  let c0_i32_107 : BitVec 32 := 0#32
  let c1_i32_110 : BitVec 32 := 1#32
  let arg21 : BitVec 32 := Scf.iv c0_i32_107 c1_i32_110 k0_t1
  let v764 : BitVec 32 := Scalar.muli c4_i32_381 arg21
  let c1_i32_382 : BitVec 32 := 1#32
  let v765 : BitVec 32 := Scalar.addi v764 c1_i32_382
  let c1_i32_407 : BitVec 32 := 1#32
  let v801 : BitVec 32 := Scalar.addi v765 c1_i32_407
  let c256_i32_408 : BitVec 32 := 256#32
  let v802 : BitVec 32 := Scalar.muli v801 c256_i32_408
  v802
def k0_mult8 (i : grid0.Coords) (k0_t1 : Fin (k0_t1_loop i).trips) : BitVec 32 :=
  let c4_i32_381 : BitVec 32 := 4#32
  let c0_i32_107 : BitVec 32 := 0#32
  let c1_i32_110 : BitVec 32 := 1#32
  let arg21 : BitVec 32 := Scf.iv c0_i32_107 c1_i32_110 k0_t1
  let v764 : BitVec 32 := Scalar.muli c4_i32_381 arg21
  let c1_i32_382 : BitVec 32 := 1#32
  let v765 : BitVec 32 := Scalar.addi v764 c1_i32_382
  let c256_i32_444 : BitVec 32 := 256#32
  let v852 : BitVec 32 := Scalar.muli v765 c256_i32_444
  v852
def k0_mult9 (i : grid0.Coords) (k0_t1 : Fin (k0_t1_loop i).trips) : BitVec 32 :=
  let c4_i32_491 : BitVec 32 := 4#32
  let c0_i32_107 : BitVec 32 := 0#32
  let c1_i32_110 : BitVec 32 := 1#32
  let arg21 : BitVec 32 := Scf.iv c0_i32_107 c1_i32_110 k0_t1
  let v1083 : BitVec 32 := Scalar.muli c4_i32_491 arg21
  let c2_i32_492 : BitVec 32 := 2#32
  let v1084 : BitVec 32 := Scalar.addi v1083 c2_i32_492
  let c1_i32_493 : BitVec 32 := 1#32
  let v1085 : BitVec 32 := Scalar.subi v1084 c1_i32_493
  let c0_i32_494 : BitVec 32 := 0#32
  let v1086 : BitVec 32 := Scalar.maxsi v1085 c0_i32_494
  let c256_i32_502 : BitVec 32 := 256#32
  let v1093 : BitVec 32 := Scalar.muli v1086 c256_i32_502
  v1093
def k0_mult10 (i : grid0.Coords) (k0_t1 : Fin (k0_t1_loop i).trips) : BitVec 32 :=
  let c4_i32_491 : BitVec 32 := 4#32
  let c0_i32_107 : BitVec 32 := 0#32
  let c1_i32_110 : BitVec 32 := 1#32
  let arg21 : BitVec 32 := Scf.iv c0_i32_107 c1_i32_110 k0_t1
  let v1083 : BitVec 32 := Scalar.muli c4_i32_491 arg21
  let c2_i32_492 : BitVec 32 := 2#32
  let v1084 : BitVec 32 := Scalar.addi v1083 c2_i32_492
  let c1_i32_517 : BitVec 32 := 1#32
  let v1120 : BitVec 32 := Scalar.addi v1084 c1_i32_517
  let c256_i32_518 : BitVec 32 := 256#32
  let v1121 : BitVec 32 := Scalar.muli v1120 c256_i32_518
  v1121
def k0_mult11 (i : grid0.Coords) (k0_t1 : Fin (k0_t1_loop i).trips) : BitVec 32 :=
  let c4_i32_491 : BitVec 32 := 4#32
  let c0_i32_107 : BitVec 32 := 0#32
  let c1_i32_110 : BitVec 32 := 1#32
  let arg21 : BitVec 32 := Scf.iv c0_i32_107 c1_i32_110 k0_t1
  let v1083 : BitVec 32 := Scalar.muli c4_i32_491 arg21
  let c2_i32_492 : BitVec 32 := 2#32
  let v1084 : BitVec 32 := Scalar.addi v1083 c2_i32_492
  let c256_i32_554 : BitVec 32 := 256#32
  let v1171 : BitVec 32 := Scalar.muli v1084 c256_i32_554
  v1171
def k0_mult12 (i : grid0.Coords) (k0_t1 : Fin (k0_t1_loop i).trips) : BitVec 32 :=
  let c4_i32_601 : BitVec 32 := 4#32
  let c0_i32_107 : BitVec 32 := 0#32
  let c1_i32_110 : BitVec 32 := 1#32
  let arg21 : BitVec 32 := Scf.iv c0_i32_107 c1_i32_110 k0_t1
  let v1402 : BitVec 32 := Scalar.muli c4_i32_601 arg21
  let c3_i32_602 : BitVec 32 := 3#32
  let v1403 : BitVec 32 := Scalar.addi v1402 c3_i32_602
  let c1_i32_603 : BitVec 32 := 1#32
  let v1404 : BitVec 32 := Scalar.subi v1403 c1_i32_603
  let c0_i32_604 : BitVec 32 := 0#32
  let v1405 : BitVec 32 := Scalar.maxsi v1404 c0_i32_604
  let c256_i32_612 : BitVec 32 := 256#32
  let v1412 : BitVec 32 := Scalar.muli v1405 c256_i32_612
  v1412
def k0_mult13 (i : grid0.Coords) (k0_t1 : Fin (k0_t1_loop i).trips) : BitVec 32 :=
  let c4_i32_601 : BitVec 32 := 4#32
  let c0_i32_107 : BitVec 32 := 0#32
  let c1_i32_110 : BitVec 32 := 1#32
  let arg21 : BitVec 32 := Scf.iv c0_i32_107 c1_i32_110 k0_t1
  let v1402 : BitVec 32 := Scalar.muli c4_i32_601 arg21
  let c3_i32_602 : BitVec 32 := 3#32
  let v1403 : BitVec 32 := Scalar.addi v1402 c3_i32_602
  let c1_i32_627 : BitVec 32 := 1#32
  let v1439 : BitVec 32 := Scalar.addi v1403 c1_i32_627
  let c256_i32_628 : BitVec 32 := 256#32
  let v1440 : BitVec 32 := Scalar.muli v1439 c256_i32_628
  v1440
def k0_mult14 (i : grid0.Coords) (k0_t1 : Fin (k0_t1_loop i).trips) : BitVec 32 :=
  let c4_i32_601 : BitVec 32 := 4#32
  let c0_i32_107 : BitVec 32 := 0#32
  let c1_i32_110 : BitVec 32 := 1#32
  let arg21 : BitVec 32 := Scf.iv c0_i32_107 c1_i32_110 k0_t1
  let v1402 : BitVec 32 := Scalar.muli c4_i32_601 arg21
  let c3_i32_602 : BitVec 32 := 3#32
  let v1403 : BitVec 32 := Scalar.addi v1402 c3_i32_602
  let c256_i32_664 : BitVec 32 := 256#32
  let v1490 : BitVec 32 := Scalar.muli v1403 c256_i32_664
  v1490
@[reducible] def k0_t2_loop (i : grid0.Coords) : Scf.Loop 32 :=
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let v197 : BitVec 32 := Scalar.addi c0_i32_107 v196
  let c1_i32_111 : BitVec 32 := 1#32
  ⟨v200, v197, c1_i32_111⟩
def k0_mult15 (i : grid0.Coords) (k0_t2 : Fin (k0_t2_loop i).trips) : BitVec 32 :=
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let c0_i32_272 : BitVec 32 := 0#32
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  v455
def k0_off16 (i : grid0.Coords) (k0_t2 : Fin (k0_t2_loop i).trips) (c0_i32_272 : BitVec 32) : Fin 3 → Nat :=
  let c0_283 : Index := 0#32
  let c0_284 : Index := 0#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  let v456 : BitVec 32 := v455
  let v457 : Index := Scalar.indexCast v456
  ![0, 0, v457.toNat]
def k0_off17 (i : grid0.Coords) (k0_t2 : Fin (k0_t2_loop i).trips) (c0_i32_272 : BitVec 32) : Fin 3 → Nat :=
  let c0_286 : Index := 0#32
  let c128_287 : Index := 128#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  let v456 : BitVec 32 := v455
  let v462 : Index := Scalar.indexCast v456
  ![0, 128, v462.toNat]
def k0_off18 (i : grid0.Coords) (k0_t2 : Fin (k0_t2_loop i).trips) (c0_i32_272 : BitVec 32) : Fin 3 → Nat :=
  let c0_289 : Index := 0#32
  let c256_290 : Index := 256#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  let v456 : BitVec 32 := v455
  let v467 : Index := Scalar.indexCast v456
  ![0, 256, v467.toNat]
def k0_off19 (i : grid0.Coords) (k0_t2 : Fin (k0_t2_loop i).trips) (c0_i32_272 : BitVec 32) : Fin 3 → Nat :=
  let c0_292 : Index := 0#32
  let c384_293 : Index := 384#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  let v456 : BitVec 32 := v455
  let v472 : Index := Scalar.indexCast v456
  ![0, 384, v472.toNat]
def k0_mult16 (i : grid0.Coords) (k0_t2 : Fin (k0_t2_loop i).trips) : BitVec 32 :=
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let c0_i32_272 : BitVec 32 := 0#32
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  v483
def k0_off20 (i : grid0.Coords) (k0_t2 : Fin (k0_t2_loop i).trips) (c0_i32_272 : BitVec 32) : Fin 3 → Nat :=
  let c0_299 : Index := 0#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v485 : Index := Scalar.indexCast v484
  let c0_300 : Index := 0#32
  ![0, v485.toNat, 0]
def k0_off21 (i : grid0.Coords) (k0_t2 : Fin (k0_t2_loop i).trips) (c0_i32_272 : BitVec 32) : Fin 3 → Nat :=
  let c0_305 : Index := 0#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v491 : Index := Scalar.indexCast v484
  let c8_306 : Index := 8#32
  ![0, v491.toNat, 8]
def k0_off22 (i : grid0.Coords) (k0_t2 : Fin (k0_t2_loop i).trips) (c0_i32_272 : BitVec 32) : Fin 3 → Nat :=
  let c0_307 : Index := 0#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v496 : Index := Scalar.indexCast v484
  let c128_308 : Index := 128#32
  ![0, v496.toNat, 128]
def k0_off23 (i : grid0.Coords) (k0_t2 : Fin (k0_t2_loop i).trips) (c0_i32_272 : BitVec 32) : Fin 3 → Nat :=
  let c0_313 : Index := 0#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v502 : Index := Scalar.indexCast v484
  let c9_314 : Index := 9#32
  ![0, v502.toNat, 9]
def k0_off24 (i : grid0.Coords) (k0_t2 : Fin (k0_t2_loop i).trips) (c0_i32_272 : BitVec 32) : Fin 3 → Nat :=
  let c0_315 : Index := 0#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v507 : Index := Scalar.indexCast v484
  let c256_316 : Index := 256#32
  ![0, v507.toNat, 256]
def k0_off25 (i : grid0.Coords) (k0_t2 : Fin (k0_t2_loop i).trips) (c0_i32_272 : BitVec 32) : Fin 3 → Nat :=
  let c0_321 : Index := 0#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v513 : Index := Scalar.indexCast v484
  let c10_322 : Index := 10#32
  ![0, v513.toNat, 10]
def k0_off26 (i : grid0.Coords) (k0_t2 : Fin (k0_t2_loop i).trips) (c0_i32_272 : BitVec 32) : Fin 3 → Nat :=
  let c0_323 : Index := 0#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v518 : Index := Scalar.indexCast v484
  let c384_324 : Index := 384#32
  ![0, v518.toNat, 384]
def k0_off27 (i : grid0.Coords) (k0_t2 : Fin (k0_t2_loop i).trips) (c0_i32_272 : BitVec 32) : Fin 3 → Nat :=
  let c0_329 : Index := 0#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c1_i32_297 : BitVec 32 := 1#32
  let v482 : BitVec 32 := Scalar.addi v446 c1_i32_297
  let c256_i32_298 : BitVec 32 := 256#32
  let v483 : BitVec 32 := Scalar.muli v482 c256_i32_298
  let v484 : BitVec 32 := v483
  let v524 : Index := Scalar.indexCast v484
  let c11_330 : Index := 11#32
  ![0, v524.toNat, 11]
def k0_mult17 (i : grid0.Coords) (k0_t2 : Fin (k0_t2_loop i).trips) : BitVec 32 :=
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let c0_i32_272 : BitVec 32 := 0#32
  let v446 : BitVec 32 := Scalar.addi v445 c0_i32_272
  let c256_i32_334 : BitVec 32 := 256#32
  let v533 : BitVec 32 := Scalar.muli v446 c256_i32_334
  v533
def k0_off28 (i : grid0.Coords) (k0_t2 : Fin (k0_t2_loop i).trips) (c0_i32_272 : BitVec 32) : Fin 3 → Nat :=
  let c0_335 : Index := 0#32
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c256_i32_334 : BitVec 32 := 256#32
  let v533 : BitVec 32 := Scalar.muli v446 c256_i32_334
  let v534 : BitVec 32 := v533
  let v535 : Index := Scalar.indexCast v534
  let c0_336 : Index := 0#32
  ![0, v535.toNat, 0]
def k0_off29 (i : grid0.Coords) (k0_t2 : Fin (k0_t2_loop i).trips) (c0_i32_272 : BitVec 32) : Fin 2 → Nat :=
  let c4_i32_271 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v445 : BitVec 32 := Scalar.muli c4_i32_271 arg21
  let v446 : BitVec 32 := Scalar.addi v445 c0_i32_272
  let c256_i32_334 : BitVec 32 := 256#32
  let v533 : BitVec 32 := Scalar.muli v446 c256_i32_334
  let v534 : BitVec 32 := v533
  let v595 : Index := Scalar.indexCast v534
  let c0_354 : Index := 0#32
  ![v595.toNat, 0]
def k0_mult18 (i : grid0.Coords) (k0_t2 : Fin (k0_t2_loop i).trips) : BitVec 32 :=
  let c4_i32_381 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v764 : BitVec 32 := Scalar.muli c4_i32_381 arg21
  let c1_i32_382 : BitVec 32 := 1#32
  let v765 : BitVec 32 := Scalar.addi v764 c1_i32_382
  let c1_i32_383 : BitVec 32 := 1#32
  let v766 : BitVec 32 := Scalar.subi v765 c1_i32_383
  let c0_i32_384 : BitVec 32 := 0#32
  let v767 : BitVec 32 := Scalar.maxsi v766 c0_i32_384
  let c256_i32_392 : BitVec 32 := 256#32
  let v774 : BitVec 32 := Scalar.muli v767 c256_i32_392
  v774
def k0_mult19 (i : grid0.Coords) (k0_t2 : Fin (k0_t2_loop i).trips) : BitVec 32 :=
  let c4_i32_381 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v764 : BitVec 32 := Scalar.muli c4_i32_381 arg21
  let c1_i32_382 : BitVec 32 := 1#32
  let v765 : BitVec 32 := Scalar.addi v764 c1_i32_382
  let c1_i32_407 : BitVec 32 := 1#32
  let v801 : BitVec 32 := Scalar.addi v765 c1_i32_407
  let c256_i32_408 : BitVec 32 := 256#32
  let v802 : BitVec 32 := Scalar.muli v801 c256_i32_408
  v802
def k0_mult20 (i : grid0.Coords) (k0_t2 : Fin (k0_t2_loop i).trips) : BitVec 32 :=
  let c4_i32_381 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v764 : BitVec 32 := Scalar.muli c4_i32_381 arg21
  let c1_i32_382 : BitVec 32 := 1#32
  let v765 : BitVec 32 := Scalar.addi v764 c1_i32_382
  let c256_i32_444 : BitVec 32 := 256#32
  let v852 : BitVec 32 := Scalar.muli v765 c256_i32_444
  v852
def k0_mult21 (i : grid0.Coords) (k0_t2 : Fin (k0_t2_loop i).trips) : BitVec 32 :=
  let c4_i32_491 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v1083 : BitVec 32 := Scalar.muli c4_i32_491 arg21
  let c2_i32_492 : BitVec 32 := 2#32
  let v1084 : BitVec 32 := Scalar.addi v1083 c2_i32_492
  let c1_i32_493 : BitVec 32 := 1#32
  let v1085 : BitVec 32 := Scalar.subi v1084 c1_i32_493
  let c0_i32_494 : BitVec 32 := 0#32
  let v1086 : BitVec 32 := Scalar.maxsi v1085 c0_i32_494
  let c256_i32_502 : BitVec 32 := 256#32
  let v1093 : BitVec 32 := Scalar.muli v1086 c256_i32_502
  v1093
def k0_mult22 (i : grid0.Coords) (k0_t2 : Fin (k0_t2_loop i).trips) : BitVec 32 :=
  let c4_i32_491 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v1083 : BitVec 32 := Scalar.muli c4_i32_491 arg21
  let c2_i32_492 : BitVec 32 := 2#32
  let v1084 : BitVec 32 := Scalar.addi v1083 c2_i32_492
  let c1_i32_517 : BitVec 32 := 1#32
  let v1120 : BitVec 32 := Scalar.addi v1084 c1_i32_517
  let c256_i32_518 : BitVec 32 := 256#32
  let v1121 : BitVec 32 := Scalar.muli v1120 c256_i32_518
  v1121
def k0_mult23 (i : grid0.Coords) (k0_t2 : Fin (k0_t2_loop i).trips) : BitVec 32 :=
  let c4_i32_491 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v1083 : BitVec 32 := Scalar.muli c4_i32_491 arg21
  let c2_i32_492 : BitVec 32 := 2#32
  let v1084 : BitVec 32 := Scalar.addi v1083 c2_i32_492
  let c256_i32_554 : BitVec 32 := 256#32
  let v1171 : BitVec 32 := Scalar.muli v1084 c256_i32_554
  v1171
def k0_mult24 (i : grid0.Coords) (k0_t2 : Fin (k0_t2_loop i).trips) : BitVec 32 :=
  let c4_i32_601 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v1402 : BitVec 32 := Scalar.muli c4_i32_601 arg21
  let c3_i32_602 : BitVec 32 := 3#32
  let v1403 : BitVec 32 := Scalar.addi v1402 c3_i32_602
  let c1_i32_603 : BitVec 32 := 1#32
  let v1404 : BitVec 32 := Scalar.subi v1403 c1_i32_603
  let c0_i32_604 : BitVec 32 := 0#32
  let v1405 : BitVec 32 := Scalar.maxsi v1404 c0_i32_604
  let c256_i32_612 : BitVec 32 := 256#32
  let v1412 : BitVec 32 := Scalar.muli v1405 c256_i32_612
  v1412
def k0_mult25 (i : grid0.Coords) (k0_t2 : Fin (k0_t2_loop i).trips) : BitVec 32 :=
  let c4_i32_601 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v1402 : BitVec 32 := Scalar.muli c4_i32_601 arg21
  let c3_i32_602 : BitVec 32 := 3#32
  let v1403 : BitVec 32 := Scalar.addi v1402 c3_i32_602
  let c1_i32_627 : BitVec 32 := 1#32
  let v1439 : BitVec 32 := Scalar.addi v1403 c1_i32_627
  let c256_i32_628 : BitVec 32 := 256#32
  let v1440 : BitVec 32 := Scalar.muli v1439 c256_i32_628
  v1440
def k0_mult26 (i : grid0.Coords) (k0_t2 : Fin (k0_t2_loop i).trips) : BitVec 32 :=
  let c4_i32_601 : BitVec 32 := 4#32
  let c0_i32_107 : BitVec 32 := 0#32
  let arg1 : BitVec 32 := BitVec.ofNat 32 (i 1).val
  let c0_i32_101 : BitVec 32 := 0#32
  let v180 : BitVec 1 := Scalar.cmpi .sgt arg1 c0_i32_101
  let v181 : BitVec 32 := Scalar.extui v180
  let c0_i32_102 : BitVec 32 := 0#32
  let v182 : BitVec 1 := Scalar.cmpi .slt arg1 c0_i32_102
  let v183 : BitVec 32 := Scalar.extui v182
  let v184 : BitVec 32 := Scalar.subi v181 v183
  let c4_i32 : BitVec 32 := 4#32
  let c0_i32_103 : BitVec 32 := 0#32
  let v185 : BitVec 1 := Scalar.cmpi .sgt c4_i32 c0_i32_103
  let v186 : BitVec 32 := Scalar.extui v185
  let c0_i32_104 : BitVec 32 := 0#32
  let v187 : BitVec 1 := Scalar.cmpi .slt c4_i32 c0_i32_104
  let v188 : BitVec 32 := Scalar.extui v187
  let v189 : BitVec 32 := Scalar.subi v186 v188
  let v190 : BitVec 1 := Scalar.cmpi .ne v184 v189
  let v191 : BitVec 32 := Scalar.remsi arg1 c4_i32
  let c0_i32_105 : BitVec 32 := 0#32
  let v192 : BitVec 1 := Scalar.cmpi .ne v191 c0_i32_105
  let v193 : BitVec 1 := Scalar.andi v190 v192
  let v179 : BitVec 32 := Scalar.divsi arg1 c4_i32
  let c1_i32_106 : BitVec 32 := 1#32
  let v194 : BitVec 32 := Scalar.subi v179 c1_i32_106
  let v195 : BitVec 32 := Scalar.select v193 v194 v179
  let v196 : BitVec 32 := Scalar.subi v195 c0_i32_107
  let c1_i32_109 : BitVec 32 := 1#32
  let v198 : BitVec 32 := Scalar.divsi v196 c1_i32_109
  let v199 : BitVec 32 := Scalar.muli v198 c1_i32_109
  let v200 : BitVec 32 := Scalar.addi c0_i32_107 v199
  let c1_i32_111 : BitVec 32 := 1#32
  let arg21 : BitVec 32 := Scf.iv v200 c1_i32_111 k0_t2
  let v1402 : BitVec 32 := Scalar.muli c4_i32_601 arg21
  let c3_i32_602 : BitVec 32 := 3#32
  let v1403 : BitVec 32 := Scalar.addi v1402 c3_i32_602
  let c256_i32_664 : BitVec 32 := 256#32
  let v1490 : BitVec 32 := Scalar.muli v1403 c256_i32_664
  v1490
def k0_cond1 (i : grid0.Coords) : BitVec 1 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v221 : BitVec 32 := Scalar.subi arg1 v220
  let c0_i32_120 : BitVec 32 := 0#32
  let v222 : BitVec 1 := Scalar.cmpi .eq v221 c0_i32_120
  let v223 : BitVec 32 := Scalar.extui v222
  let c0_i32_121 : BitVec 32 := 0#32
  let v224 : BitVec 1 := Scalar.cmpi .ne v223 c0_i32_121
  v224

def k0_mult27 (i : grid0.Coords) : BitVec 32 :=
  let arg1 : BitVec 32 := BitVec.ofNat 32 (i 1).val
  let c1_i32_271 : BitVec 32 := 1#32
  let v445 : BitVec 32 := Scalar.subi arg1 c1_i32_271
  let c0_i32_272 : BitVec 32 := 0#32
  let v446 : BitVec 32 := Scalar.maxsi v445 c0_i32_272
  let c256_i32_280 : BitVec 32 := 256#32
  let v453 : BitVec 32 := Scalar.muli v446 c256_i32_280
  v453
def k0_off30 (i : grid0.Coords) : Fin 3 → Nat :=
  let c0_281 : Index := 0#32
  let c0_282 : Index := 0#32
  let arg1 : BitVec 32 := BitVec.ofNat 32 (i 1).val
  let c1_i32_271 : BitVec 32 := 1#32
  let v445 : BitVec 32 := Scalar.subi arg1 c1_i32_271
  let c0_i32_272 : BitVec 32 := 0#32
  let v446 : BitVec 32 := Scalar.maxsi v445 c0_i32_272
  let c256_i32_280 : BitVec 32 := 256#32
  let v453 : BitVec 32 := Scalar.muli v446 c256_i32_280
  let v454 : BitVec 32 := v453
  let v455 : Index := Scalar.indexCast v454
  ![0, 0, v455.toNat]
def k0_off31 (i : grid0.Coords) : Fin 3 → Nat :=
  let c0_284 : Index := 0#32
  let c128_285 : Index := 128#32
  let arg1 : BitVec 32 := BitVec.ofNat 32 (i 1).val
  let c1_i32_271 : BitVec 32 := 1#32
  let v445 : BitVec 32 := Scalar.subi arg1 c1_i32_271
  let c0_i32_272 : BitVec 32 := 0#32
  let v446 : BitVec 32 := Scalar.maxsi v445 c0_i32_272
  let c256_i32_280 : BitVec 32 := 256#32
  let v453 : BitVec 32 := Scalar.muli v446 c256_i32_280
  let v454 : BitVec 32 := v453
  let v460 : Index := Scalar.indexCast v454
  ![0, 128, v460.toNat]
def k0_off32 (i : grid0.Coords) : Fin 3 → Nat :=
  let c0_287 : Index := 0#32
  let c256_288 : Index := 256#32
  let arg1 : BitVec 32 := BitVec.ofNat 32 (i 1).val
  let c1_i32_271 : BitVec 32 := 1#32
  let v445 : BitVec 32 := Scalar.subi arg1 c1_i32_271
  let c0_i32_272 : BitVec 32 := 0#32
  let v446 : BitVec 32 := Scalar.maxsi v445 c0_i32_272
  let c256_i32_280 : BitVec 32 := 256#32
  let v453 : BitVec 32 := Scalar.muli v446 c256_i32_280
  let v454 : BitVec 32 := v453
  let v465 : Index := Scalar.indexCast v454
  ![0, 256, v465.toNat]
def k0_off33 (i : grid0.Coords) : Fin 3 → Nat :=
  let c0_290 : Index := 0#32
  let c384_291 : Index := 384#32
  let arg1 : BitVec 32 := BitVec.ofNat 32 (i 1).val
  let c1_i32_271 : BitVec 32 := 1#32
  let v445 : BitVec 32 := Scalar.subi arg1 c1_i32_271
  let c0_i32_272 : BitVec 32 := 0#32
  let v446 : BitVec 32 := Scalar.maxsi v445 c0_i32_272
  let c256_i32_280 : BitVec 32 := 256#32
  let v453 : BitVec 32 := Scalar.muli v446 c256_i32_280
  let v454 : BitVec 32 := v453
  let v470 : Index := Scalar.indexCast v454
  ![0, 384, v470.toNat]
def k0_mult28 (i : grid0.Coords) : BitVec 32 :=
  let arg1 : BitVec 32 := BitVec.ofNat 32 (i 1).val
  let c256_i32_295 : BitVec 32 := 256#32
  let v480 : BitVec 32 := Scalar.muli arg1 c256_i32_295
  v480
def k0_off34 (i : grid0.Coords) : Fin 3 → Nat :=
  let c0_296 : Index := 0#32
  let arg1 : BitVec 32 := BitVec.ofNat 32 (i 1).val
  let c256_i32_295 : BitVec 32 := 256#32
  let v480 : BitVec 32 := Scalar.muli arg1 c256_i32_295
  let v481 : BitVec 32 := v480
  let v482 : Index := Scalar.indexCast v481
  let c0_297 : Index := 0#32
  ![0, v482.toNat, 0]
def k0_off35 (i : grid0.Coords) : Fin 2 → Nat :=
  let arg1 : BitVec 32 := BitVec.ofNat 32 (i 1).val
  let c256_i32_295 : BitVec 32 := 256#32
  let v480 : BitVec 32 := Scalar.muli arg1 c256_i32_295
  let v481 : BitVec 32 := v480
  let v546 : Index := Scalar.indexCast v481
  let c0_317 : Index := 0#32
  ![v546.toNat, 0]
def k0_mult29 (i : grid0.Coords) : BitVec 32 :=
  let arg1 : BitVec 32 := BitVec.ofNat 32 (i 1).val
  let c256_i32_352 : BitVec 32 := 256#32
  let v723 : BitVec 32 := Scalar.muli arg1 c256_i32_352
  v723
def k0_off36 (i : grid0.Coords) : Fin 3 → Nat :=
  let c0_353 : Index := 0#32
  let c0_354 : Index := 0#32
  let arg1 : BitVec 32 := BitVec.ofNat 32 (i 1).val
  let c256_i32_352 : BitVec 32 := 256#32
  let v723 : BitVec 32 := Scalar.muli arg1 c256_i32_352
  let v724 : BitVec 32 := v723
  let v725 : Index := Scalar.indexCast v724
  ![0, 0, v725.toNat]
def k0_off37 (i : grid0.Coords) : Fin 3 → Nat :=
  let c0_356 : Index := 0#32
  let c128_357 : Index := 128#32
  let arg1 : BitVec 32 := BitVec.ofNat 32 (i 1).val
  let c256_i32_352 : BitVec 32 := 256#32
  let v723 : BitVec 32 := Scalar.muli arg1 c256_i32_352
  let v724 : BitVec 32 := v723
  let v730 : Index := Scalar.indexCast v724
  ![0, 128, v730.toNat]
def k0_off38 (i : grid0.Coords) : Fin 3 → Nat :=
  let c0_359 : Index := 0#32
  let c256_360 : Index := 256#32
  let arg1 : BitVec 32 := BitVec.ofNat 32 (i 1).val
  let c256_i32_352 : BitVec 32 := 256#32
  let v723 : BitVec 32 := Scalar.muli arg1 c256_i32_352
  let v724 : BitVec 32 := v723
  let v735 : Index := Scalar.indexCast v724
  ![0, 256, v735.toNat]
def k0_off39 (i : grid0.Coords) : Fin 3 → Nat :=
  let c0_362 : Index := 0#32
  let c384_363 : Index := 384#32
  let arg1 : BitVec 32 := BitVec.ofNat 32 (i 1).val
  let c256_i32_352 : BitVec 32 := 256#32
  let v723 : BitVec 32 := Scalar.muli arg1 c256_i32_352
  let v724 : BitVec 32 := v723
  let v740 : Index := Scalar.indexCast v724
  ![0, 384, v740.toNat]
def k0_cond2 (i : grid0.Coords) : BitVec 1 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v225 : BitVec 32 := Scalar.subi arg1 v220
  let c1_i32_122 : BitVec 32 := 1#32
  let v226 : BitVec 1 := Scalar.cmpi .eq v225 c1_i32_122
  let v227 : BitVec 32 := Scalar.extui v226
  let c0_i32_123 : BitVec 32 := 0#32
  let v228 : BitVec 1 := Scalar.cmpi .ne v227 c0_i32_123
  v228

def k0_mult30 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  v454
def k0_off40 (i : grid0.Coords) : Fin 3 → Nat :=
  let c0_282 : Index := 0#32
  let c0_283 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v456 : Index := Scalar.indexCast v455
  ![0, 0, v456.toNat]
def k0_off41 (i : grid0.Coords) : Fin 3 → Nat :=
  let c0_285 : Index := 0#32
  let c128_286 : Index := 128#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v461 : Index := Scalar.indexCast v455
  ![0, 128, v461.toNat]
def k0_off42 (i : grid0.Coords) : Fin 3 → Nat :=
  let c0_288 : Index := 0#32
  let c256_289 : Index := 256#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v466 : Index := Scalar.indexCast v455
  ![0, 256, v466.toNat]
def k0_off43 (i : grid0.Coords) : Fin 3 → Nat :=
  let c0_291 : Index := 0#32
  let c384_292 : Index := 384#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v471 : Index := Scalar.indexCast v455
  ![0, 384, v471.toNat]
def k0_mult31 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  v482
def k0_off44 (i : grid0.Coords) : Fin 3 → Nat :=
  let c0_298 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v484 : Index := Scalar.indexCast v483
  let c0_299 : Index := 0#32
  ![0, v484.toNat, 0]
def k0_off45 (i : grid0.Coords) : Fin 3 → Nat :=
  let c0_304 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v490 : Index := Scalar.indexCast v483
  let c8_305 : Index := 8#32
  ![0, v490.toNat, 8]
def k0_off46 (i : grid0.Coords) : Fin 3 → Nat :=
  let c0_306 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v495 : Index := Scalar.indexCast v483
  let c128_307 : Index := 128#32
  ![0, v495.toNat, 128]
def k0_off47 (i : grid0.Coords) : Fin 3 → Nat :=
  let c0_312 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v501 : Index := Scalar.indexCast v483
  let c9_313 : Index := 9#32
  ![0, v501.toNat, 9]
def k0_off48 (i : grid0.Coords) : Fin 3 → Nat :=
  let c0_314 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v506 : Index := Scalar.indexCast v483
  let c256_315 : Index := 256#32
  ![0, v506.toNat, 256]
def k0_off49 (i : grid0.Coords) : Fin 3 → Nat :=
  let c0_320 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v512 : Index := Scalar.indexCast v483
  let c10_321 : Index := 10#32
  ![0, v512.toNat, 10]
def k0_off50 (i : grid0.Coords) : Fin 3 → Nat :=
  let c0_322 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v517 : Index := Scalar.indexCast v483
  let c384_323 : Index := 384#32
  ![0, v517.toNat, 384]
def k0_off51 (i : grid0.Coords) : Fin 3 → Nat :=
  let c0_328 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v523 : Index := Scalar.indexCast v483
  let c11_329 : Index := 11#32
  ![0, v523.toNat, 11]
def k0_mult32 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c256_i32_333 : BitVec 32 := 256#32
  let v532 : BitVec 32 := Scalar.muli v445 c256_i32_333
  v532
def k0_off52 (i : grid0.Coords) : Fin 3 → Nat :=
  let c0_334 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c256_i32_333 : BitVec 32 := 256#32
  let v532 : BitVec 32 := Scalar.muli v445 c256_i32_333
  let v533 : BitVec 32 := v532
  let v534 : Index := Scalar.indexCast v533
  let c0_335 : Index := 0#32
  ![0, v534.toNat, 0]
def k0_off53 (i : grid0.Coords) : Fin 2 → Nat :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c256_i32_333 : BitVec 32 := 256#32
  let v532 : BitVec 32 := Scalar.muli v445 c256_i32_333
  let v533 : BitVec 32 := v532
  let v594 : Index := Scalar.indexCast v533
  let c0_353 : Index := 0#32
  ![v594.toNat, 0]
def k0_mult33 (i : grid0.Coords) : BitVec 32 :=
  let arg1 : BitVec 32 := BitVec.ofNat 32 (i 1).val
  let c1_i32_380 : BitVec 32 := 1#32
  let v763 : BitVec 32 := Scalar.subi arg1 c1_i32_380
  let c0_i32_381 : BitVec 32 := 0#32
  let v764 : BitVec 32 := Scalar.maxsi v763 c0_i32_381
  let c256_i32_389 : BitVec 32 := 256#32
  let v771 : BitVec 32 := Scalar.muli v764 c256_i32_389
  v771
def k0_off54 (i : grid0.Coords) : Fin 3 → Nat :=
  let c0_390 : Index := 0#32
  let c0_391 : Index := 0#32
  let arg1 : BitVec 32 := BitVec.ofNat 32 (i 1).val
  let c1_i32_380 : BitVec 32 := 1#32
  let v763 : BitVec 32 := Scalar.subi arg1 c1_i32_380
  let c0_i32_381 : BitVec 32 := 0#32
  let v764 : BitVec 32 := Scalar.maxsi v763 c0_i32_381
  let c256_i32_389 : BitVec 32 := 256#32
  let v771 : BitVec 32 := Scalar.muli v764 c256_i32_389
  let v772 : BitVec 32 := v771
  let v773 : Index := Scalar.indexCast v772
  ![0, 0, v773.toNat]
def k0_off55 (i : grid0.Coords) : Fin 3 → Nat :=
  let c0_393 : Index := 0#32
  let c128_394 : Index := 128#32
  let arg1 : BitVec 32 := BitVec.ofNat 32 (i 1).val
  let c1_i32_380 : BitVec 32 := 1#32
  let v763 : BitVec 32 := Scalar.subi arg1 c1_i32_380
  let c0_i32_381 : BitVec 32 := 0#32
  let v764 : BitVec 32 := Scalar.maxsi v763 c0_i32_381
  let c256_i32_389 : BitVec 32 := 256#32
  let v771 : BitVec 32 := Scalar.muli v764 c256_i32_389
  let v772 : BitVec 32 := v771
  let v778 : Index := Scalar.indexCast v772
  ![0, 128, v778.toNat]
def k0_off56 (i : grid0.Coords) : Fin 3 → Nat :=
  let c0_396 : Index := 0#32
  let c256_397 : Index := 256#32
  let arg1 : BitVec 32 := BitVec.ofNat 32 (i 1).val
  let c1_i32_380 : BitVec 32 := 1#32
  let v763 : BitVec 32 := Scalar.subi arg1 c1_i32_380
  let c0_i32_381 : BitVec 32 := 0#32
  let v764 : BitVec 32 := Scalar.maxsi v763 c0_i32_381
  let c256_i32_389 : BitVec 32 := 256#32
  let v771 : BitVec 32 := Scalar.muli v764 c256_i32_389
  let v772 : BitVec 32 := v771
  let v783 : Index := Scalar.indexCast v772
  ![0, 256, v783.toNat]
def k0_off57 (i : grid0.Coords) : Fin 3 → Nat :=
  let c0_399 : Index := 0#32
  let c384_400 : Index := 384#32
  let arg1 : BitVec 32 := BitVec.ofNat 32 (i 1).val
  let c1_i32_380 : BitVec 32 := 1#32
  let v763 : BitVec 32 := Scalar.subi arg1 c1_i32_380
  let c0_i32_381 : BitVec 32 := 0#32
  let v764 : BitVec 32 := Scalar.maxsi v763 c0_i32_381
  let c256_i32_389 : BitVec 32 := 256#32
  let v771 : BitVec 32 := Scalar.muli v764 c256_i32_389
  let v772 : BitVec 32 := v771
  let v788 : Index := Scalar.indexCast v772
  ![0, 384, v788.toNat]
def k0_mult34 (i : grid0.Coords) : BitVec 32 :=
  let arg1 : BitVec 32 := BitVec.ofNat 32 (i 1).val
  let c256_i32_404 : BitVec 32 := 256#32
  let v798 : BitVec 32 := Scalar.muli arg1 c256_i32_404
  v798
def k0_off58 (i : grid0.Coords) : Fin 3 → Nat :=
  let c0_405 : Index := 0#32
  let arg1 : BitVec 32 := BitVec.ofNat 32 (i 1).val
  let c256_i32_404 : BitVec 32 := 256#32
  let v798 : BitVec 32 := Scalar.muli arg1 c256_i32_404
  let v799 : BitVec 32 := v798
  let v800 : Index := Scalar.indexCast v799
  let c0_406 : Index := 0#32
  ![0, v800.toNat, 0]
def k0_off59 (i : grid0.Coords) : Fin 2 → Nat :=
  let arg1 : BitVec 32 := BitVec.ofNat 32 (i 1).val
  let c256_i32_404 : BitVec 32 := 256#32
  let v798 : BitVec 32 := Scalar.muli arg1 c256_i32_404
  let v799 : BitVec 32 := v798
  let v864 : Index := Scalar.indexCast v799
  let c0_426 : Index := 0#32
  ![v864.toNat, 0]
def k0_mult35 (i : grid0.Coords) : BitVec 32 :=
  let arg1 : BitVec 32 := BitVec.ofNat 32 (i 1).val
  let c256_i32_461 : BitVec 32 := 256#32
  let v1041 : BitVec 32 := Scalar.muli arg1 c256_i32_461
  v1041
def k0_off60 (i : grid0.Coords) : Fin 3 → Nat :=
  let c0_462 : Index := 0#32
  let c0_463 : Index := 0#32
  let arg1 : BitVec 32 := BitVec.ofNat 32 (i 1).val
  let c256_i32_461 : BitVec 32 := 256#32
  let v1041 : BitVec 32 := Scalar.muli arg1 c256_i32_461
  let v1042 : BitVec 32 := v1041
  let v1043 : Index := Scalar.indexCast v1042
  ![0, 0, v1043.toNat]
def k0_off61 (i : grid0.Coords) : Fin 3 → Nat :=
  let c0_465 : Index := 0#32
  let c128_466 : Index := 128#32
  let arg1 : BitVec 32 := BitVec.ofNat 32 (i 1).val
  let c256_i32_461 : BitVec 32 := 256#32
  let v1041 : BitVec 32 := Scalar.muli arg1 c256_i32_461
  let v1042 : BitVec 32 := v1041
  let v1048 : Index := Scalar.indexCast v1042
  ![0, 128, v1048.toNat]
def k0_off62 (i : grid0.Coords) : Fin 3 → Nat :=
  let c0_468 : Index := 0#32
  let c256_469 : Index := 256#32
  let arg1 : BitVec 32 := BitVec.ofNat 32 (i 1).val
  let c256_i32_461 : BitVec 32 := 256#32
  let v1041 : BitVec 32 := Scalar.muli arg1 c256_i32_461
  let v1042 : BitVec 32 := v1041
  let v1053 : Index := Scalar.indexCast v1042
  ![0, 256, v1053.toNat]
def k0_off63 (i : grid0.Coords) : Fin 3 → Nat :=
  let c0_471 : Index := 0#32
  let c384_472 : Index := 384#32
  let arg1 : BitVec 32 := BitVec.ofNat 32 (i 1).val
  let c256_i32_461 : BitVec 32 := 256#32
  let v1041 : BitVec 32 := Scalar.muli arg1 c256_i32_461
  let v1042 : BitVec 32 := v1041
  let v1058 : Index := Scalar.indexCast v1042
  ![0, 384, v1058.toNat]
def k0_cond3 (i : grid0.Coords) : BitVec 1 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v229 : BitVec 32 := Scalar.subi arg1 v220
  let c2_i32 : BitVec 32 := 2#32
  let v230 : BitVec 1 := Scalar.cmpi .eq v229 c2_i32
  let v231 : BitVec 32 := Scalar.extui v230
  let c0_i32_124 : BitVec 32 := 0#32
  let v232 : BitVec 1 := Scalar.cmpi .ne v231 c0_i32_124
  v232

def k0_mult36 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  v454
def k0_off64 (i : grid0.Coords) (c0_i32_271 : BitVec 32) : Fin 3 → Nat :=
  let c0_282 : Index := 0#32
  let c0_283 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v456 : Index := Scalar.indexCast v455
  ![0, 0, v456.toNat]
def k0_off65 (i : grid0.Coords) (c0_i32_271 : BitVec 32) : Fin 3 → Nat :=
  let c0_285 : Index := 0#32
  let c128_286 : Index := 128#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v461 : Index := Scalar.indexCast v455
  ![0, 128, v461.toNat]
def k0_off66 (i : grid0.Coords) (c0_i32_271 : BitVec 32) : Fin 3 → Nat :=
  let c0_288 : Index := 0#32
  let c256_289 : Index := 256#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v466 : Index := Scalar.indexCast v455
  ![0, 256, v466.toNat]
def k0_off67 (i : grid0.Coords) (c0_i32_271 : BitVec 32) : Fin 3 → Nat :=
  let c0_291 : Index := 0#32
  let c384_292 : Index := 384#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v471 : Index := Scalar.indexCast v455
  ![0, 384, v471.toNat]
def k0_mult37 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  v482
def k0_off68 (i : grid0.Coords) (c0_i32_271 : BitVec 32) : Fin 3 → Nat :=
  let c0_298 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v484 : Index := Scalar.indexCast v483
  let c0_299 : Index := 0#32
  ![0, v484.toNat, 0]
def k0_off69 (i : grid0.Coords) (c0_i32_271 : BitVec 32) : Fin 3 → Nat :=
  let c0_304 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v490 : Index := Scalar.indexCast v483
  let c8_305 : Index := 8#32
  ![0, v490.toNat, 8]
def k0_off70 (i : grid0.Coords) (c0_i32_271 : BitVec 32) : Fin 3 → Nat :=
  let c0_306 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v495 : Index := Scalar.indexCast v483
  let c128_307 : Index := 128#32
  ![0, v495.toNat, 128]
def k0_off71 (i : grid0.Coords) (c0_i32_271 : BitVec 32) : Fin 3 → Nat :=
  let c0_312 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v501 : Index := Scalar.indexCast v483
  let c9_313 : Index := 9#32
  ![0, v501.toNat, 9]
def k0_off72 (i : grid0.Coords) (c0_i32_271 : BitVec 32) : Fin 3 → Nat :=
  let c0_314 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v506 : Index := Scalar.indexCast v483
  let c256_315 : Index := 256#32
  ![0, v506.toNat, 256]
def k0_off73 (i : grid0.Coords) (c0_i32_271 : BitVec 32) : Fin 3 → Nat :=
  let c0_320 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v512 : Index := Scalar.indexCast v483
  let c10_321 : Index := 10#32
  ![0, v512.toNat, 10]
def k0_off74 (i : grid0.Coords) (c0_i32_271 : BitVec 32) : Fin 3 → Nat :=
  let c0_322 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v517 : Index := Scalar.indexCast v483
  let c384_323 : Index := 384#32
  ![0, v517.toNat, 384]
def k0_off75 (i : grid0.Coords) (c0_i32_271 : BitVec 32) : Fin 3 → Nat :=
  let c0_328 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v523 : Index := Scalar.indexCast v483
  let c11_329 : Index := 11#32
  ![0, v523.toNat, 11]
def k0_mult38 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c256_i32_333 : BitVec 32 := 256#32
  let v532 : BitVec 32 := Scalar.muli v445 c256_i32_333
  v532
def k0_off76 (i : grid0.Coords) (c0_i32_271 : BitVec 32) : Fin 3 → Nat :=
  let c0_334 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c256_i32_333 : BitVec 32 := 256#32
  let v532 : BitVec 32 := Scalar.muli v445 c256_i32_333
  let v533 : BitVec 32 := v532
  let v534 : Index := Scalar.indexCast v533
  let c0_335 : Index := 0#32
  ![0, v534.toNat, 0]
def k0_off77 (i : grid0.Coords) (c0_i32_271 : BitVec 32) : Fin 2 → Nat :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c256_i32_333 : BitVec 32 := 256#32
  let v532 : BitVec 32 := Scalar.muli v445 c256_i32_333
  let v533 : BitVec 32 := v532
  let v594 : Index := Scalar.indexCast v533
  let c0_353 : Index := 0#32
  ![v594.toNat, 0]
def k0_mult39 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c1_i32_380 : BitVec 32 := 1#32
  let v763 : BitVec 32 := Scalar.addi v220 c1_i32_380
  let c1_i32_381 : BitVec 32 := 1#32
  let v764 : BitVec 32 := Scalar.subi v763 c1_i32_381
  let c0_i32_382 : BitVec 32 := 0#32
  let v765 : BitVec 32 := Scalar.maxsi v764 c0_i32_382
  let c256_i32_390 : BitVec 32 := 256#32
  let v772 : BitVec 32 := Scalar.muli v765 c256_i32_390
  v772
def k0_mult40 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c1_i32_380 : BitVec 32 := 1#32
  let v763 : BitVec 32 := Scalar.addi v220 c1_i32_380
  let c1_i32_405 : BitVec 32 := 1#32
  let v799 : BitVec 32 := Scalar.addi v763 c1_i32_405
  let c256_i32_406 : BitVec 32 := 256#32
  let v800 : BitVec 32 := Scalar.muli v799 c256_i32_406
  v800
def k0_mult41 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c1_i32_380 : BitVec 32 := 1#32
  let v763 : BitVec 32 := Scalar.addi v220 c1_i32_380
  let c256_i32_442 : BitVec 32 := 256#32
  let v850 : BitVec 32 := Scalar.muli v763 c256_i32_442
  v850
def k0_mult42 (i : grid0.Coords) : BitVec 32 :=
  let arg1 : BitVec 32 := BitVec.ofNat 32 (i 1).val
  let c1_i32_489 : BitVec 32 := 1#32
  let v1081 : BitVec 32 := Scalar.subi arg1 c1_i32_489
  let c0_i32_490 : BitVec 32 := 0#32
  let v1082 : BitVec 32 := Scalar.maxsi v1081 c0_i32_490
  let c256_i32_498 : BitVec 32 := 256#32
  let v1089 : BitVec 32 := Scalar.muli v1082 c256_i32_498
  v1089
def k0_off78 (i : grid0.Coords) : Fin 3 → Nat :=
  let c0_499 : Index := 0#32
  let c0_500 : Index := 0#32
  let arg1 : BitVec 32 := BitVec.ofNat 32 (i 1).val
  let c1_i32_489 : BitVec 32 := 1#32
  let v1081 : BitVec 32 := Scalar.subi arg1 c1_i32_489
  let c0_i32_490 : BitVec 32 := 0#32
  let v1082 : BitVec 32 := Scalar.maxsi v1081 c0_i32_490
  let c256_i32_498 : BitVec 32 := 256#32
  let v1089 : BitVec 32 := Scalar.muli v1082 c256_i32_498
  let v1090 : BitVec 32 := v1089
  let v1091 : Index := Scalar.indexCast v1090
  ![0, 0, v1091.toNat]
def k0_off79 (i : grid0.Coords) : Fin 3 → Nat :=
  let c0_502 : Index := 0#32
  let c128_503 : Index := 128#32
  let arg1 : BitVec 32 := BitVec.ofNat 32 (i 1).val
  let c1_i32_489 : BitVec 32 := 1#32
  let v1081 : BitVec 32 := Scalar.subi arg1 c1_i32_489
  let c0_i32_490 : BitVec 32 := 0#32
  let v1082 : BitVec 32 := Scalar.maxsi v1081 c0_i32_490
  let c256_i32_498 : BitVec 32 := 256#32
  let v1089 : BitVec 32 := Scalar.muli v1082 c256_i32_498
  let v1090 : BitVec 32 := v1089
  let v1096 : Index := Scalar.indexCast v1090
  ![0, 128, v1096.toNat]
def k0_off80 (i : grid0.Coords) : Fin 3 → Nat :=
  let c0_505 : Index := 0#32
  let c256_506 : Index := 256#32
  let arg1 : BitVec 32 := BitVec.ofNat 32 (i 1).val
  let c1_i32_489 : BitVec 32 := 1#32
  let v1081 : BitVec 32 := Scalar.subi arg1 c1_i32_489
  let c0_i32_490 : BitVec 32 := 0#32
  let v1082 : BitVec 32 := Scalar.maxsi v1081 c0_i32_490
  let c256_i32_498 : BitVec 32 := 256#32
  let v1089 : BitVec 32 := Scalar.muli v1082 c256_i32_498
  let v1090 : BitVec 32 := v1089
  let v1101 : Index := Scalar.indexCast v1090
  ![0, 256, v1101.toNat]
def k0_off81 (i : grid0.Coords) : Fin 3 → Nat :=
  let c0_508 : Index := 0#32
  let c384_509 : Index := 384#32
  let arg1 : BitVec 32 := BitVec.ofNat 32 (i 1).val
  let c1_i32_489 : BitVec 32 := 1#32
  let v1081 : BitVec 32 := Scalar.subi arg1 c1_i32_489
  let c0_i32_490 : BitVec 32 := 0#32
  let v1082 : BitVec 32 := Scalar.maxsi v1081 c0_i32_490
  let c256_i32_498 : BitVec 32 := 256#32
  let v1089 : BitVec 32 := Scalar.muli v1082 c256_i32_498
  let v1090 : BitVec 32 := v1089
  let v1106 : Index := Scalar.indexCast v1090
  ![0, 384, v1106.toNat]
def k0_mult43 (i : grid0.Coords) : BitVec 32 :=
  let arg1 : BitVec 32 := BitVec.ofNat 32 (i 1).val
  let c256_i32_513 : BitVec 32 := 256#32
  let v1116 : BitVec 32 := Scalar.muli arg1 c256_i32_513
  v1116
def k0_off82 (i : grid0.Coords) : Fin 3 → Nat :=
  let c0_514 : Index := 0#32
  let arg1 : BitVec 32 := BitVec.ofNat 32 (i 1).val
  let c256_i32_513 : BitVec 32 := 256#32
  let v1116 : BitVec 32 := Scalar.muli arg1 c256_i32_513
  let v1117 : BitVec 32 := v1116
  let v1118 : Index := Scalar.indexCast v1117
  let c0_515 : Index := 0#32
  ![0, v1118.toNat, 0]
def k0_off83 (i : grid0.Coords) : Fin 2 → Nat :=
  let arg1 : BitVec 32 := BitVec.ofNat 32 (i 1).val
  let c256_i32_513 : BitVec 32 := 256#32
  let v1116 : BitVec 32 := Scalar.muli arg1 c256_i32_513
  let v1117 : BitVec 32 := v1116
  let v1182 : Index := Scalar.indexCast v1117
  let c0_535 : Index := 0#32
  ![v1182.toNat, 0]
def k0_mult44 (i : grid0.Coords) : BitVec 32 :=
  let arg1 : BitVec 32 := BitVec.ofNat 32 (i 1).val
  let c256_i32_570 : BitVec 32 := 256#32
  let v1359 : BitVec 32 := Scalar.muli arg1 c256_i32_570
  v1359
def k0_off84 (i : grid0.Coords) : Fin 3 → Nat :=
  let c0_571 : Index := 0#32
  let c0_572 : Index := 0#32
  let arg1 : BitVec 32 := BitVec.ofNat 32 (i 1).val
  let c256_i32_570 : BitVec 32 := 256#32
  let v1359 : BitVec 32 := Scalar.muli arg1 c256_i32_570
  let v1360 : BitVec 32 := v1359
  let v1361 : Index := Scalar.indexCast v1360
  ![0, 0, v1361.toNat]
def k0_off85 (i : grid0.Coords) : Fin 3 → Nat :=
  let c0_574 : Index := 0#32
  let c128_575 : Index := 128#32
  let arg1 : BitVec 32 := BitVec.ofNat 32 (i 1).val
  let c256_i32_570 : BitVec 32 := 256#32
  let v1359 : BitVec 32 := Scalar.muli arg1 c256_i32_570
  let v1360 : BitVec 32 := v1359
  let v1366 : Index := Scalar.indexCast v1360
  ![0, 128, v1366.toNat]
def k0_off86 (i : grid0.Coords) : Fin 3 → Nat :=
  let c0_577 : Index := 0#32
  let c256_578 : Index := 256#32
  let arg1 : BitVec 32 := BitVec.ofNat 32 (i 1).val
  let c256_i32_570 : BitVec 32 := 256#32
  let v1359 : BitVec 32 := Scalar.muli arg1 c256_i32_570
  let v1360 : BitVec 32 := v1359
  let v1371 : Index := Scalar.indexCast v1360
  ![0, 256, v1371.toNat]
def k0_off87 (i : grid0.Coords) : Fin 3 → Nat :=
  let c0_580 : Index := 0#32
  let c384_581 : Index := 384#32
  let arg1 : BitVec 32 := BitVec.ofNat 32 (i 1).val
  let c256_i32_570 : BitVec 32 := 256#32
  let v1359 : BitVec 32 := Scalar.muli arg1 c256_i32_570
  let v1360 : BitVec 32 := v1359
  let v1376 : Index := Scalar.indexCast v1360
  ![0, 384, v1376.toNat]
def k0_cond4 (i : grid0.Coords) : BitVec 1 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v233 : BitVec 32 := Scalar.subi arg1 v220
  let c3_i32 : BitVec 32 := 3#32
  let v234 : BitVec 1 := Scalar.cmpi .eq v233 c3_i32
  let v235 : BitVec 32 := Scalar.extui v234
  let c0_i32_125 : BitVec 32 := 0#32
  let v236 : BitVec 1 := Scalar.cmpi .ne v235 c0_i32_125
  v236

def k0_mult45 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  v454
def k0_off88 (i : grid0.Coords) (c0_i32_271 : BitVec 32) : Fin 3 → Nat :=
  let c0_282 : Index := 0#32
  let c0_283 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v456 : Index := Scalar.indexCast v455
  ![0, 0, v456.toNat]
def k0_off89 (i : grid0.Coords) (c0_i32_271 : BitVec 32) : Fin 3 → Nat :=
  let c0_285 : Index := 0#32
  let c128_286 : Index := 128#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v461 : Index := Scalar.indexCast v455
  ![0, 128, v461.toNat]
def k0_off90 (i : grid0.Coords) (c0_i32_271 : BitVec 32) : Fin 3 → Nat :=
  let c0_288 : Index := 0#32
  let c256_289 : Index := 256#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v466 : Index := Scalar.indexCast v455
  ![0, 256, v466.toNat]
def k0_off91 (i : grid0.Coords) (c0_i32_271 : BitVec 32) : Fin 3 → Nat :=
  let c0_291 : Index := 0#32
  let c384_292 : Index := 384#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v471 : Index := Scalar.indexCast v455
  ![0, 384, v471.toNat]
def k0_mult46 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  v482
def k0_off92 (i : grid0.Coords) (c0_i32_271 : BitVec 32) : Fin 3 → Nat :=
  let c0_298 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v484 : Index := Scalar.indexCast v483
  let c0_299 : Index := 0#32
  ![0, v484.toNat, 0]
def k0_off93 (i : grid0.Coords) (c0_i32_271 : BitVec 32) : Fin 3 → Nat :=
  let c0_304 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v490 : Index := Scalar.indexCast v483
  let c8_305 : Index := 8#32
  ![0, v490.toNat, 8]
def k0_off94 (i : grid0.Coords) (c0_i32_271 : BitVec 32) : Fin 3 → Nat :=
  let c0_306 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v495 : Index := Scalar.indexCast v483
  let c128_307 : Index := 128#32
  ![0, v495.toNat, 128]
def k0_off95 (i : grid0.Coords) (c0_i32_271 : BitVec 32) : Fin 3 → Nat :=
  let c0_312 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v501 : Index := Scalar.indexCast v483
  let c9_313 : Index := 9#32
  ![0, v501.toNat, 9]
def k0_off96 (i : grid0.Coords) (c0_i32_271 : BitVec 32) : Fin 3 → Nat :=
  let c0_314 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v506 : Index := Scalar.indexCast v483
  let c256_315 : Index := 256#32
  ![0, v506.toNat, 256]
def k0_off97 (i : grid0.Coords) (c0_i32_271 : BitVec 32) : Fin 3 → Nat :=
  let c0_320 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v512 : Index := Scalar.indexCast v483
  let c10_321 : Index := 10#32
  ![0, v512.toNat, 10]
def k0_off98 (i : grid0.Coords) (c0_i32_271 : BitVec 32) : Fin 3 → Nat :=
  let c0_322 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v517 : Index := Scalar.indexCast v483
  let c384_323 : Index := 384#32
  ![0, v517.toNat, 384]
def k0_off99 (i : grid0.Coords) (c0_i32_271 : BitVec 32) : Fin 3 → Nat :=
  let c0_328 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c1_i32_296 : BitVec 32 := 1#32
  let v481 : BitVec 32 := Scalar.addi v445 c1_i32_296
  let c256_i32_297 : BitVec 32 := 256#32
  let v482 : BitVec 32 := Scalar.muli v481 c256_i32_297
  let v483 : BitVec 32 := v482
  let v523 : Index := Scalar.indexCast v483
  let c11_329 : Index := 11#32
  ![0, v523.toNat, 11]
def k0_mult47 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c0_i32_271 : BitVec 32 := 0#32
  let v445 : BitVec 32 := Scalar.addi v220 c0_i32_271
  let c256_i32_333 : BitVec 32 := 256#32
  let v532 : BitVec 32 := Scalar.muli v445 c256_i32_333
  v532
def k0_off100 (i : grid0.Coords) (c0_i32_271 : BitVec 32) : Fin 3 → Nat :=
  let c0_334 : Index := 0#32
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c256_i32_333 : BitVec 32 := 256#32
  let v532 : BitVec 32 := Scalar.muli v445 c256_i32_333
  let v533 : BitVec 32 := v532
  let v534 : Index := Scalar.indexCast v533
  let c0_335 : Index := 0#32
  ![0, v534.toNat, 0]
def k0_off101 (i : grid0.Coords) (c0_i32_271 : BitVec 32) : Fin 2 → Nat :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let v445 : BitVec 32 := Scalar.addi v220 c0_i32_271
  let c256_i32_333 : BitVec 32 := 256#32
  let v532 : BitVec 32 := Scalar.muli v445 c256_i32_333
  let v533 : BitVec 32 := v532
  let v594 : Index := Scalar.indexCast v533
  let c0_353 : Index := 0#32
  ![v594.toNat, 0]
def k0_mult48 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c1_i32_380 : BitVec 32 := 1#32
  let v763 : BitVec 32 := Scalar.addi v220 c1_i32_380
  let c1_i32_381 : BitVec 32 := 1#32
  let v764 : BitVec 32 := Scalar.subi v763 c1_i32_381
  let c0_i32_382 : BitVec 32 := 0#32
  let v765 : BitVec 32 := Scalar.maxsi v764 c0_i32_382
  let c256_i32_390 : BitVec 32 := 256#32
  let v772 : BitVec 32 := Scalar.muli v765 c256_i32_390
  v772
def k0_mult49 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c1_i32_380 : BitVec 32 := 1#32
  let v763 : BitVec 32 := Scalar.addi v220 c1_i32_380
  let c1_i32_405 : BitVec 32 := 1#32
  let v799 : BitVec 32 := Scalar.addi v763 c1_i32_405
  let c256_i32_406 : BitVec 32 := 256#32
  let v800 : BitVec 32 := Scalar.muli v799 c256_i32_406
  v800
def k0_mult50 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c1_i32_380 : BitVec 32 := 1#32
  let v763 : BitVec 32 := Scalar.addi v220 c1_i32_380
  let c256_i32_442 : BitVec 32 := 256#32
  let v850 : BitVec 32 := Scalar.muli v763 c256_i32_442
  v850
def k0_mult51 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c2_i32_489 : BitVec 32 := 2#32
  let v1081 : BitVec 32 := Scalar.addi v220 c2_i32_489
  let c1_i32_490 : BitVec 32 := 1#32
  let v1082 : BitVec 32 := Scalar.subi v1081 c1_i32_490
  let c0_i32_491 : BitVec 32 := 0#32
  let v1083 : BitVec 32 := Scalar.maxsi v1082 c0_i32_491
  let c256_i32_499 : BitVec 32 := 256#32
  let v1090 : BitVec 32 := Scalar.muli v1083 c256_i32_499
  v1090
def k0_mult52 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c2_i32_489 : BitVec 32 := 2#32
  let v1081 : BitVec 32 := Scalar.addi v220 c2_i32_489
  let c1_i32_514 : BitVec 32 := 1#32
  let v1117 : BitVec 32 := Scalar.addi v1081 c1_i32_514
  let c256_i32_515 : BitVec 32 := 256#32
  let v1118 : BitVec 32 := Scalar.muli v1117 c256_i32_515
  v1118
def k0_mult53 (i : grid0.Coords) : BitVec 32 :=
  let arg1 : BitVec 32 := BitVec.ofNat 32 (i 1).val
  let c0_i32_113 : BitVec 32 := 0#32
  let v204 : BitVec 1 := Scalar.cmpi .sgt arg1 c0_i32_113
  let v205 : BitVec 32 := Scalar.extui v204
  let c0_i32_114 : BitVec 32 := 0#32
  let v206 : BitVec 1 := Scalar.cmpi .slt arg1 c0_i32_114
  let v207 : BitVec 32 := Scalar.extui v206
  let v208 : BitVec 32 := Scalar.subi v205 v207
  let c4_i32_112 : BitVec 32 := 4#32
  let c0_i32_115 : BitVec 32 := 0#32
  let v209 : BitVec 1 := Scalar.cmpi .sgt c4_i32_112 c0_i32_115
  let v210 : BitVec 32 := Scalar.extui v209
  let c0_i32_116 : BitVec 32 := 0#32
  let v211 : BitVec 1 := Scalar.cmpi .slt c4_i32_112 c0_i32_116
  let v212 : BitVec 32 := Scalar.extui v211
  let v213 : BitVec 32 := Scalar.subi v210 v212
  let v214 : BitVec 1 := Scalar.cmpi .ne v208 v213
  let v215 : BitVec 32 := Scalar.remsi arg1 c4_i32_112
  let c0_i32_117 : BitVec 32 := 0#32
  let v216 : BitVec 1 := Scalar.cmpi .ne v215 c0_i32_117
  let v217 : BitVec 1 := Scalar.andi v214 v216
  let v203 : BitVec 32 := Scalar.divsi arg1 c4_i32_112
  let c1_i32_118 : BitVec 32 := 1#32
  let v218 : BitVec 32 := Scalar.subi v203 c1_i32_118
  let v219 : BitVec 32 := Scalar.select v217 v218 v203
  let c4_i32_119 : BitVec 32 := 4#32
  let v220 : BitVec 32 := Scalar.muli v219 c4_i32_119
  let c2_i32_489 : BitVec 32 := 2#32
  let v1081 : BitVec 32 := Scalar.addi v220 c2_i32_489
  let c256_i32_551 : BitVec 32 := 256#32
  let v1168 : BitVec 32 := Scalar.muli v1081 c256_i32_551
  v1168
def k0_mult54 (i : grid0.Coords) : BitVec 32 :=
  let arg1 : BitVec 32 := BitVec.ofNat 32 (i 1).val
  let c1_i32_598 : BitVec 32 := 1#32
  let v1399 : BitVec 32 := Scalar.subi arg1 c1_i32_598
  let c0_i32_599 : BitVec 32 := 0#32
  let v1400 : BitVec 32 := Scalar.maxsi v1399 c0_i32_599
  let c256_i32_607 : BitVec 32 := 256#32
  let v1407 : BitVec 32 := Scalar.muli v1400 c256_i32_607
  v1407
def k0_off102 (i : grid0.Coords) : Fin 3 → Nat :=
  let c0_608 : Index := 0#32
  let c0_609 : Index := 0#32
  let arg1 : BitVec 32 := BitVec.ofNat 32 (i 1).val
  let c1_i32_598 : BitVec 32 := 1#32
  let v1399 : BitVec 32 := Scalar.subi arg1 c1_i32_598
  let c0_i32_599 : BitVec 32 := 0#32
  let v1400 : BitVec 32 := Scalar.maxsi v1399 c0_i32_599
  let c256_i32_607 : BitVec 32 := 256#32
  let v1407 : BitVec 32 := Scalar.muli v1400 c256_i32_607
  let v1408 : BitVec 32 := v1407
  let v1409 : Index := Scalar.indexCast v1408
  ![0, 0, v1409.toNat]
def k0_off103 (i : grid0.Coords) : Fin 3 → Nat :=
  let c0_611 : Index := 0#32
  let c128_612 : Index := 128#32
  let arg1 : BitVec 32 := BitVec.ofNat 32 (i 1).val
  let c1_i32_598 : BitVec 32 := 1#32
  let v1399 : BitVec 32 := Scalar.subi arg1 c1_i32_598
  let c0_i32_599 : BitVec 32 := 0#32
  let v1400 : BitVec 32 := Scalar.maxsi v1399 c0_i32_599
  let c256_i32_607 : BitVec 32 := 256#32
  let v1407 : BitVec 32 := Scalar.muli v1400 c256_i32_607
  let v1408 : BitVec 32 := v1407
  let v1414 : Index := Scalar.indexCast v1408
  ![0, 128, v1414.toNat]
def k0_off104 (i : grid0.Coords) : Fin 3 → Nat :=
  let c0_614 : Index := 0#32
  let c256_615 : Index := 256#32
  let arg1 : BitVec 32 := BitVec.ofNat 32 (i 1).val
  let c1_i32_598 : BitVec 32 := 1#32
  let v1399 : BitVec 32 := Scalar.subi arg1 c1_i32_598
  let c0_i32_599 : BitVec 32 := 0#32
  let v1400 : BitVec 32 := Scalar.maxsi v1399 c0_i32_599
  let c256_i32_607 : BitVec 32 := 256#32
  let v1407 : BitVec 32 := Scalar.muli v1400 c256_i32_607
  let v1408 : BitVec 32 := v1407
  let v1419 : Index := Scalar.indexCast v1408
  ![0, 256, v1419.toNat]
def k0_off105 (i : grid0.Coords) : Fin 3 → Nat :=
  let c0_617 : Index := 0#32
  let c384_618 : Index := 384#32
  let arg1 : BitVec 32 := BitVec.ofNat 32 (i 1).val
  let c1_i32_598 : BitVec 32 := 1#32
  let v1399 : BitVec 32 := Scalar.subi arg1 c1_i32_598
  let c0_i32_599 : BitVec 32 := 0#32
  let v1400 : BitVec 32 := Scalar.maxsi v1399 c0_i32_599
  let c256_i32_607 : BitVec 32 := 256#32
  let v1407 : BitVec 32 := Scalar.muli v1400 c256_i32_607
  let v1408 : BitVec 32 := v1407
  let v1424 : Index := Scalar.indexCast v1408
  ![0, 384, v1424.toNat]
def k0_mult55 (i : grid0.Coords) : BitVec 32 :=
  let arg1 : BitVec 32 := BitVec.ofNat 32 (i 1).val
  let c256_i32_622 : BitVec 32 := 256#32
  let v1434 : BitVec 32 := Scalar.muli arg1 c256_i32_622
  v1434
def k0_off106 (i : grid0.Coords) : Fin 3 → Nat :=
  let c0_623 : Index := 0#32
  let arg1 : BitVec 32 := BitVec.ofNat 32 (i 1).val
  let c256_i32_622 : BitVec 32 := 256#32
  let v1434 : BitVec 32 := Scalar.muli arg1 c256_i32_622
  let v1435 : BitVec 32 := v1434
  let v1436 : Index := Scalar.indexCast v1435
  let c0_624 : Index := 0#32
  ![0, v1436.toNat, 0]
def k0_off107 (i : grid0.Coords) : Fin 2 → Nat :=
  let arg1 : BitVec 32 := BitVec.ofNat 32 (i 1).val
  let c256_i32_622 : BitVec 32 := 256#32
  let v1434 : BitVec 32 := Scalar.muli arg1 c256_i32_622
  let v1435 : BitVec 32 := v1434
  let v1500 : Index := Scalar.indexCast v1435
  let c0_644 : Index := 0#32
  ![v1500.toNat, 0]
def k0_mult56 (i : grid0.Coords) : BitVec 32 :=
  let arg1 : BitVec 32 := BitVec.ofNat 32 (i 1).val
  let c256_i32_679 : BitVec 32 := 256#32
  let v1677 : BitVec 32 := Scalar.muli arg1 c256_i32_679
  v1677
def k0_off108 (i : grid0.Coords) : Fin 3 → Nat :=
  let c0_680 : Index := 0#32
  let c0_681 : Index := 0#32
  let arg1 : BitVec 32 := BitVec.ofNat 32 (i 1).val
  let c256_i32_679 : BitVec 32 := 256#32
  let v1677 : BitVec 32 := Scalar.muli arg1 c256_i32_679
  let v1678 : BitVec 32 := v1677
  let v1679 : Index := Scalar.indexCast v1678
  ![0, 0, v1679.toNat]
def k0_off109 (i : grid0.Coords) : Fin 3 → Nat :=
  let c0_683 : Index := 0#32
  let c128_684 : Index := 128#32
  let arg1 : BitVec 32 := BitVec.ofNat 32 (i 1).val
  let c256_i32_679 : BitVec 32 := 256#32
  let v1677 : BitVec 32 := Scalar.muli arg1 c256_i32_679
  let v1678 : BitVec 32 := v1677
  let v1684 : Index := Scalar.indexCast v1678
  ![0, 128, v1684.toNat]
def k0_off110 (i : grid0.Coords) : Fin 3 → Nat :=
  let c0_686 : Index := 0#32
  let c256_687 : Index := 256#32
  let arg1 : BitVec 32 := BitVec.ofNat 32 (i 1).val
  let c256_i32_679 : BitVec 32 := 256#32
  let v1677 : BitVec 32 := Scalar.muli arg1 c256_i32_679
  let v1678 : BitVec 32 := v1677
  let v1689 : Index := Scalar.indexCast v1678
  ![0, 256, v1689.toNat]
def k0_off111 (i : grid0.Coords) : Fin 3 → Nat :=
  let c0_689 : Index := 0#32
  let c384_690 : Index := 384#32
  let arg1 : BitVec 32 := BitVec.ofNat 32 (i 1).val
  let c256_i32_679 : BitVec 32 := 256#32
  let v1677 : BitVec 32 := Scalar.muli arg1 c256_i32_679
  let v1678 : BitVec 32 := v1677
  let v1694 : Index := Scalar.indexCast v1678
  ![0, 384, v1694.toNat]
@[reducible] def k0_t3_loop : Scf.Loop 32 :=
  let c0_i32_170 : BitVec 32 := 0#32
  let c18_i32 : BitVec 32 := 18#32
  let v298 : BitVec 32 := Scalar.addi c0_i32_170 c18_i32
  let c1_i32_171 : BitVec 32 := 1#32
  ⟨c0_i32_170, v298, c1_i32_171⟩
@[reducible] def k0_t4_loop (i : grid0.Coords) : Scf.Loop 32 :=
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let c1_i32_292 : BitVec 32 := 1#32
  ⟨c0_i32_290, v518, c1_i32_292⟩
def k0_mult57 (i : grid0.Coords) (k0_t4 : Fin (k0_t4_loop i).trips) : BitVec 32 :=
  let c2_i32_314 : BitVec 32 := 2#32
  let c0_i32_290 : BitVec 32 := 0#32
  let c1_i32_292 : BitVec 32 := 1#32
  let arg30 : BitVec 32 := Scf.iv c0_i32_290 c1_i32_292 k0_t4
  let v571 : BitVec 32 := Scalar.muli c2_i32_314 arg30
  let c256_i32_315 : BitVec 32 := 256#32
  let v572 : BitVec 32 := Scalar.muli v571 c256_i32_315
  v572
def k0_off112 (i : grid0.Coords) (k0_t4 : Fin (k0_t4_loop i).trips) : Fin 2 → Nat :=
  let c2_i32_314 : BitVec 32 := 2#32
  let c0_i32_290 : BitVec 32 := 0#32
  let c1_i32_292 : BitVec 32 := 1#32
  let arg30 : BitVec 32 := Scf.iv c0_i32_290 c1_i32_292 k0_t4
  let v571 : BitVec 32 := Scalar.muli c2_i32_314 arg30
  let c256_i32_315 : BitVec 32 := 256#32
  let v572 : BitVec 32 := Scalar.muli v571 c256_i32_315
  let v573 : BitVec 32 := v572
  let v574 : Index := Scalar.indexCast v573
  let c0_316 : Index := 0#32
  ![v574.toNat, 0]
def k0_mult58 (i : grid0.Coords) (k0_t4 : Fin (k0_t4_loop i).trips) : BitVec 32 :=
  let c2_i32_319 : BitVec 32 := 2#32
  let c0_i32_290 : BitVec 32 := 0#32
  let c1_i32_292 : BitVec 32 := 1#32
  let arg30 : BitVec 32 := Scf.iv c0_i32_290 c1_i32_292 k0_t4
  let v644 : BitVec 32 := Scalar.muli c2_i32_319 arg30
  let c1_i32_320 : BitVec 32 := 1#32
  let v645 : BitVec 32 := Scalar.addi v644 c1_i32_320
  let c256_i32_321 : BitVec 32 := 256#32
  let v646 : BitVec 32 := Scalar.muli v645 c256_i32_321
  v646
def k0_off113 (i : grid0.Coords) (k0_t4 : Fin (k0_t4_loop i).trips) : Fin 2 → Nat :=
  let c2_i32_319 : BitVec 32 := 2#32
  let c0_i32_290 : BitVec 32 := 0#32
  let c1_i32_292 : BitVec 32 := 1#32
  let arg30 : BitVec 32 := Scf.iv c0_i32_290 c1_i32_292 k0_t4
  let v644 : BitVec 32 := Scalar.muli c2_i32_319 arg30
  let c1_i32_320 : BitVec 32 := 1#32
  let v645 : BitVec 32 := Scalar.addi v644 c1_i32_320
  let c256_i32_321 : BitVec 32 := 256#32
  let v646 : BitVec 32 := Scalar.muli v645 c256_i32_321
  let v647 : BitVec 32 := v646
  let v648 : Index := Scalar.indexCast v647
  let c0_322 : Index := 0#32
  ![v648.toNat, 0]
@[reducible] def k0_t5_loop (i : grid0.Coords) : Scf.Loop 32 :=
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let v515 : BitVec 32 := Scalar.addi c0_i32_290 v514
  let c1_i32_293 : BitVec 32 := 1#32
  ⟨v518, v515, c1_i32_293⟩
def k0_mult59 (i : grid0.Coords) (k0_t5 : Fin (k0_t5_loop i).trips) : BitVec 32 :=
  let c2_i32_314 : BitVec 32 := 2#32
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let c1_i32_293 : BitVec 32 := 1#32
  let arg30 : BitVec 32 := Scf.iv v518 c1_i32_293 k0_t5
  let v571 : BitVec 32 := Scalar.muli c2_i32_314 arg30
  let c256_i32_315 : BitVec 32 := 256#32
  let v572 : BitVec 32 := Scalar.muli v571 c256_i32_315
  v572
def k0_off114 (i : grid0.Coords) (k0_t5 : Fin (k0_t5_loop i).trips) : Fin 2 → Nat :=
  let c2_i32_314 : BitVec 32 := 2#32
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let c1_i32_293 : BitVec 32 := 1#32
  let arg30 : BitVec 32 := Scf.iv v518 c1_i32_293 k0_t5
  let v571 : BitVec 32 := Scalar.muli c2_i32_314 arg30
  let c256_i32_315 : BitVec 32 := 256#32
  let v572 : BitVec 32 := Scalar.muli v571 c256_i32_315
  let v573 : BitVec 32 := v572
  let v574 : Index := Scalar.indexCast v573
  let c0_316 : Index := 0#32
  ![v574.toNat, 0]
def k0_mult60 (i : grid0.Coords) (k0_t5 : Fin (k0_t5_loop i).trips) : BitVec 32 :=
  let c2_i32_319 : BitVec 32 := 2#32
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let c1_i32_293 : BitVec 32 := 1#32
  let arg30 : BitVec 32 := Scf.iv v518 c1_i32_293 k0_t5
  let v644 : BitVec 32 := Scalar.muli c2_i32_319 arg30
  let c1_i32_320 : BitVec 32 := 1#32
  let v645 : BitVec 32 := Scalar.addi v644 c1_i32_320
  let c256_i32_321 : BitVec 32 := 256#32
  let v646 : BitVec 32 := Scalar.muli v645 c256_i32_321
  v646
def k0_off115 (i : grid0.Coords) (k0_t5 : Fin (k0_t5_loop i).trips) : Fin 2 → Nat :=
  let c2_i32_319 : BitVec 32 := 2#32
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let c1_i32_293 : BitVec 32 := 1#32
  let arg30 : BitVec 32 := Scf.iv v518 c1_i32_293 k0_t5
  let v644 : BitVec 32 := Scalar.muli c2_i32_319 arg30
  let c1_i32_320 : BitVec 32 := 1#32
  let v645 : BitVec 32 := Scalar.addi v644 c1_i32_320
  let c256_i32_321 : BitVec 32 := 256#32
  let v646 : BitVec 32 := Scalar.muli v645 c256_i32_321
  let v647 : BitVec 32 := v646
  let v648 : Index := Scalar.indexCast v647
  let c0_322 : Index := 0#32
  ![v648.toNat, 0]
def k0_cond5 (i : grid0.Coords) : BitVec 1 :=
  let arg1 : BitVec 32 := BitVec.ofNat 32 (i 1).val
  let c1_i32 : BitVec 32 := 1#32
  let v0 : BitVec 32 := Scalar.addi arg1 c1_i32
  let c2_i32_294 : BitVec 32 := 2#32
  let c0_i32_295 : BitVec 32 := 0#32
  let v521 : BitVec 1 := Scalar.cmpi .eq c2_i32_294 c0_i32_295
  let c1_i32_296 : BitVec 32 := 1#32
  let v522 : BitVec 32 := Scalar.select v521 c1_i32_296 c2_i32_294
  let v523 : BitVec 32 := Scalar.remsi v0 v522
  let c0_i32_298 : BitVec 32 := 0#32
  let v525 : BitVec 1 := Scalar.cmpi .slt v523 c0_i32_298
  let c0_i32_299 : BitVec 32 := 0#32
  let v526 : BitVec 1 := Scalar.cmpi .slt v522 c0_i32_299
  let v527 : BitVec 1 := Scalar.xori v525 v526
  let c0_i32_297 : BitVec 32 := 0#32
  let v524 : BitVec 1 := Scalar.cmpi .ne v523 c0_i32_297
  let v528 : BitVec 1 := Scalar.andi v527 v524
  let v529 : BitVec 32 := Scalar.addi v523 v522
  let v530 : BitVec 32 := Scalar.select v528 v529 v523
  let c1_i32_300 : BitVec 32 := 1#32
  let v531 : BitVec 1 := Scalar.cmpi .eq v530 c1_i32_300
  let v532 : BitVec 32 := Scalar.extui v531
  let c0_i32_301 : BitVec 32 := 0#32
  let v533 : BitVec 1 := Scalar.cmpi .ne v532 c0_i32_301
  v533

def k0_mult61 (i : grid0.Coords) : BitVec 32 :=
  let arg1 : BitVec 32 := BitVec.ofNat 32 (i 1).val
  let c1_i32 : BitVec 32 := 1#32
  let v0 : BitVec 32 := Scalar.addi arg1 c1_i32
  let c1_i32_314 : BitVec 32 := 1#32
  let v571 : BitVec 32 := Scalar.subi v0 c1_i32_314
  let c256_i32_315 : BitVec 32 := 256#32
  let v572 : BitVec 32 := Scalar.muli v571 c256_i32_315
  v572
def k0_off116 (i : grid0.Coords) : Fin 2 → Nat :=
  let arg1 : BitVec 32 := BitVec.ofNat 32 (i 1).val
  let c1_i32 : BitVec 32 := 1#32
  let v0 : BitVec 32 := Scalar.addi arg1 c1_i32
  let c1_i32_314 : BitVec 32 := 1#32
  let v571 : BitVec 32 := Scalar.subi v0 c1_i32_314
  let c256_i32_315 : BitVec 32 := 256#32
  let v572 : BitVec 32 := Scalar.muli v571 c256_i32_315
  let v573 : BitVec 32 := v572
  let v574 : Index := Scalar.indexCast v573
  let c0_316 : Index := 0#32
  ![v574.toNat, 0]
@[reducible] def k0_t6_loop (i : grid0.Coords) : Scf.Loop 32 :=
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let c1_i32_292 : BitVec 32 := 1#32
  ⟨c0_i32_290, v518, c1_i32_292⟩
def k0_mult62 (i : grid0.Coords) (k0_t6 : Fin (k0_t6_loop i).trips) : BitVec 32 :=
  let c2_i32_314 : BitVec 32 := 2#32
  let c0_i32_290 : BitVec 32 := 0#32
  let c1_i32_292 : BitVec 32 := 1#32
  let arg29 : BitVec 32 := Scf.iv c0_i32_290 c1_i32_292 k0_t6
  let v571 : BitVec 32 := Scalar.muli c2_i32_314 arg29
  let c256_i32_315 : BitVec 32 := 256#32
  let v572 : BitVec 32 := Scalar.muli v571 c256_i32_315
  v572
def k0_off117 (i : grid0.Coords) (k0_t6 : Fin (k0_t6_loop i).trips) : Fin 2 → Nat :=
  let c2_i32_314 : BitVec 32 := 2#32
  let c0_i32_290 : BitVec 32 := 0#32
  let c1_i32_292 : BitVec 32 := 1#32
  let arg29 : BitVec 32 := Scf.iv c0_i32_290 c1_i32_292 k0_t6
  let v571 : BitVec 32 := Scalar.muli c2_i32_314 arg29
  let c256_i32_315 : BitVec 32 := 256#32
  let v572 : BitVec 32 := Scalar.muli v571 c256_i32_315
  let v573 : BitVec 32 := v572
  let v574 : Index := Scalar.indexCast v573
  let c0_316 : Index := 0#32
  ![v574.toNat, 0]
def k0_mult63 (i : grid0.Coords) (k0_t6 : Fin (k0_t6_loop i).trips) : BitVec 32 :=
  let c2_i32_319 : BitVec 32 := 2#32
  let c0_i32_290 : BitVec 32 := 0#32
  let c1_i32_292 : BitVec 32 := 1#32
  let arg29 : BitVec 32 := Scf.iv c0_i32_290 c1_i32_292 k0_t6
  let v644 : BitVec 32 := Scalar.muli c2_i32_319 arg29
  let c1_i32_320 : BitVec 32 := 1#32
  let v645 : BitVec 32 := Scalar.addi v644 c1_i32_320
  let c256_i32_321 : BitVec 32 := 256#32
  let v646 : BitVec 32 := Scalar.muli v645 c256_i32_321
  v646
def k0_off118 (i : grid0.Coords) (k0_t6 : Fin (k0_t6_loop i).trips) : Fin 2 → Nat :=
  let c2_i32_319 : BitVec 32 := 2#32
  let c0_i32_290 : BitVec 32 := 0#32
  let c1_i32_292 : BitVec 32 := 1#32
  let arg29 : BitVec 32 := Scf.iv c0_i32_290 c1_i32_292 k0_t6
  let v644 : BitVec 32 := Scalar.muli c2_i32_319 arg29
  let c1_i32_320 : BitVec 32 := 1#32
  let v645 : BitVec 32 := Scalar.addi v644 c1_i32_320
  let c256_i32_321 : BitVec 32 := 256#32
  let v646 : BitVec 32 := Scalar.muli v645 c256_i32_321
  let v647 : BitVec 32 := v646
  let v648 : Index := Scalar.indexCast v647
  let c0_322 : Index := 0#32
  ![v648.toNat, 0]
@[reducible] def k0_t7_loop (i : grid0.Coords) : Scf.Loop 32 :=
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let v515 : BitVec 32 := Scalar.addi c0_i32_290 v514
  let c1_i32_293 : BitVec 32 := 1#32
  ⟨v518, v515, c1_i32_293⟩
def k0_mult64 (i : grid0.Coords) (k0_t7 : Fin (k0_t7_loop i).trips) : BitVec 32 :=
  let c2_i32_314 : BitVec 32 := 2#32
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let c1_i32_293 : BitVec 32 := 1#32
  let arg29 : BitVec 32 := Scf.iv v518 c1_i32_293 k0_t7
  let v571 : BitVec 32 := Scalar.muli c2_i32_314 arg29
  let c256_i32_315 : BitVec 32 := 256#32
  let v572 : BitVec 32 := Scalar.muli v571 c256_i32_315
  v572
def k0_off119 (i : grid0.Coords) (k0_t7 : Fin (k0_t7_loop i).trips) : Fin 2 → Nat :=
  let c2_i32_314 : BitVec 32 := 2#32
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let c1_i32_293 : BitVec 32 := 1#32
  let arg29 : BitVec 32 := Scf.iv v518 c1_i32_293 k0_t7
  let v571 : BitVec 32 := Scalar.muli c2_i32_314 arg29
  let c256_i32_315 : BitVec 32 := 256#32
  let v572 : BitVec 32 := Scalar.muli v571 c256_i32_315
  let v573 : BitVec 32 := v572
  let v574 : Index := Scalar.indexCast v573
  let c0_316 : Index := 0#32
  ![v574.toNat, 0]
def k0_mult65 (i : grid0.Coords) (k0_t7 : Fin (k0_t7_loop i).trips) : BitVec 32 :=
  let c2_i32_319 : BitVec 32 := 2#32
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let c1_i32_293 : BitVec 32 := 1#32
  let arg29 : BitVec 32 := Scf.iv v518 c1_i32_293 k0_t7
  let v644 : BitVec 32 := Scalar.muli c2_i32_319 arg29
  let c1_i32_320 : BitVec 32 := 1#32
  let v645 : BitVec 32 := Scalar.addi v644 c1_i32_320
  let c256_i32_321 : BitVec 32 := 256#32
  let v646 : BitVec 32 := Scalar.muli v645 c256_i32_321
  v646
def k0_off120 (i : grid0.Coords) (k0_t7 : Fin (k0_t7_loop i).trips) : Fin 2 → Nat :=
  let c2_i32_319 : BitVec 32 := 2#32
  let c0_i32_290 : BitVec 32 := 0#32
  let arg1 : BitVec 32 := BitVec.ofNat 32 (i 1).val
  let c1_i32 : BitVec 32 := 1#32
  let v0 : BitVec 32 := Scalar.addi arg1 c1_i32
  let c0_i32_284 : BitVec 32 := 0#32
  let v498 : BitVec 1 := Scalar.cmpi .sgt v0 c0_i32_284
  let v499 : BitVec 32 := Scalar.extui v498
  let c0_i32_285 : BitVec 32 := 0#32
  let v500 : BitVec 1 := Scalar.cmpi .slt v0 c0_i32_285
  let v501 : BitVec 32 := Scalar.extui v500
  let v502 : BitVec 32 := Scalar.subi v499 v501
  let c2_i32_283 : BitVec 32 := 2#32
  let c0_i32_286 : BitVec 32 := 0#32
  let v503 : BitVec 1 := Scalar.cmpi .sgt c2_i32_283 c0_i32_286
  let v504 : BitVec 32 := Scalar.extui v503
  let c0_i32_287 : BitVec 32 := 0#32
  let v505 : BitVec 1 := Scalar.cmpi .slt c2_i32_283 c0_i32_287
  let v506 : BitVec 32 := Scalar.extui v505
  let v507 : BitVec 32 := Scalar.subi v504 v506
  let v508 : BitVec 1 := Scalar.cmpi .ne v502 v507
  let v509 : BitVec 32 := Scalar.remsi v0 c2_i32_283
  let c0_i32_288 : BitVec 32 := 0#32
  let v510 : BitVec 1 := Scalar.cmpi .ne v509 c0_i32_288
  let v511 : BitVec 1 := Scalar.andi v508 v510
  let v497 : BitVec 32 := Scalar.divsi v0 c2_i32_283
  let c1_i32_289 : BitVec 32 := 1#32
  let v512 : BitVec 32 := Scalar.subi v497 c1_i32_289
  let v513 : BitVec 32 := Scalar.select v511 v512 v497
  let v514 : BitVec 32 := Scalar.subi v513 c0_i32_290
  let c1_i32_291 : BitVec 32 := 1#32
  let v516 : BitVec 32 := Scalar.divsi v514 c1_i32_291
  let v517 : BitVec 32 := Scalar.muli v516 c1_i32_291
  let v518 : BitVec 32 := Scalar.addi c0_i32_290 v517
  let c1_i32_293 : BitVec 32 := 1#32
  let arg29 : BitVec 32 := Scf.iv v518 c1_i32_293 k0_t7
  let v644 : BitVec 32 := Scalar.muli c2_i32_319 arg29
  let c1_i32_320 : BitVec 32 := 1#32
  let v645 : BitVec 32 := Scalar.addi v644 c1_i32_320
  let c256_i32_321 : BitVec 32 := 256#32
  let v646 : BitVec 32 := Scalar.muli v645 c256_i32_321
  let v647 : BitVec 32 := v646
  let v648 : Index := Scalar.indexCast v647
  let c0_322 : Index := 0#32
  ![v648.toNat, 0]
def k0_cond6 (i : grid0.Coords) : BitVec 1 :=
  let arg1 : BitVec 32 := BitVec.ofNat 32 (i 1).val
  let c1_i32 : BitVec 32 := 1#32
  let v0 : BitVec 32 := Scalar.addi arg1 c1_i32
  let c2_i32_294 : BitVec 32 := 2#32
  let c0_i32_295 : BitVec 32 := 0#32
  let v521 : BitVec 1 := Scalar.cmpi .eq c2_i32_294 c0_i32_295
  let c1_i32_296 : BitVec 32 := 1#32
  let v522 : BitVec 32 := Scalar.select v521 c1_i32_296 c2_i32_294
  let v523 : BitVec 32 := Scalar.remsi v0 v522
  let c0_i32_298 : BitVec 32 := 0#32
  let v525 : BitVec 1 := Scalar.cmpi .slt v523 c0_i32_298
  let c0_i32_299 : BitVec 32 := 0#32
  let v526 : BitVec 1 := Scalar.cmpi .slt v522 c0_i32_299
  let v527 : BitVec 1 := Scalar.xori v525 v526
  let c0_i32_297 : BitVec 32 := 0#32
  let v524 : BitVec 1 := Scalar.cmpi .ne v523 c0_i32_297
  let v528 : BitVec 1 := Scalar.andi v527 v524
  let v529 : BitVec 32 := Scalar.addi v523 v522
  let v530 : BitVec 32 := Scalar.select v528 v529 v523
  let c1_i32_300 : BitVec 32 := 1#32
  let v531 : BitVec 1 := Scalar.cmpi .eq v530 c1_i32_300
  let v532 : BitVec 32 := Scalar.extui v531
  let c0_i32_301 : BitVec 32 := 0#32
  let v533 : BitVec 1 := Scalar.cmpi .ne v532 c0_i32_301
  v533

def k0_mult66 (i : grid0.Coords) : BitVec 32 :=
  let arg1 : BitVec 32 := BitVec.ofNat 32 (i 1).val
  let c1_i32 : BitVec 32 := 1#32
  let v0 : BitVec 32 := Scalar.addi arg1 c1_i32
  let c1_i32_314 : BitVec 32 := 1#32
  let v571 : BitVec 32 := Scalar.subi v0 c1_i32_314
  let c256_i32_315 : BitVec 32 := 256#32
  let v572 : BitVec 32 := Scalar.muli v571 c256_i32_315
  v572
def k0_off121 (i : grid0.Coords) : Fin 2 → Nat :=
  let arg1 : BitVec 32 := BitVec.ofNat 32 (i 1).val
  let c1_i32 : BitVec 32 := 1#32
  let v0 : BitVec 32 := Scalar.addi arg1 c1_i32
  let c1_i32_314 : BitVec 32 := 1#32
  let v571 : BitVec 32 := Scalar.subi v0 c1_i32_314
  let c256_i32_315 : BitVec 32 := 256#32
  let v572 : BitVec 32 := Scalar.muli v571 c256_i32_315
  let v573 : BitVec 32 := v572
  let v574 : Index := Scalar.indexCast v573
  let c0_316 : Index := 0#32
  ![v574.toNat, 0]
@[reducible] def k0_t8_loop : Scf.Loop 32 :=
  let c0_i32_272 : BitVec 32 := 0#32
  let c13_i32 : BitVec 32 := 13#32
  let v446 : BitVec 32 := Scalar.addi c0_i32_272 c13_i32
  let c1_i32_273 : BitVec 32 := 1#32
  ⟨c0_i32_272, v446, c1_i32_273⟩
@[reducible] def k0_t9_loop (i : grid0.Coords) : Scf.Loop 32 :=
  let c0_i32_289 : BitVec 32 := 0#32
  let arg1 : BitVec 32 := BitVec.ofNat 32 (i 1).val
  let c1_i32 : BitVec 32 := 1#32
  let v0 : BitVec 32 := Scalar.addi arg1 c1_i32
  let c0_i32_283 : BitVec 32 := 0#32
  let v469 : BitVec 1 := Scalar.cmpi .sgt v0 c0_i32_283
  let v470 : BitVec 32 := Scalar.extui v469
  let c0_i32_284 : BitVec 32 := 0#32
  let v471 : BitVec 1 := Scalar.cmpi .slt v0 c0_i32_284
  let v472 : BitVec 32 := Scalar.extui v471
  let v473 : BitVec 32 := Scalar.subi v470 v472
  let c2_i32_282 : BitVec 32 := 2#32
  let c0_i32_285 : BitVec 32 := 0#32
  let v474 : BitVec 1 := Scalar.cmpi .sgt c2_i32_282 c0_i32_285
  let v475 : BitVec 32 := Scalar.extui v474
  let c0_i32_286 : BitVec 32 := 0#32
  let v476 : BitVec 1 := Scalar.cmpi .slt c2_i32_282 c0_i32_286
  let v477 : BitVec 32 := Scalar.extui v476
  let v478 : BitVec 32 := Scalar.subi v475 v477
  let v479 : BitVec 1 := Scalar.cmpi .ne v473 v478
  let v480 : BitVec 32 := Scalar.remsi v0 c2_i32_282
  let c0_i32_287 : BitVec 32 := 0#32
  let v481 : BitVec 1 := Scalar.cmpi .ne v480 c0_i32_287
  let v482 : BitVec 1 := Scalar.andi v479 v481
  let v468 : BitVec 32 := Scalar.divsi v0 c2_i32_282
  let c1_i32_288 : BitVec 32 := 1#32
  let v483 : BitVec 32 := Scalar.subi v468 c1_i32_288
  let v484 : BitVec 32 := Scalar.select v482 v483 v468
  let v485 : BitVec 32 := Scalar.subi v484 c0_i32_289
  let c1_i32_290 : BitVec 32 := 1#32
  let v487 : BitVec 32 := Scalar.divsi v485 c1_i32_290
  let v488 : BitVec 32 := Scalar.muli v487 c1_i32_290
  let v489 : BitVec 32 := Scalar.addi c0_i32_289 v488
  let c1_i32_291 : BitVec 32 := 1#32
  ⟨c0_i32_289, v489, c1_i32_291⟩
def k0_mult67 (i : grid0.Coords) (k0_t9 : Fin (k0_t9_loop i).trips) : BitVec 32 :=
  let c2_i32_302 : BitVec 32 := 2#32
  let c0_i32_289 : BitVec 32 := 0#32
  let c1_i32_291 : BitVec 32 := 1#32
  let arg23 : BitVec 32 := Scf.iv c0_i32_289 c1_i32_291 k0_t9
  let v511 : BitVec 32 := Scalar.muli c2_i32_302 arg23
  let c256_i32_303 : BitVec 32 := 256#32
  let v512 : BitVec 32 := Scalar.muli v511 c256_i32_303
  v512
def k0_off122 (i : grid0.Coords) (k0_t9 : Fin (k0_t9_loop i).trips) : Fin 2 → Nat :=
  let c2_i32_302 : BitVec 32 := 2#32
  let c0_i32_289 : BitVec 32 := 0#32
  let c1_i32_291 : BitVec 32 := 1#32
  let arg23 : BitVec 32 := Scf.iv c0_i32_289 c1_i32_291 k0_t9
  let v511 : BitVec 32 := Scalar.muli c2_i32_302 arg23
  let c256_i32_303 : BitVec 32 := 256#32
  let v512 : BitVec 32 := Scalar.muli v511 c256_i32_303
  let v513 : BitVec 32 := v512
  let v514 : Index := Scalar.indexCast v513
  let c0_304 : Index := 0#32
  ![v514.toNat, 0]
def k0_mult68 (i : grid0.Coords) (k0_t9 : Fin (k0_t9_loop i).trips) : BitVec 32 :=
  let c2_i32_307 : BitVec 32 := 2#32
  let c0_i32_289 : BitVec 32 := 0#32
  let c1_i32_291 : BitVec 32 := 1#32
  let arg23 : BitVec 32 := Scf.iv c0_i32_289 c1_i32_291 k0_t9
  let v588 : BitVec 32 := Scalar.muli c2_i32_307 arg23
  let c1_i32_308 : BitVec 32 := 1#32
  let v589 : BitVec 32 := Scalar.addi v588 c1_i32_308
  let c256_i32_309 : BitVec 32 := 256#32
  let v590 : BitVec 32 := Scalar.muli v589 c256_i32_309
  v590
def k0_off123 (i : grid0.Coords) (k0_t9 : Fin (k0_t9_loop i).trips) : Fin 2 → Nat :=
  let c2_i32_307 : BitVec 32 := 2#32
  let c0_i32_289 : BitVec 32 := 0#32
  let c1_i32_291 : BitVec 32 := 1#32
  let arg23 : BitVec 32 := Scf.iv c0_i32_289 c1_i32_291 k0_t9
  let v588 : BitVec 32 := Scalar.muli c2_i32_307 arg23
  let c1_i32_308 : BitVec 32 := 1#32
  let v589 : BitVec 32 := Scalar.addi v588 c1_i32_308
  let c256_i32_309 : BitVec 32 := 256#32
  let v590 : BitVec 32 := Scalar.muli v589 c256_i32_309
  let v591 : BitVec 32 := v590
  let v592 : Index := Scalar.indexCast v591
  let c0_310 : Index := 0#32
  ![v592.toNat, 0]
@[reducible] def k0_t10_loop (i : grid0.Coords) : Scf.Loop 32 :=
  let c0_i32_289 : BitVec 32 := 0#32
  let arg1 : BitVec 32 := BitVec.ofNat 32 (i 1).val
  let c1_i32 : BitVec 32 := 1#32
  let v0 : BitVec 32 := Scalar.addi arg1 c1_i32
  let c0_i32_283 : BitVec 32 := 0#32
  let v469 : BitVec 1 := Scalar.cmpi .sgt v0 c0_i32_283
  let v470 : BitVec 32 := Scalar.extui v469
  let c0_i32_284 : BitVec 32 := 0#32
  let v471 : BitVec 1 := Scalar.cmpi .slt v0 c0_i32_284
  let v472 : BitVec 32 := Scalar.extui v471
  let v473 : BitVec 32 := Scalar.subi v470 v472
  let c2_i32_282 : BitVec 32 := 2#32
  let c0_i32_285 : BitVec 32 := 0#32
  let v474 : BitVec 1 := Scalar.cmpi .sgt c2_i32_282 c0_i32_285
  let v475 : BitVec 32 := Scalar.extui v474
  let c0_i32_286 : BitVec 32 := 0#32
  let v476 : BitVec 1 := Scalar.cmpi .slt c2_i32_282 c0_i32_286
  let v477 : BitVec 32 := Scalar.extui v476
  let v478 : BitVec 32 := Scalar.subi v475 v477
  let v479 : BitVec 1 := Scalar.cmpi .ne v473 v478
  let v480 : BitVec 32 := Scalar.remsi v0 c2_i32_282
  let c0_i32_287 : BitVec 32 := 0#32
  let v481 : BitVec 1 := Scalar.cmpi .ne v480 c0_i32_287
  let v482 : BitVec 1 := Scalar.andi v479 v481
  let v468 : BitVec 32 := Scalar.divsi v0 c2_i32_282
  let c1_i32_288 : BitVec 32 := 1#32
  let v483 : BitVec 32 := Scalar.subi v468 c1_i32_288
  let v484 : BitVec 32 := Scalar.select v482 v483 v468
  let v485 : BitVec 32 := Scalar.subi v484 c0_i32_289
  let c1_i32_290 : BitVec 32 := 1#32
  let v487 : BitVec 32 := Scalar.divsi v485 c1_i32_290
  let v488 : BitVec 32 := Scalar.muli v487 c1_i32_290
  let v489 : BitVec 32 := Scalar.addi c0_i32_289 v488
  let v486 : BitVec 32 := Scalar.addi c0_i32_289 v485
  let c1_i32_292 : BitVec 32 := 1#32
  ⟨v489, v486, c1_i32_292⟩
def k0_mult69 (i : grid0.Coords) (k0_t10 : Fin (k0_t10_loop i).trips) : BitVec 32 :=
  let c2_i32_302 : BitVec 32 := 2#32
  let c0_i32_289 : BitVec 32 := 0#32
  let arg1 : BitVec 32 := BitVec.ofNat 32 (i 1).val
  let c1_i32 : BitVec 32 := 1#32
  let v0 : BitVec 32 := Scalar.addi arg1 c1_i32
  let c0_i32_283 : BitVec 32 := 0#32
  let v469 : BitVec 1 := Scalar.cmpi .sgt v0 c0_i32_283
  let v470 : BitVec 32 := Scalar.extui v469
  let c0_i32_284 : BitVec 32 := 0#32
  let v471 : BitVec 1 := Scalar.cmpi .slt v0 c0_i32_284
  let v472 : BitVec 32 := Scalar.extui v471
  let v473 : BitVec 32 := Scalar.subi v470 v472
  let c2_i32_282 : BitVec 32 := 2#32
  let c0_i32_285 : BitVec 32 := 0#32
  let v474 : BitVec 1 := Scalar.cmpi .sgt c2_i32_282 c0_i32_285
  let v475 : BitVec 32 := Scalar.extui v474
  let c0_i32_286 : BitVec 32 := 0#32
  let v476 : BitVec 1 := Scalar.cmpi .slt c2_i32_282 c0_i32_286
  let v477 : BitVec 32 := Scalar.extui v476
  let v478 : BitVec 32 := Scalar.subi v475 v477
  let v479 : BitVec 1 := Scalar.cmpi .ne v473 v478
  let v480 : BitVec 32 := Scalar.remsi v0 c2_i32_282
  let c0_i32_287 : BitVec 32 := 0#32
  let v481 : BitVec 1 := Scalar.cmpi .ne v480 c0_i32_287
  let v482 : BitVec 1 := Scalar.andi v479 v481
  let v468 : BitVec 32 := Scalar.divsi v0 c2_i32_282
  let c1_i32_288 : BitVec 32 := 1#32
  let v483 : BitVec 32 := Scalar.subi v468 c1_i32_288
  let v484 : BitVec 32 := Scalar.select v482 v483 v468
  let v485 : BitVec 32 := Scalar.subi v484 c0_i32_289
  let c1_i32_290 : BitVec 32 := 1#32
  let v487 : BitVec 32 := Scalar.divsi v485 c1_i32_290
  let v488 : BitVec 32 := Scalar.muli v487 c1_i32_290
  let v489 : BitVec 32 := Scalar.addi c0_i32_289 v488
  let c1_i32_292 : BitVec 32 := 1#32
  let arg23 : BitVec 32 := Scf.iv v489 c1_i32_292 k0_t10
  let v511 : BitVec 32 := Scalar.muli c2_i32_302 arg23
  let c256_i32_303 : BitVec 32 := 256#32
  let v512 : BitVec 32 := Scalar.muli v511 c256_i32_303
  v512
def k0_off124 (i : grid0.Coords) (k0_t10 : Fin (k0_t10_loop i).trips) : Fin 2 → Nat :=
  let c2_i32_302 : BitVec 32 := 2#32
  let c0_i32_289 : BitVec 32 := 0#32
  let arg1 : BitVec 32 := BitVec.ofNat 32 (i 1).val
  let c1_i32 : BitVec 32 := 1#32
  let v0 : BitVec 32 := Scalar.addi arg1 c1_i32
  let c0_i32_283 : BitVec 32 := 0#32
  let v469 : BitVec 1 := Scalar.cmpi .sgt v0 c0_i32_283
  let v470 : BitVec 32 := Scalar.extui v469
  let c0_i32_284 : BitVec 32 := 0#32
  let v471 : BitVec 1 := Scalar.cmpi .slt v0 c0_i32_284
  let v472 : BitVec 32 := Scalar.extui v471
  let v473 : BitVec 32 := Scalar.subi v470 v472
  let c2_i32_282 : BitVec 32 := 2#32
  let c0_i32_285 : BitVec 32 := 0#32
  let v474 : BitVec 1 := Scalar.cmpi .sgt c2_i32_282 c0_i32_285
  let v475 : BitVec 32 := Scalar.extui v474
  let c0_i32_286 : BitVec 32 := 0#32
  let v476 : BitVec 1 := Scalar.cmpi .slt c2_i32_282 c0_i32_286
  let v477 : BitVec 32 := Scalar.extui v476
  let v478 : BitVec 32 := Scalar.subi v475 v477
  let v479 : BitVec 1 := Scalar.cmpi .ne v473 v478
  let v480 : BitVec 32 := Scalar.remsi v0 c2_i32_282
  let c0_i32_287 : BitVec 32 := 0#32
  let v481 : BitVec 1 := Scalar.cmpi .ne v480 c0_i32_287
  let v482 : BitVec 1 := Scalar.andi v479 v481
  let v468 : BitVec 32 := Scalar.divsi v0 c2_i32_282
  let c1_i32_288 : BitVec 32 := 1#32
  let v483 : BitVec 32 := Scalar.subi v468 c1_i32_288
  let v484 : BitVec 32 := Scalar.select v482 v483 v468
  let v485 : BitVec 32 := Scalar.subi v484 c0_i32_289
  let c1_i32_290 : BitVec 32 := 1#32
  let v487 : BitVec 32 := Scalar.divsi v485 c1_i32_290
  let v488 : BitVec 32 := Scalar.muli v487 c1_i32_290
  let v489 : BitVec 32 := Scalar.addi c0_i32_289 v488
  let c1_i32_292 : BitVec 32 := 1#32
  let arg23 : BitVec 32 := Scf.iv v489 c1_i32_292 k0_t10
  let v511 : BitVec 32 := Scalar.muli c2_i32_302 arg23
  let c256_i32_303 : BitVec 32 := 256#32
  let v512 : BitVec 32 := Scalar.muli v511 c256_i32_303
  let v513 : BitVec 32 := v512
  let v514 : Index := Scalar.indexCast v513
  let c0_304 : Index := 0#32
  ![v514.toNat, 0]
def k0_mult70 (i : grid0.Coords) (k0_t10 : Fin (k0_t10_loop i).trips) : BitVec 32 :=
  let c2_i32_307 : BitVec 32 := 2#32
  let c0_i32_289 : BitVec 32 := 0#32
  let arg1 : BitVec 32 := BitVec.ofNat 32 (i 1).val
  let c1_i32 : BitVec 32 := 1#32
  let v0 : BitVec 32 := Scalar.addi arg1 c1_i32
  let c0_i32_283 : BitVec 32 := 0#32
  let v469 : BitVec 1 := Scalar.cmpi .sgt v0 c0_i32_283
  let v470 : BitVec 32 := Scalar.extui v469
  let c0_i32_284 : BitVec 32 := 0#32
  let v471 : BitVec 1 := Scalar.cmpi .slt v0 c0_i32_284
  let v472 : BitVec 32 := Scalar.extui v471
  let v473 : BitVec 32 := Scalar.subi v470 v472
  let c2_i32_282 : BitVec 32 := 2#32
  let c0_i32_285 : BitVec 32 := 0#32
  let v474 : BitVec 1 := Scalar.cmpi .sgt c2_i32_282 c0_i32_285
  let v475 : BitVec 32 := Scalar.extui v474
  let c0_i32_286 : BitVec 32 := 0#32
  let v476 : BitVec 1 := Scalar.cmpi .slt c2_i32_282 c0_i32_286
  let v477 : BitVec 32 := Scalar.extui v476
  let v478 : BitVec 32 := Scalar.subi v475 v477
  let v479 : BitVec 1 := Scalar.cmpi .ne v473 v478
  let v480 : BitVec 32 := Scalar.remsi v0 c2_i32_282
  let c0_i32_287 : BitVec 32 := 0#32
  let v481 : BitVec 1 := Scalar.cmpi .ne v480 c0_i32_287
  let v482 : BitVec 1 := Scalar.andi v479 v481
  let v468 : BitVec 32 := Scalar.divsi v0 c2_i32_282
  let c1_i32_288 : BitVec 32 := 1#32
  let v483 : BitVec 32 := Scalar.subi v468 c1_i32_288
  let v484 : BitVec 32 := Scalar.select v482 v483 v468
  let v485 : BitVec 32 := Scalar.subi v484 c0_i32_289
  let c1_i32_290 : BitVec 32 := 1#32
  let v487 : BitVec 32 := Scalar.divsi v485 c1_i32_290
  let v488 : BitVec 32 := Scalar.muli v487 c1_i32_290
  let v489 : BitVec 32 := Scalar.addi c0_i32_289 v488
  let c1_i32_292 : BitVec 32 := 1#32
  let arg23 : BitVec 32 := Scf.iv v489 c1_i32_292 k0_t10
  let v588 : BitVec 32 := Scalar.muli c2_i32_307 arg23
  let c1_i32_308 : BitVec 32 := 1#32
  let v589 : BitVec 32 := Scalar.addi v588 c1_i32_308
  let c256_i32_309 : BitVec 32 := 256#32
  let v590 : BitVec 32 := Scalar.muli v589 c256_i32_309
  v590
def k0_off125 (i : grid0.Coords) (k0_t10 : Fin (k0_t10_loop i).trips) : Fin 2 → Nat :=
  let c2_i32_307 : BitVec 32 := 2#32
  let c0_i32_289 : BitVec 32 := 0#32
  let arg1 : BitVec 32 := BitVec.ofNat 32 (i 1).val
  let c1_i32 : BitVec 32 := 1#32
  let v0 : BitVec 32 := Scalar.addi arg1 c1_i32
  let c0_i32_283 : BitVec 32 := 0#32
  let v469 : BitVec 1 := Scalar.cmpi .sgt v0 c0_i32_283
  let v470 : BitVec 32 := Scalar.extui v469
  let c0_i32_284 : BitVec 32 := 0#32
  let v471 : BitVec 1 := Scalar.cmpi .slt v0 c0_i32_284
  let v472 : BitVec 32 := Scalar.extui v471
  let v473 : BitVec 32 := Scalar.subi v470 v472
  let c2_i32_282 : BitVec 32 := 2#32
  let c0_i32_285 : BitVec 32 := 0#32
  let v474 : BitVec 1 := Scalar.cmpi .sgt c2_i32_282 c0_i32_285
  let v475 : BitVec 32 := Scalar.extui v474
  let c0_i32_286 : BitVec 32 := 0#32
  let v476 : BitVec 1 := Scalar.cmpi .slt c2_i32_282 c0_i32_286
  let v477 : BitVec 32 := Scalar.extui v476
  let v478 : BitVec 32 := Scalar.subi v475 v477
  let v479 : BitVec 1 := Scalar.cmpi .ne v473 v478
  let v480 : BitVec 32 := Scalar.remsi v0 c2_i32_282
  let c0_i32_287 : BitVec 32 := 0#32
  let v481 : BitVec 1 := Scalar.cmpi .ne v480 c0_i32_287
  let v482 : BitVec 1 := Scalar.andi v479 v481
  let v468 : BitVec 32 := Scalar.divsi v0 c2_i32_282
  let c1_i32_288 : BitVec 32 := 1#32
  let v483 : BitVec 32 := Scalar.subi v468 c1_i32_288
  let v484 : BitVec 32 := Scalar.select v482 v483 v468
  let v485 : BitVec 32 := Scalar.subi v484 c0_i32_289
  let c1_i32_290 : BitVec 32 := 1#32
  let v487 : BitVec 32 := Scalar.divsi v485 c1_i32_290
  let v488 : BitVec 32 := Scalar.muli v487 c1_i32_290
  let v489 : BitVec 32 := Scalar.addi c0_i32_289 v488
  let c1_i32_292 : BitVec 32 := 1#32
  let arg23 : BitVec 32 := Scf.iv v489 c1_i32_292 k0_t10
  let v588 : BitVec 32 := Scalar.muli c2_i32_307 arg23
  let c1_i32_308 : BitVec 32 := 1#32
  let v589 : BitVec 32 := Scalar.addi v588 c1_i32_308
  let c256_i32_309 : BitVec 32 := 256#32
  let v590 : BitVec 32 := Scalar.muli v589 c256_i32_309
  let v591 : BitVec 32 := v590
  let v592 : Index := Scalar.indexCast v591
  let c0_310 : Index := 0#32
  ![v592.toNat, 0]
def k0_cond8 (i : grid0.Coords) : BitVec 1 :=
  let arg1 : BitVec 32 := BitVec.ofNat 32 (i 1).val
  let c1_i32 : BitVec 32 := 1#32
  let v0 : BitVec 32 := Scalar.addi arg1 c1_i32
  let c2_i32_293 : BitVec 32 := 2#32
  let c0_i32_294 : BitVec 32 := 0#32
  let v492 : BitVec 1 := Scalar.cmpi .eq c2_i32_293 c0_i32_294
  let c1_i32_295 : BitVec 32 := 1#32
  let v493 : BitVec 32 := Scalar.select v492 c1_i32_295 c2_i32_293
  let v494 : BitVec 32 := Scalar.remsi v0 v493
  let c0_i32_297 : BitVec 32 := 0#32
  let v496 : BitVec 1 := Scalar.cmpi .slt v494 c0_i32_297
  let c0_i32_298 : BitVec 32 := 0#32
  let v497 : BitVec 1 := Scalar.cmpi .slt v493 c0_i32_298
  let v498 : BitVec 1 := Scalar.xori v496 v497
  let c0_i32_296 : BitVec 32 := 0#32
  let v495 : BitVec 1 := Scalar.cmpi .ne v494 c0_i32_296
  let v499 : BitVec 1 := Scalar.andi v498 v495
  let v500 : BitVec 32 := Scalar.addi v494 v493
  let v501 : BitVec 32 := Scalar.select v499 v500 v494
  let c1_i32_299 : BitVec 32 := 1#32
  let v502 : BitVec 1 := Scalar.cmpi .eq v501 c1_i32_299
  let v503 : BitVec 32 := Scalar.extui v502
  let c0_i32_300 : BitVec 32 := 0#32
  let v504 : BitVec 1 := Scalar.cmpi .ne v503 c0_i32_300
  v504

def k0_mult71 (i : grid0.Coords) : BitVec 32 :=
  let arg1 : BitVec 32 := BitVec.ofNat 32 (i 1).val
  let c1_i32 : BitVec 32 := 1#32
  let v0 : BitVec 32 := Scalar.addi arg1 c1_i32
  let c1_i32_302 : BitVec 32 := 1#32
  let v511 : BitVec 32 := Scalar.subi v0 c1_i32_302
  let c256_i32_303 : BitVec 32 := 256#32
  let v512 : BitVec 32 := Scalar.muli v511 c256_i32_303
  v512
def k0_off126 (i : grid0.Coords) : Fin 2 → Nat :=
  let arg1 : BitVec 32 := BitVec.ofNat 32 (i 1).val
  let c1_i32 : BitVec 32 := 1#32
  let v0 : BitVec 32 := Scalar.addi arg1 c1_i32
  let c1_i32_302 : BitVec 32 := 1#32
  let v511 : BitVec 32 := Scalar.subi v0 c1_i32_302
  let c256_i32_303 : BitVec 32 := 256#32
  let v512 : BitVec 32 := Scalar.muli v511 c256_i32_303
  let v513 : BitVec 32 := v512
  let v514 : Index := Scalar.indexCast v513
  let c0_304 : Index := 0#32
  ![v514.toNat, 0]
@[reducible] def k0_t11_loop (i : grid0.Coords) : Scf.Loop 32 :=
  let c0_i32_275 : BitVec 32 := 0#32
  let arg1 : BitVec 32 := BitVec.ofNat 32 (i 1).val
  let c1_i32 : BitVec 32 := 1#32
  let v0 : BitVec 32 := Scalar.addi arg1 c1_i32
  let v454 : BitVec 32 := Scalar.subi v0 c0_i32_275
  let c1_i32_277 : BitVec 32 := 1#32
  let v456 : BitVec 32 := Scalar.divsi v454 c1_i32_277
  let v457 : BitVec 32 := Scalar.muli v456 c1_i32_277
  let v458 : BitVec 32 := Scalar.addi c0_i32_275 v457
  let c1_i32_278 : BitVec 32 := 1#32
  ⟨c0_i32_275, v458, c1_i32_278⟩
def k0_mult72 (i : grid0.Coords) (k0_t11 : Fin (k0_t11_loop i).trips) : BitVec 32 :=
  let c0_i32_275 : BitVec 32 := 0#32
  let c1_i32_278 : BitVec 32 := 1#32
  let arg21 : BitVec 32 := Scf.iv c0_i32_275 c1_i32_278 k0_t11
  let c256_i32_280 : BitVec 32 := 256#32
  let v461 : BitVec 32 := Scalar.muli arg21 c256_i32_280
  v461
def k0_off127 (i : grid0.Coords) (k0_t11 : Fin (k0_t11_loop i).trips) : Fin 2 → Nat :=
  let c0_i32_275 : BitVec 32 := 0#32
  let c1_i32_278 : BitVec 32 := 1#32
  let arg21 : BitVec 32 := Scf.iv c0_i32_275 c1_i32_278 k0_t11
  let c256_i32_280 : BitVec 32 := 256#32
  let v461 : BitVec 32 := Scalar.muli arg21 c256_i32_280
  let v462 : BitVec 32 := v461
  let v463 : Index := Scalar.indexCast v462
  let c0_281 : Index := 0#32
  ![v463.toNat, 0]
@[reducible] def k0_t12_loop (i : grid0.Coords) : Scf.Loop 32 :=
  let c0_i32_275 : BitVec 32 := 0#32
  let arg1 : BitVec 32 := BitVec.ofNat 32 (i 1).val
  let c1_i32 : BitVec 32 := 1#32
  let v0 : BitVec 32 := Scalar.addi arg1 c1_i32
  let v454 : BitVec 32 := Scalar.subi v0 c0_i32_275
  let c1_i32_277 : BitVec 32 := 1#32
  let v456 : BitVec 32 := Scalar.divsi v454 c1_i32_277
  let v457 : BitVec 32 := Scalar.muli v456 c1_i32_277
  let v458 : BitVec 32 := Scalar.addi c0_i32_275 v457
  let v455 : BitVec 32 := Scalar.addi c0_i32_275 v454
  let c1_i32_279 : BitVec 32 := 1#32
  ⟨v458, v455, c1_i32_279⟩
def k0_mult73 (i : grid0.Coords) (k0_t12 : Fin (k0_t12_loop i).trips) : BitVec 32 :=
  let c0_i32_275 : BitVec 32 := 0#32
  let arg1 : BitVec 32 := BitVec.ofNat 32 (i 1).val
  let c1_i32 : BitVec 32 := 1#32
  let v0 : BitVec 32 := Scalar.addi arg1 c1_i32
  let v454 : BitVec 32 := Scalar.subi v0 c0_i32_275
  let c1_i32_277 : BitVec 32 := 1#32
  let v456 : BitVec 32 := Scalar.divsi v454 c1_i32_277
  let v457 : BitVec 32 := Scalar.muli v456 c1_i32_277
  let v458 : BitVec 32 := Scalar.addi c0_i32_275 v457
  let c1_i32_279 : BitVec 32 := 1#32
  let arg21 : BitVec 32 := Scf.iv v458 c1_i32_279 k0_t12
  let c256_i32_280 : BitVec 32 := 256#32
  let v461 : BitVec 32 := Scalar.muli arg21 c256_i32_280
  v461
def k0_off128 (i : grid0.Coords) (k0_t12 : Fin (k0_t12_loop i).trips) : Fin 2 → Nat :=
  let c0_i32_275 : BitVec 32 := 0#32
  let arg1 : BitVec 32 := BitVec.ofNat 32 (i 1).val
  let c1_i32 : BitVec 32 := 1#32
  let v0 : BitVec 32 := Scalar.addi arg1 c1_i32
  let v454 : BitVec 32 := Scalar.subi v0 c0_i32_275
  let c1_i32_277 : BitVec 32 := 1#32
  let v456 : BitVec 32 := Scalar.divsi v454 c1_i32_277
  let v457 : BitVec 32 := Scalar.muli v456 c1_i32_277
  let v458 : BitVec 32 := Scalar.addi c0_i32_275 v457
  let c1_i32_279 : BitVec 32 := 1#32
  let arg21 : BitVec 32 := Scf.iv v458 c1_i32_279 k0_t12
  let c256_i32_280 : BitVec 32 := 256#32
  let v461 : BitVec 32 := Scalar.muli arg21 c256_i32_280
  let v462 : BitVec 32 := v461
  let v463 : Index := Scalar.indexCast v462
  let c0_281 : Index := 0#32
  ![v463.toNat, 0]
def k0_mult74 : BitVec 32 :=
  let c0_i32_208 : BitVec 32 := 0#32
  c0_i32_208
@[reducible] def k0_t13_loop (i : grid0.Coords) : Scf.Loop 32 :=
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_225 : BitVec 32 := 1#32
  ⟨c0_i32_222, v372, c1_i32_225⟩
def k0_mult75 (i : grid0.Coords) (k0_t13 : Fin (k0_t13_loop i).trips) : BitVec 32 :=
  let c4_i32_271 : BitVec 32 := 4#32
  let c0_i32_222 : BitVec 32 := 0#32
  let c1_i32_225 : BitVec 32 := 1#32
  let arg21 : BitVec 32 := Scf.iv c0_i32_222 c1_i32_225 k0_t13
  let v445 : BitVec 32 := Scalar.muli c4_i32_271 arg21
  let c0_i32_272 : BitVec 32 := 0#32
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  v455
def k0_off129 (i : grid0.Coords) (k0_t13 : Fin (k0_t13_loop i).trips) (c0_i32_272 : BitVec 32) : Fin 3 → Nat :=
  let c0_283 : Index := 0#32
  let c0_284 : Index := 0#32
  let c4_i32_271 : BitVec 32 := 4#32
  let c0_i32_222 : BitVec 32 := 0#32
  let c1_i32_225 : BitVec 32 := 1#32
  let arg21 : BitVec 32 := Scf.iv c0_i32_222 c1_i32_225 k0_t13
  let v445 : BitVec 32 := Scalar.muli c4_i32_271 arg21
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  let v456 : BitVec 32 := v455
  let v457 : Index := Scalar.indexCast v456
  ![0, 0, v457.toNat]
def k0_mult76 (i : grid0.Coords) (k0_t13 : Fin (k0_t13_loop i).trips) : BitVec 32 :=
  let c4_i32_271 : BitVec 32 := 4#32
  let c0_i32_222 : BitVec 32 := 0#32
  let c1_i32_225 : BitVec 32 := 1#32
  let arg21 : BitVec 32 := Scf.iv c0_i32_222 c1_i32_225 k0_t13
  let v445 : BitVec 32 := Scalar.muli c4_i32_271 arg21
  let c0_i32_272 : BitVec 32 := 0#32
  let v446 : BitVec 32 := Scalar.addi v445 c0_i32_272
  let c1_i32_288 : BitVec 32 := 1#32
  let v465 : BitVec 32 := Scalar.addi v446 c1_i32_288
  let c256_i32_289 : BitVec 32 := 256#32
  let v466 : BitVec 32 := Scalar.muli v465 c256_i32_289
  v466
def k0_off130 (i : grid0.Coords) (k0_t13 : Fin (k0_t13_loop i).trips) (c0_i32_272 : BitVec 32) : Fin 3 → Nat :=
  let c0_290 : Index := 0#32
  let c4_i32_271 : BitVec 32 := 4#32
  let c0_i32_222 : BitVec 32 := 0#32
  let c1_i32_225 : BitVec 32 := 1#32
  let arg21 : BitVec 32 := Scf.iv c0_i32_222 c1_i32_225 k0_t13
  let v445 : BitVec 32 := Scalar.muli c4_i32_271 arg21
  let v446 : BitVec 32 := Scalar.addi v445 c0_i32_272
  let c1_i32_288 : BitVec 32 := 1#32
  let v465 : BitVec 32 := Scalar.addi v446 c1_i32_288
  let c256_i32_289 : BitVec 32 := 256#32
  let v466 : BitVec 32 := Scalar.muli v465 c256_i32_289
  let v467 : BitVec 32 := v466
  let v468 : Index := Scalar.indexCast v467
  let c0_291 : Index := 0#32
  ![0, v468.toNat, 0]
def k0_mult77 (i : grid0.Coords) (k0_t13 : Fin (k0_t13_loop i).trips) : BitVec 32 :=
  let c4_i32_271 : BitVec 32 := 4#32
  let c0_i32_222 : BitVec 32 := 0#32
  let c1_i32_225 : BitVec 32 := 1#32
  let arg21 : BitVec 32 := Scf.iv c0_i32_222 c1_i32_225 k0_t13
  let v445 : BitVec 32 := Scalar.muli c4_i32_271 arg21
  let c0_i32_272 : BitVec 32 := 0#32
  let v446 : BitVec 32 := Scalar.addi v445 c0_i32_272
  let c256_i32_299 : BitVec 32 := 256#32
  let v477 : BitVec 32 := Scalar.muli v446 c256_i32_299
  v477
def k0_off131 (i : grid0.Coords) (k0_t13 : Fin (k0_t13_loop i).trips) (c0_i32_272 : BitVec 32) : Fin 2 → Nat :=
  let c4_i32_271 : BitVec 32 := 4#32
  let c0_i32_222 : BitVec 32 := 0#32
  let c1_i32_225 : BitVec 32 := 1#32
  let arg21 : BitVec 32 := Scf.iv c0_i32_222 c1_i32_225 k0_t13
  let v445 : BitVec 32 := Scalar.muli c4_i32_271 arg21
  let v446 : BitVec 32 := Scalar.addi v445 c0_i32_272
  let c256_i32_299 : BitVec 32 := 256#32
  let v477 : BitVec 32 := Scalar.muli v446 c256_i32_299
  let v478 : BitVec 32 := v477
  let v479 : Index := Scalar.indexCast v478
  let c0_300 : Index := 0#32
  ![v479.toNat, 0]
def k0_mult78 (i : grid0.Coords) (k0_t13 : Fin (k0_t13_loop i).trips) : BitVec 32 :=
  let c4_i32_320 : BitVec 32 := 4#32
  let c0_i32_222 : BitVec 32 := 0#32
  let c1_i32_225 : BitVec 32 := 1#32
  let arg21 : BitVec 32 := Scf.iv c0_i32_222 c1_i32_225 k0_t13
  let v522 : BitVec 32 := Scalar.muli c4_i32_320 arg21
  let c1_i32_321 : BitVec 32 := 1#32
  let v523 : BitVec 32 := Scalar.addi v522 c1_i32_321
  let c1_i32_322 : BitVec 32 := 1#32
  let v524 : BitVec 32 := Scalar.subi v523 c1_i32_322
  let c0_i32_323 : BitVec 32 := 0#32
  let v525 : BitVec 32 := Scalar.maxsi v524 c0_i32_323
  let c256_i32_331 : BitVec 32 := 256#32
  let v532 : BitVec 32 := Scalar.muli v525 c256_i32_331
  v532
def k0_mult79 (i : grid0.Coords) (k0_t13 : Fin (k0_t13_loop i).trips) : BitVec 32 :=
  let c4_i32_320 : BitVec 32 := 4#32
  let c0_i32_222 : BitVec 32 := 0#32
  let c1_i32_225 : BitVec 32 := 1#32
  let arg21 : BitVec 32 := Scf.iv c0_i32_222 c1_i32_225 k0_t13
  let v522 : BitVec 32 := Scalar.muli c4_i32_320 arg21
  let c1_i32_321 : BitVec 32 := 1#32
  let v523 : BitVec 32 := Scalar.addi v522 c1_i32_321
  let c1_i32_337 : BitVec 32 := 1#32
  let v542 : BitVec 32 := Scalar.addi v523 c1_i32_337
  let c256_i32_338 : BitVec 32 := 256#32
  let v543 : BitVec 32 := Scalar.muli v542 c256_i32_338
  v543
def k0_mult80 (i : grid0.Coords) (k0_t13 : Fin (k0_t13_loop i).trips) : BitVec 32 :=
  let c4_i32_320 : BitVec 32 := 4#32
  let c0_i32_222 : BitVec 32 := 0#32
  let c1_i32_225 : BitVec 32 := 1#32
  let arg21 : BitVec 32 := Scf.iv c0_i32_222 c1_i32_225 k0_t13
  let v522 : BitVec 32 := Scalar.muli c4_i32_320 arg21
  let c1_i32_321 : BitVec 32 := 1#32
  let v523 : BitVec 32 := Scalar.addi v522 c1_i32_321
  let c256_i32_348 : BitVec 32 := 256#32
  let v554 : BitVec 32 := Scalar.muli v523 c256_i32_348
  v554
def k0_mult81 (i : grid0.Coords) (k0_t13 : Fin (k0_t13_loop i).trips) : BitVec 32 :=
  let c4_i32_369 : BitVec 32 := 4#32
  let c0_i32_222 : BitVec 32 := 0#32
  let c1_i32_225 : BitVec 32 := 1#32
  let arg21 : BitVec 32 := Scf.iv c0_i32_222 c1_i32_225 k0_t13
  let v599 : BitVec 32 := Scalar.muli c4_i32_369 arg21
  let c2_i32_370 : BitVec 32 := 2#32
  let v600 : BitVec 32 := Scalar.addi v599 c2_i32_370
  let c1_i32_371 : BitVec 32 := 1#32
  let v601 : BitVec 32 := Scalar.subi v600 c1_i32_371
  let c0_i32_372 : BitVec 32 := 0#32
  let v602 : BitVec 32 := Scalar.maxsi v601 c0_i32_372
  let c256_i32_380 : BitVec 32 := 256#32
  let v609 : BitVec 32 := Scalar.muli v602 c256_i32_380
  v609
def k0_mult82 (i : grid0.Coords) (k0_t13 : Fin (k0_t13_loop i).trips) : BitVec 32 :=
  let c4_i32_369 : BitVec 32 := 4#32
  let c0_i32_222 : BitVec 32 := 0#32
  let c1_i32_225 : BitVec 32 := 1#32
  let arg21 : BitVec 32 := Scf.iv c0_i32_222 c1_i32_225 k0_t13
  let v599 : BitVec 32 := Scalar.muli c4_i32_369 arg21
  let c2_i32_370 : BitVec 32 := 2#32
  let v600 : BitVec 32 := Scalar.addi v599 c2_i32_370
  let c1_i32_386 : BitVec 32 := 1#32
  let v619 : BitVec 32 := Scalar.addi v600 c1_i32_386
  let c256_i32_387 : BitVec 32 := 256#32
  let v620 : BitVec 32 := Scalar.muli v619 c256_i32_387
  v620
def k0_mult83 (i : grid0.Coords) (k0_t13 : Fin (k0_t13_loop i).trips) : BitVec 32 :=
  let c4_i32_369 : BitVec 32 := 4#32
  let c0_i32_222 : BitVec 32 := 0#32
  let c1_i32_225 : BitVec 32 := 1#32
  let arg21 : BitVec 32 := Scf.iv c0_i32_222 c1_i32_225 k0_t13
  let v599 : BitVec 32 := Scalar.muli c4_i32_369 arg21
  let c2_i32_370 : BitVec 32 := 2#32
  let v600 : BitVec 32 := Scalar.addi v599 c2_i32_370
  let c256_i32_397 : BitVec 32 := 256#32
  let v631 : BitVec 32 := Scalar.muli v600 c256_i32_397
  v631
def k0_mult84 (i : grid0.Coords) (k0_t13 : Fin (k0_t13_loop i).trips) : BitVec 32 :=
  let c4_i32_418 : BitVec 32 := 4#32
  let c0_i32_222 : BitVec 32 := 0#32
  let c1_i32_225 : BitVec 32 := 1#32
  let arg21 : BitVec 32 := Scf.iv c0_i32_222 c1_i32_225 k0_t13
  let v676 : BitVec 32 := Scalar.muli c4_i32_418 arg21
  let c3_i32_419 : BitVec 32 := 3#32
  let v677 : BitVec 32 := Scalar.addi v676 c3_i32_419
  let c1_i32_420 : BitVec 32 := 1#32
  let v678 : BitVec 32 := Scalar.subi v677 c1_i32_420
  let c0_i32_421 : BitVec 32 := 0#32
  let v679 : BitVec 32 := Scalar.maxsi v678 c0_i32_421
  let c256_i32_429 : BitVec 32 := 256#32
  let v686 : BitVec 32 := Scalar.muli v679 c256_i32_429
  v686
def k0_mult85 (i : grid0.Coords) (k0_t13 : Fin (k0_t13_loop i).trips) : BitVec 32 :=
  let c4_i32_418 : BitVec 32 := 4#32
  let c0_i32_222 : BitVec 32 := 0#32
  let c1_i32_225 : BitVec 32 := 1#32
  let arg21 : BitVec 32 := Scf.iv c0_i32_222 c1_i32_225 k0_t13
  let v676 : BitVec 32 := Scalar.muli c4_i32_418 arg21
  let c3_i32_419 : BitVec 32 := 3#32
  let v677 : BitVec 32 := Scalar.addi v676 c3_i32_419
  let c1_i32_435 : BitVec 32 := 1#32
  let v696 : BitVec 32 := Scalar.addi v677 c1_i32_435
  let c256_i32_436 : BitVec 32 := 256#32
  let v697 : BitVec 32 := Scalar.muli v696 c256_i32_436
  v697
def k0_mult86 (i : grid0.Coords) (k0_t13 : Fin (k0_t13_loop i).trips) : BitVec 32 :=
  let c4_i32_418 : BitVec 32 := 4#32
  let c0_i32_222 : BitVec 32 := 0#32
  let c1_i32_225 : BitVec 32 := 1#32
  let arg21 : BitVec 32 := Scf.iv c0_i32_222 c1_i32_225 k0_t13
  let v676 : BitVec 32 := Scalar.muli c4_i32_418 arg21
  let c3_i32_419 : BitVec 32 := 3#32
  let v677 : BitVec 32 := Scalar.addi v676 c3_i32_419
  let c256_i32_446 : BitVec 32 := 256#32
  let v708 : BitVec 32 := Scalar.muli v677 c256_i32_446
  v708
@[reducible] def k0_t14_loop (i : grid0.Coords) : Scf.Loop 32 :=
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let v369 : BitVec 32 := Scalar.addi c0_i32_222 v368
  let c1_i32_226 : BitVec 32 := 1#32
  ⟨v372, v369, c1_i32_226⟩
def k0_mult87 (i : grid0.Coords) (k0_t14 : Fin (k0_t14_loop i).trips) : BitVec 32 :=
  let c4_i32_271 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v445 : BitVec 32 := Scalar.muli c4_i32_271 arg21
  let c0_i32_272 : BitVec 32 := 0#32
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  v455
def k0_off132 (i : grid0.Coords) (k0_t14 : Fin (k0_t14_loop i).trips) (c0_i32_272 : BitVec 32) : Fin 3 → Nat :=
  let c0_283 : Index := 0#32
  let c0_284 : Index := 0#32
  let c4_i32_271 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v445 : BitVec 32 := Scalar.muli c4_i32_271 arg21
  let v446 : BitVec 32 := Scalar.addi v445 c0_i32_272
  let c1_i32_273 : BitVec 32 := 1#32
  let v447 : BitVec 32 := Scalar.subi v446 c1_i32_273
  let c0_i32_274 : BitVec 32 := 0#32
  let v448 : BitVec 32 := Scalar.maxsi v447 c0_i32_274
  let c256_i32_282 : BitVec 32 := 256#32
  let v455 : BitVec 32 := Scalar.muli v448 c256_i32_282
  let v456 : BitVec 32 := v455
  let v457 : Index := Scalar.indexCast v456
  ![0, 0, v457.toNat]
def k0_mult88 (i : grid0.Coords) (k0_t14 : Fin (k0_t14_loop i).trips) : BitVec 32 :=
  let c4_i32_271 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v445 : BitVec 32 := Scalar.muli c4_i32_271 arg21
  let c0_i32_272 : BitVec 32 := 0#32
  let v446 : BitVec 32 := Scalar.addi v445 c0_i32_272
  let c1_i32_288 : BitVec 32 := 1#32
  let v465 : BitVec 32 := Scalar.addi v446 c1_i32_288
  let c256_i32_289 : BitVec 32 := 256#32
  let v466 : BitVec 32 := Scalar.muli v465 c256_i32_289
  v466
def k0_off133 (i : grid0.Coords) (k0_t14 : Fin (k0_t14_loop i).trips) (c0_i32_272 : BitVec 32) : Fin 3 → Nat :=
  let c0_290 : Index := 0#32
  let c4_i32_271 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v445 : BitVec 32 := Scalar.muli c4_i32_271 arg21
  let v446 : BitVec 32 := Scalar.addi v445 c0_i32_272
  let c1_i32_288 : BitVec 32 := 1#32
  let v465 : BitVec 32 := Scalar.addi v446 c1_i32_288
  let c256_i32_289 : BitVec 32 := 256#32
  let v466 : BitVec 32 := Scalar.muli v465 c256_i32_289
  let v467 : BitVec 32 := v466
  let v468 : Index := Scalar.indexCast v467
  let c0_291 : Index := 0#32
  ![0, v468.toNat, 0]
def k0_mult89 (i : grid0.Coords) (k0_t14 : Fin (k0_t14_loop i).trips) : BitVec 32 :=
  let c4_i32_271 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v445 : BitVec 32 := Scalar.muli c4_i32_271 arg21
  let c0_i32_272 : BitVec 32 := 0#32
  let v446 : BitVec 32 := Scalar.addi v445 c0_i32_272
  let c256_i32_299 : BitVec 32 := 256#32
  let v477 : BitVec 32 := Scalar.muli v446 c256_i32_299
  v477
def k0_off134 (i : grid0.Coords) (k0_t14 : Fin (k0_t14_loop i).trips) (c0_i32_272 : BitVec 32) : Fin 2 → Nat :=
  let c4_i32_271 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v445 : BitVec 32 := Scalar.muli c4_i32_271 arg21
  let v446 : BitVec 32 := Scalar.addi v445 c0_i32_272
  let c256_i32_299 : BitVec 32 := 256#32
  let v477 : BitVec 32 := Scalar.muli v446 c256_i32_299
  let v478 : BitVec 32 := v477
  let v479 : Index := Scalar.indexCast v478
  let c0_300 : Index := 0#32
  ![v479.toNat, 0]
def k0_mult90 (i : grid0.Coords) (k0_t14 : Fin (k0_t14_loop i).trips) : BitVec 32 :=
  let c4_i32_320 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v522 : BitVec 32 := Scalar.muli c4_i32_320 arg21
  let c1_i32_321 : BitVec 32 := 1#32
  let v523 : BitVec 32 := Scalar.addi v522 c1_i32_321
  let c1_i32_322 : BitVec 32 := 1#32
  let v524 : BitVec 32 := Scalar.subi v523 c1_i32_322
  let c0_i32_323 : BitVec 32 := 0#32
  let v525 : BitVec 32 := Scalar.maxsi v524 c0_i32_323
  let c256_i32_331 : BitVec 32 := 256#32
  let v532 : BitVec 32 := Scalar.muli v525 c256_i32_331
  v532
def k0_mult91 (i : grid0.Coords) (k0_t14 : Fin (k0_t14_loop i).trips) : BitVec 32 :=
  let c4_i32_320 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v522 : BitVec 32 := Scalar.muli c4_i32_320 arg21
  let c1_i32_321 : BitVec 32 := 1#32
  let v523 : BitVec 32 := Scalar.addi v522 c1_i32_321
  let c1_i32_337 : BitVec 32 := 1#32
  let v542 : BitVec 32 := Scalar.addi v523 c1_i32_337
  let c256_i32_338 : BitVec 32 := 256#32
  let v543 : BitVec 32 := Scalar.muli v542 c256_i32_338
  v543
def k0_mult92 (i : grid0.Coords) (k0_t14 : Fin (k0_t14_loop i).trips) : BitVec 32 :=
  let c4_i32_320 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v522 : BitVec 32 := Scalar.muli c4_i32_320 arg21
  let c1_i32_321 : BitVec 32 := 1#32
  let v523 : BitVec 32 := Scalar.addi v522 c1_i32_321
  let c256_i32_348 : BitVec 32 := 256#32
  let v554 : BitVec 32 := Scalar.muli v523 c256_i32_348
  v554
def k0_mult93 (i : grid0.Coords) (k0_t14 : Fin (k0_t14_loop i).trips) : BitVec 32 :=
  let c4_i32_369 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v599 : BitVec 32 := Scalar.muli c4_i32_369 arg21
  let c2_i32_370 : BitVec 32 := 2#32
  let v600 : BitVec 32 := Scalar.addi v599 c2_i32_370
  let c1_i32_371 : BitVec 32 := 1#32
  let v601 : BitVec 32 := Scalar.subi v600 c1_i32_371
  let c0_i32_372 : BitVec 32 := 0#32
  let v602 : BitVec 32 := Scalar.maxsi v601 c0_i32_372
  let c256_i32_380 : BitVec 32 := 256#32
  let v609 : BitVec 32 := Scalar.muli v602 c256_i32_380
  v609
def k0_mult94 (i : grid0.Coords) (k0_t14 : Fin (k0_t14_loop i).trips) : BitVec 32 :=
  let c4_i32_369 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v599 : BitVec 32 := Scalar.muli c4_i32_369 arg21
  let c2_i32_370 : BitVec 32 := 2#32
  let v600 : BitVec 32 := Scalar.addi v599 c2_i32_370
  let c1_i32_386 : BitVec 32 := 1#32
  let v619 : BitVec 32 := Scalar.addi v600 c1_i32_386
  let c256_i32_387 : BitVec 32 := 256#32
  let v620 : BitVec 32 := Scalar.muli v619 c256_i32_387
  v620
def k0_mult95 (i : grid0.Coords) (k0_t14 : Fin (k0_t14_loop i).trips) : BitVec 32 :=
  let c4_i32_369 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v599 : BitVec 32 := Scalar.muli c4_i32_369 arg21
  let c2_i32_370 : BitVec 32 := 2#32
  let v600 : BitVec 32 := Scalar.addi v599 c2_i32_370
  let c256_i32_397 : BitVec 32 := 256#32
  let v631 : BitVec 32 := Scalar.muli v600 c256_i32_397
  v631
def k0_mult96 (i : grid0.Coords) (k0_t14 : Fin (k0_t14_loop i).trips) : BitVec 32 :=
  let c4_i32_418 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v676 : BitVec 32 := Scalar.muli c4_i32_418 arg21
  let c3_i32_419 : BitVec 32 := 3#32
  let v677 : BitVec 32 := Scalar.addi v676 c3_i32_419
  let c1_i32_420 : BitVec 32 := 1#32
  let v678 : BitVec 32 := Scalar.subi v677 c1_i32_420
  let c0_i32_421 : BitVec 32 := 0#32
  let v679 : BitVec 32 := Scalar.maxsi v678 c0_i32_421
  let c256_i32_429 : BitVec 32 := 256#32
  let v686 : BitVec 32 := Scalar.muli v679 c256_i32_429
  v686
def k0_mult97 (i : grid0.Coords) (k0_t14 : Fin (k0_t14_loop i).trips) : BitVec 32 :=
  let c4_i32_418 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v676 : BitVec 32 := Scalar.muli c4_i32_418 arg21
  let c3_i32_419 : BitVec 32 := 3#32
  let v677 : BitVec 32 := Scalar.addi v676 c3_i32_419
  let c1_i32_435 : BitVec 32 := 1#32
  let v696 : BitVec 32 := Scalar.addi v677 c1_i32_435
  let c256_i32_436 : BitVec 32 := 256#32
  let v697 : BitVec 32 := Scalar.muli v696 c256_i32_436
  v697
def k0_mult98 (i : grid0.Coords) (k0_t14 : Fin (k0_t14_loop i).trips) : BitVec 32 :=
  let c4_i32_418 : BitVec 32 := 4#32
  let c0_i32_222 : BitVec 32 := 0#32
  let arg1 : BitVec 32 := BitVec.ofNat 32 (i 1).val
  let c0_i32_216 : BitVec 32 := 0#32
  let v352 : BitVec 1 := Scalar.cmpi .sgt arg1 c0_i32_216
  let v353 : BitVec 32 := Scalar.extui v352
  let c0_i32_217 : BitVec 32 := 0#32
  let v354 : BitVec 1 := Scalar.cmpi .slt arg1 c0_i32_217
  let v355 : BitVec 32 := Scalar.extui v354
  let v356 : BitVec 32 := Scalar.subi v353 v355
  let c4_i32_215 : BitVec 32 := 4#32
  let c0_i32_218 : BitVec 32 := 0#32
  let v357 : BitVec 1 := Scalar.cmpi .sgt c4_i32_215 c0_i32_218
  let v358 : BitVec 32 := Scalar.extui v357
  let c0_i32_219 : BitVec 32 := 0#32
  let v359 : BitVec 1 := Scalar.cmpi .slt c4_i32_215 c0_i32_219
  let v360 : BitVec 32 := Scalar.extui v359
  let v361 : BitVec 32 := Scalar.subi v358 v360
  let v362 : BitVec 1 := Scalar.cmpi .ne v356 v361
  let v363 : BitVec 32 := Scalar.remsi arg1 c4_i32_215
  let c0_i32_220 : BitVec 32 := 0#32
  let v364 : BitVec 1 := Scalar.cmpi .ne v363 c0_i32_220
  let v365 : BitVec 1 := Scalar.andi v362 v364
  let v351 : BitVec 32 := Scalar.divsi arg1 c4_i32_215
  let c1_i32_221 : BitVec 32 := 1#32
  let v366 : BitVec 32 := Scalar.subi v351 c1_i32_221
  let v367 : BitVec 32 := Scalar.select v365 v366 v351
  let v368 : BitVec 32 := Scalar.subi v367 c0_i32_222
  let c1_i32_224 : BitVec 32 := 1#32
  let v370 : BitVec 32 := Scalar.divsi v368 c1_i32_224
  let v371 : BitVec 32 := Scalar.muli v370 c1_i32_224
  let v372 : BitVec 32 := Scalar.addi c0_i32_222 v371
  let c1_i32_226 : BitVec 32 := 1#32
  let arg21 : BitVec 32 := Scf.iv v372 c1_i32_226 k0_t14
  let v676 : BitVec 32 := Scalar.muli c4_i32_418 arg21
  let c3_i32_419 : BitVec 32 := 3#32
  let v677 : BitVec 32 := Scalar.addi v676 c3_i32_419
  let c256_i32_446 : BitVec 32 := 256#32
  let v708 : BitVec 32 := Scalar.muli v677 c256_i32_446
  v708
def k0_cond9 (i : grid0.Coords) : BitVec 1 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let v393 : BitVec 32 := Scalar.subi arg1 v392
  let c0_i32_235 : BitVec 32 := 0#32
  let v394 : BitVec 1 := Scalar.cmpi .eq v393 c0_i32_235
  let v395 : BitVec 32 := Scalar.extui v394
  let c0_i32_236 : BitVec 32 := 0#32
  let v396 : BitVec 1 := Scalar.cmpi .ne v395 c0_i32_236
  v396

def k0_mult99 (i : grid0.Coords) : BitVec 32 :=
  let arg1 : BitVec 32 := BitVec.ofNat 32 (i 1).val
  let c1_i32_271 : BitVec 32 := 1#32
  let v445 : BitVec 32 := Scalar.subi arg1 c1_i32_271
  let c0_i32_272 : BitVec 32 := 0#32
  let v446 : BitVec 32 := Scalar.maxsi v445 c0_i32_272
  let c256_i32_280 : BitVec 32 := 256#32
  let v453 : BitVec 32 := Scalar.muli v446 c256_i32_280
  v453
def k0_off135 (i : grid0.Coords) : Fin 3 → Nat :=
  let c0_281 : Index := 0#32
  let c0_282 : Index := 0#32
  let arg1 : BitVec 32 := BitVec.ofNat 32 (i 1).val
  let c1_i32_271 : BitVec 32 := 1#32
  let v445 : BitVec 32 := Scalar.subi arg1 c1_i32_271
  let c0_i32_272 : BitVec 32 := 0#32
  let v446 : BitVec 32 := Scalar.maxsi v445 c0_i32_272
  let c256_i32_280 : BitVec 32 := 256#32
  let v453 : BitVec 32 := Scalar.muli v446 c256_i32_280
  let v454 : BitVec 32 := v453
  let v455 : Index := Scalar.indexCast v454
  ![0, 0, v455.toNat]
def k0_mult100 (i : grid0.Coords) : BitVec 32 :=
  let arg1 : BitVec 32 := BitVec.ofNat 32 (i 1).val
  let c256_i32_289 : BitVec 32 := 256#32
  let v465 : BitVec 32 := Scalar.muli arg1 c256_i32_289
  v465
def k0_off136 (i : grid0.Coords) : Fin 2 → Nat :=
  let arg1 : BitVec 32 := BitVec.ofNat 32 (i 1).val
  let c256_i32_289 : BitVec 32 := 256#32
  let v465 : BitVec 32 := Scalar.muli arg1 c256_i32_289
  let v466 : BitVec 32 := v465
  let v467 : Index := Scalar.indexCast v466
  let c0_290 : Index := 0#32
  ![v467.toNat, 0]
def k0_mult101 (i : grid0.Coords) : BitVec 32 :=
  let arg1 : BitVec 32 := BitVec.ofNat 32 (i 1).val
  let c256_i32_317 : BitVec 32 := 256#32
  let v517 : BitVec 32 := Scalar.muli arg1 c256_i32_317
  v517
def k0_off137 (i : grid0.Coords) : Fin 3 → Nat :=
  let c0_318 : Index := 0#32
  let c0_319 : Index := 0#32
  let arg1 : BitVec 32 := BitVec.ofNat 32 (i 1).val
  let c256_i32_317 : BitVec 32 := 256#32
  let v517 : BitVec 32 := Scalar.muli arg1 c256_i32_317
  let v518 : BitVec 32 := v517
  let v519 : Index := Scalar.indexCast v518
  ![0, 0, v519.toNat]
def k0_cond10 (i : grid0.Coords) : BitVec 1 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let v397 : BitVec 32 := Scalar.subi arg1 v392
  let c1_i32_237 : BitVec 32 := 1#32
  let v398 : BitVec 1 := Scalar.cmpi .eq v397 c1_i32_237
  let v399 : BitVec 32 := Scalar.extui v398
  let c0_i32_238 : BitVec 32 := 0#32
  let v400 : BitVec 1 := Scalar.cmpi .ne v399 c0_i32_238
  v400

def k0_mult102 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  v454
def k0_off138 (i : grid0.Coords) : Fin 3 → Nat :=
  let c0_282 : Index := 0#32
  let c0_283 : Index := 0#32
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v456 : Index := Scalar.indexCast v455
  ![0, 0, v456.toNat]
def k0_mult103 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c1_i32_287 : BitVec 32 := 1#32
  let v464 : BitVec 32 := Scalar.addi v445 c1_i32_287
  let c256_i32_288 : BitVec 32 := 256#32
  let v465 : BitVec 32 := Scalar.muli v464 c256_i32_288
  v465
def k0_off139 (i : grid0.Coords) : Fin 3 → Nat :=
  let c0_289 : Index := 0#32
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c1_i32_287 : BitVec 32 := 1#32
  let v464 : BitVec 32 := Scalar.addi v445 c1_i32_287
  let c256_i32_288 : BitVec 32 := 256#32
  let v465 : BitVec 32 := Scalar.muli v464 c256_i32_288
  let v466 : BitVec 32 := v465
  let v467 : Index := Scalar.indexCast v466
  let c0_290 : Index := 0#32
  ![0, v467.toNat, 0]
def k0_mult104 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c256_i32_298 : BitVec 32 := 256#32
  let v476 : BitVec 32 := Scalar.muli v445 c256_i32_298
  v476
def k0_off140 (i : grid0.Coords) : Fin 2 → Nat :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c256_i32_298 : BitVec 32 := 256#32
  let v476 : BitVec 32 := Scalar.muli v445 c256_i32_298
  let v477 : BitVec 32 := v476
  let v478 : Index := Scalar.indexCast v477
  let c0_299 : Index := 0#32
  ![v478.toNat, 0]
def k0_mult105 (i : grid0.Coords) : BitVec 32 :=
  let arg1 : BitVec 32 := BitVec.ofNat 32 (i 1).val
  let c1_i32_319 : BitVec 32 := 1#32
  let v521 : BitVec 32 := Scalar.subi arg1 c1_i32_319
  let c0_i32_320 : BitVec 32 := 0#32
  let v522 : BitVec 32 := Scalar.maxsi v521 c0_i32_320
  let c256_i32_328 : BitVec 32 := 256#32
  let v529 : BitVec 32 := Scalar.muli v522 c256_i32_328
  v529
def k0_off141 (i : grid0.Coords) : Fin 3 → Nat :=
  let c0_329 : Index := 0#32
  let c0_330 : Index := 0#32
  let arg1 : BitVec 32 := BitVec.ofNat 32 (i 1).val
  let c1_i32_319 : BitVec 32 := 1#32
  let v521 : BitVec 32 := Scalar.subi arg1 c1_i32_319
  let c0_i32_320 : BitVec 32 := 0#32
  let v522 : BitVec 32 := Scalar.maxsi v521 c0_i32_320
  let c256_i32_328 : BitVec 32 := 256#32
  let v529 : BitVec 32 := Scalar.muli v522 c256_i32_328
  let v530 : BitVec 32 := v529
  let v531 : Index := Scalar.indexCast v530
  ![0, 0, v531.toNat]
def k0_mult106 (i : grid0.Coords) : BitVec 32 :=
  let arg1 : BitVec 32 := BitVec.ofNat 32 (i 1).val
  let c256_i32_337 : BitVec 32 := 256#32
  let v541 : BitVec 32 := Scalar.muli arg1 c256_i32_337
  v541
def k0_off142 (i : grid0.Coords) : Fin 2 → Nat :=
  let arg1 : BitVec 32 := BitVec.ofNat 32 (i 1).val
  let c256_i32_337 : BitVec 32 := 256#32
  let v541 : BitVec 32 := Scalar.muli arg1 c256_i32_337
  let v542 : BitVec 32 := v541
  let v543 : Index := Scalar.indexCast v542
  let c0_338 : Index := 0#32
  ![v543.toNat, 0]
def k0_mult107 (i : grid0.Coords) : BitVec 32 :=
  let arg1 : BitVec 32 := BitVec.ofNat 32 (i 1).val
  let c256_i32_365 : BitVec 32 := 256#32
  let v593 : BitVec 32 := Scalar.muli arg1 c256_i32_365
  v593
def k0_off143 (i : grid0.Coords) : Fin 3 → Nat :=
  let c0_366 : Index := 0#32
  let c0_367 : Index := 0#32
  let arg1 : BitVec 32 := BitVec.ofNat 32 (i 1).val
  let c256_i32_365 : BitVec 32 := 256#32
  let v593 : BitVec 32 := Scalar.muli arg1 c256_i32_365
  let v594 : BitVec 32 := v593
  let v595 : Index := Scalar.indexCast v594
  ![0, 0, v595.toNat]
def k0_cond11 (i : grid0.Coords) : BitVec 1 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let v401 : BitVec 32 := Scalar.subi arg1 v392
  let c2_i32_239 : BitVec 32 := 2#32
  let v402 : BitVec 1 := Scalar.cmpi .eq v401 c2_i32_239
  let v403 : BitVec 32 := Scalar.extui v402
  let c0_i32_240 : BitVec 32 := 0#32
  let v404 : BitVec 1 := Scalar.cmpi .ne v403 c0_i32_240
  v404

def k0_mult108 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  v454
def k0_off144 (i : grid0.Coords) (c0_i32_271 : BitVec 32) : Fin 3 → Nat :=
  let c0_282 : Index := 0#32
  let c0_283 : Index := 0#32
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let v445 : BitVec 32 := Scalar.addi v392 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v456 : Index := Scalar.indexCast v455
  ![0, 0, v456.toNat]
def k0_mult109 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c1_i32_287 : BitVec 32 := 1#32
  let v464 : BitVec 32 := Scalar.addi v445 c1_i32_287
  let c256_i32_288 : BitVec 32 := 256#32
  let v465 : BitVec 32 := Scalar.muli v464 c256_i32_288
  v465
def k0_off145 (i : grid0.Coords) (c0_i32_271 : BitVec 32) : Fin 3 → Nat :=
  let c0_289 : Index := 0#32
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let v445 : BitVec 32 := Scalar.addi v392 c0_i32_271
  let c1_i32_287 : BitVec 32 := 1#32
  let v464 : BitVec 32 := Scalar.addi v445 c1_i32_287
  let c256_i32_288 : BitVec 32 := 256#32
  let v465 : BitVec 32 := Scalar.muli v464 c256_i32_288
  let v466 : BitVec 32 := v465
  let v467 : Index := Scalar.indexCast v466
  let c0_290 : Index := 0#32
  ![0, v467.toNat, 0]
def k0_mult110 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c256_i32_298 : BitVec 32 := 256#32
  let v476 : BitVec 32 := Scalar.muli v445 c256_i32_298
  v476
def k0_off146 (i : grid0.Coords) (c0_i32_271 : BitVec 32) : Fin 2 → Nat :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let v445 : BitVec 32 := Scalar.addi v392 c0_i32_271
  let c256_i32_298 : BitVec 32 := 256#32
  let v476 : BitVec 32 := Scalar.muli v445 c256_i32_298
  let v477 : BitVec 32 := v476
  let v478 : Index := Scalar.indexCast v477
  let c0_299 : Index := 0#32
  ![v478.toNat, 0]
def k0_mult111 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c1_i32_319 : BitVec 32 := 1#32
  let v521 : BitVec 32 := Scalar.addi v392 c1_i32_319
  let c1_i32_320 : BitVec 32 := 1#32
  let v522 : BitVec 32 := Scalar.subi v521 c1_i32_320
  let c0_i32_321 : BitVec 32 := 0#32
  let v523 : BitVec 32 := Scalar.maxsi v522 c0_i32_321
  let c256_i32_329 : BitVec 32 := 256#32
  let v530 : BitVec 32 := Scalar.muli v523 c256_i32_329
  v530
def k0_mult112 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c1_i32_319 : BitVec 32 := 1#32
  let v521 : BitVec 32 := Scalar.addi v392 c1_i32_319
  let c1_i32_335 : BitVec 32 := 1#32
  let v540 : BitVec 32 := Scalar.addi v521 c1_i32_335
  let c256_i32_336 : BitVec 32 := 256#32
  let v541 : BitVec 32 := Scalar.muli v540 c256_i32_336
  v541
def k0_mult113 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c1_i32_319 : BitVec 32 := 1#32
  let v521 : BitVec 32 := Scalar.addi v392 c1_i32_319
  let c256_i32_346 : BitVec 32 := 256#32
  let v552 : BitVec 32 := Scalar.muli v521 c256_i32_346
  v552
def k0_mult114 (i : grid0.Coords) : BitVec 32 :=
  let arg1 : BitVec 32 := BitVec.ofNat 32 (i 1).val
  let c1_i32_367 : BitVec 32 := 1#32
  let v597 : BitVec 32 := Scalar.subi arg1 c1_i32_367
  let c0_i32_368 : BitVec 32 := 0#32
  let v598 : BitVec 32 := Scalar.maxsi v597 c0_i32_368
  let c256_i32_376 : BitVec 32 := 256#32
  let v605 : BitVec 32 := Scalar.muli v598 c256_i32_376
  v605
def k0_off147 (i : grid0.Coords) : Fin 3 → Nat :=
  let c0_377 : Index := 0#32
  let c0_378 : Index := 0#32
  let arg1 : BitVec 32 := BitVec.ofNat 32 (i 1).val
  let c1_i32_367 : BitVec 32 := 1#32
  let v597 : BitVec 32 := Scalar.subi arg1 c1_i32_367
  let c0_i32_368 : BitVec 32 := 0#32
  let v598 : BitVec 32 := Scalar.maxsi v597 c0_i32_368
  let c256_i32_376 : BitVec 32 := 256#32
  let v605 : BitVec 32 := Scalar.muli v598 c256_i32_376
  let v606 : BitVec 32 := v605
  let v607 : Index := Scalar.indexCast v606
  ![0, 0, v607.toNat]
def k0_mult115 (i : grid0.Coords) : BitVec 32 :=
  let arg1 : BitVec 32 := BitVec.ofNat 32 (i 1).val
  let c256_i32_385 : BitVec 32 := 256#32
  let v617 : BitVec 32 := Scalar.muli arg1 c256_i32_385
  v617
def k0_off148 (i : grid0.Coords) : Fin 2 → Nat :=
  let arg1 : BitVec 32 := BitVec.ofNat 32 (i 1).val
  let c256_i32_385 : BitVec 32 := 256#32
  let v617 : BitVec 32 := Scalar.muli arg1 c256_i32_385
  let v618 : BitVec 32 := v617
  let v619 : Index := Scalar.indexCast v618
  let c0_386 : Index := 0#32
  ![v619.toNat, 0]
def k0_mult116 (i : grid0.Coords) : BitVec 32 :=
  let arg1 : BitVec 32 := BitVec.ofNat 32 (i 1).val
  let c256_i32_413 : BitVec 32 := 256#32
  let v669 : BitVec 32 := Scalar.muli arg1 c256_i32_413
  v669
def k0_off149 (i : grid0.Coords) : Fin 3 → Nat :=
  let c0_414 : Index := 0#32
  let c0_415 : Index := 0#32
  let arg1 : BitVec 32 := BitVec.ofNat 32 (i 1).val
  let c256_i32_413 : BitVec 32 := 256#32
  let v669 : BitVec 32 := Scalar.muli arg1 c256_i32_413
  let v670 : BitVec 32 := v669
  let v671 : Index := Scalar.indexCast v670
  ![0, 0, v671.toNat]
def k0_cond12 (i : grid0.Coords) : BitVec 1 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let v405 : BitVec 32 := Scalar.subi arg1 v392
  let c3_i32_241 : BitVec 32 := 3#32
  let v406 : BitVec 1 := Scalar.cmpi .eq v405 c3_i32_241
  let v407 : BitVec 32 := Scalar.extui v406
  let c0_i32_242 : BitVec 32 := 0#32
  let v408 : BitVec 1 := Scalar.cmpi .ne v407 c0_i32_242
  v408

def k0_mult117 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  v454
def k0_off150 (i : grid0.Coords) (c0_i32_271 : BitVec 32) : Fin 3 → Nat :=
  let c0_282 : Index := 0#32
  let c0_283 : Index := 0#32
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let v445 : BitVec 32 := Scalar.addi v392 c0_i32_271
  let c1_i32_272 : BitVec 32 := 1#32
  let v446 : BitVec 32 := Scalar.subi v445 c1_i32_272
  let c0_i32_273 : BitVec 32 := 0#32
  let v447 : BitVec 32 := Scalar.maxsi v446 c0_i32_273
  let c256_i32_281 : BitVec 32 := 256#32
  let v454 : BitVec 32 := Scalar.muli v447 c256_i32_281
  let v455 : BitVec 32 := v454
  let v456 : Index := Scalar.indexCast v455
  ![0, 0, v456.toNat]
def k0_mult118 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c1_i32_287 : BitVec 32 := 1#32
  let v464 : BitVec 32 := Scalar.addi v445 c1_i32_287
  let c256_i32_288 : BitVec 32 := 256#32
  let v465 : BitVec 32 := Scalar.muli v464 c256_i32_288
  v465
def k0_off151 (i : grid0.Coords) (c0_i32_271 : BitVec 32) : Fin 3 → Nat :=
  let c0_289 : Index := 0#32
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let v445 : BitVec 32 := Scalar.addi v392 c0_i32_271
  let c1_i32_287 : BitVec 32 := 1#32
  let v464 : BitVec 32 := Scalar.addi v445 c1_i32_287
  let c256_i32_288 : BitVec 32 := 256#32
  let v465 : BitVec 32 := Scalar.muli v464 c256_i32_288
  let v466 : BitVec 32 := v465
  let v467 : Index := Scalar.indexCast v466
  let c0_290 : Index := 0#32
  ![0, v467.toNat, 0]
def k0_mult119 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c0_i32_271 : BitVec 32 := 0#32
  let v445 : BitVec 32 := Scalar.addi v392 c0_i32_271
  let c256_i32_298 : BitVec 32 := 256#32
  let v476 : BitVec 32 := Scalar.muli v445 c256_i32_298
  v476
def k0_off152 (i : grid0.Coords) (c0_i32_271 : BitVec 32) : Fin 2 → Nat :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let v445 : BitVec 32 := Scalar.addi v392 c0_i32_271
  let c256_i32_298 : BitVec 32 := 256#32
  let v476 : BitVec 32 := Scalar.muli v445 c256_i32_298
  let v477 : BitVec 32 := v476
  let v478 : Index := Scalar.indexCast v477
  let c0_299 : Index := 0#32
  ![v478.toNat, 0]
def k0_mult120 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c1_i32_319 : BitVec 32 := 1#32
  let v521 : BitVec 32 := Scalar.addi v392 c1_i32_319
  let c1_i32_320 : BitVec 32 := 1#32
  let v522 : BitVec 32 := Scalar.subi v521 c1_i32_320
  let c0_i32_321 : BitVec 32 := 0#32
  let v523 : BitVec 32 := Scalar.maxsi v522 c0_i32_321
  let c256_i32_329 : BitVec 32 := 256#32
  let v530 : BitVec 32 := Scalar.muli v523 c256_i32_329
  v530
def k0_mult121 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c1_i32_319 : BitVec 32 := 1#32
  let v521 : BitVec 32 := Scalar.addi v392 c1_i32_319
  let c1_i32_335 : BitVec 32 := 1#32
  let v540 : BitVec 32 := Scalar.addi v521 c1_i32_335
  let c256_i32_336 : BitVec 32 := 256#32
  let v541 : BitVec 32 := Scalar.muli v540 c256_i32_336
  v541
def k0_mult122 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c1_i32_319 : BitVec 32 := 1#32
  let v521 : BitVec 32 := Scalar.addi v392 c1_i32_319
  let c256_i32_346 : BitVec 32 := 256#32
  let v552 : BitVec 32 := Scalar.muli v521 c256_i32_346
  v552
def k0_mult123 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c2_i32_367 : BitVec 32 := 2#32
  let v597 : BitVec 32 := Scalar.addi v392 c2_i32_367
  let c1_i32_368 : BitVec 32 := 1#32
  let v598 : BitVec 32 := Scalar.subi v597 c1_i32_368
  let c0_i32_369 : BitVec 32 := 0#32
  let v599 : BitVec 32 := Scalar.maxsi v598 c0_i32_369
  let c256_i32_377 : BitVec 32 := 256#32
  let v606 : BitVec 32 := Scalar.muli v599 c256_i32_377
  v606
def k0_mult124 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c2_i32_367 : BitVec 32 := 2#32
  let v597 : BitVec 32 := Scalar.addi v392 c2_i32_367
  let c1_i32_383 : BitVec 32 := 1#32
  let v616 : BitVec 32 := Scalar.addi v597 c1_i32_383
  let c256_i32_384 : BitVec 32 := 256#32
  let v617 : BitVec 32 := Scalar.muli v616 c256_i32_384
  v617
def k0_mult125 (i : grid0.Coords) : BitVec 32 :=
  let arg1 : BitVec 32 := BitVec.ofNat 32 (i 1).val
  let c0_i32_228 : BitVec 32 := 0#32
  let v376 : BitVec 1 := Scalar.cmpi .sgt arg1 c0_i32_228
  let v377 : BitVec 32 := Scalar.extui v376
  let c0_i32_229 : BitVec 32 := 0#32
  let v378 : BitVec 1 := Scalar.cmpi .slt arg1 c0_i32_229
  let v379 : BitVec 32 := Scalar.extui v378
  let v380 : BitVec 32 := Scalar.subi v377 v379
  let c4_i32_227 : BitVec 32 := 4#32
  let c0_i32_230 : BitVec 32 := 0#32
  let v381 : BitVec 1 := Scalar.cmpi .sgt c4_i32_227 c0_i32_230
  let v382 : BitVec 32 := Scalar.extui v381
  let c0_i32_231 : BitVec 32 := 0#32
  let v383 : BitVec 1 := Scalar.cmpi .slt c4_i32_227 c0_i32_231
  let v384 : BitVec 32 := Scalar.extui v383
  let v385 : BitVec 32 := Scalar.subi v382 v384
  let v386 : BitVec 1 := Scalar.cmpi .ne v380 v385
  let v387 : BitVec 32 := Scalar.remsi arg1 c4_i32_227
  let c0_i32_232 : BitVec 32 := 0#32
  let v388 : BitVec 1 := Scalar.cmpi .ne v387 c0_i32_232
  let v389 : BitVec 1 := Scalar.andi v386 v388
  let v375 : BitVec 32 := Scalar.divsi arg1 c4_i32_227
  let c1_i32_233 : BitVec 32 := 1#32
  let v390 : BitVec 32 := Scalar.subi v375 c1_i32_233
  let v391 : BitVec 32 := Scalar.select v389 v390 v375
  let c4_i32_234 : BitVec 32 := 4#32
  let v392 : BitVec 32 := Scalar.muli v391 c4_i32_234
  let c2_i32_367 : BitVec 32 := 2#32
  let v597 : BitVec 32 := Scalar.addi v392 c2_i32_367
  let c256_i32_394 : BitVec 32 := 256#32
  let v628 : BitVec 32 := Scalar.muli v597 c256_i32_394
  v628
def k0_mult126 (i : grid0.Coords) : BitVec 32 :=
  let arg1 : BitVec 32 := BitVec.ofNat 32 (i 1).val
  let c1_i32_415 : BitVec 32 := 1#32
  let v673 : BitVec 32 := Scalar.subi arg1 c1_i32_415
  let c0_i32_416 : BitVec 32 := 0#32
  let v674 : BitVec 32 := Scalar.maxsi v673 c0_i32_416
  let c256_i32_424 : BitVec 32 := 256#32
  let v681 : BitVec 32 := Scalar.muli v674 c256_i32_424
  v681
def k0_off153 (i : grid0.Coords) : Fin 3 → Nat :=
  let c0_425 : Index := 0#32
  let c0_426 : Index := 0#32
  let arg1 : BitVec 32 := BitVec.ofNat 32 (i 1).val
  let c1_i32_415 : BitVec 32 := 1#32
  let v673 : BitVec 32 := Scalar.subi arg1 c1_i32_415
  let c0_i32_416 : BitVec 32 := 0#32
  let v674 : BitVec 32 := Scalar.maxsi v673 c0_i32_416
  let c256_i32_424 : BitVec 32 := 256#32
  let v681 : BitVec 32 := Scalar.muli v674 c256_i32_424
  let v682 : BitVec 32 := v681
  let v683 : Index := Scalar.indexCast v682
  ![0, 0, v683.toNat]
def k0_mult127 (i : grid0.Coords) : BitVec 32 :=
  let arg1 : BitVec 32 := BitVec.ofNat 32 (i 1).val
  let c256_i32_433 : BitVec 32 := 256#32
  let v693 : BitVec 32 := Scalar.muli arg1 c256_i32_433
  v693
def k0_off154 (i : grid0.Coords) : Fin 2 → Nat :=
  let arg1 : BitVec 32 := BitVec.ofNat 32 (i 1).val
  let c256_i32_433 : BitVec 32 := 256#32
  let v693 : BitVec 32 := Scalar.muli arg1 c256_i32_433
  let v694 : BitVec 32 := v693
  let v695 : Index := Scalar.indexCast v694
  let c0_434 : Index := 0#32
  ![v695.toNat, 0]
def k0_mult128 (i : grid0.Coords) : BitVec 32 :=
  let arg1 : BitVec 32 := BitVec.ofNat 32 (i 1).val
  let c256_i32_461 : BitVec 32 := 256#32
  let v745 : BitVec 32 := Scalar.muli arg1 c256_i32_461
  v745
def k0_off155 (i : grid0.Coords) : Fin 3 → Nat :=
  let c0_462 : Index := 0#32
  let c0_463 : Index := 0#32
  let arg1 : BitVec 32 := BitVec.ofNat 32 (i 1).val
  let c256_i32_461 : BitVec 32 := 256#32
  let v745 : BitVec 32 := Scalar.muli arg1 c256_i32_461
  let v746 : BitVec 32 := v745
  let v747 : Index := Scalar.indexCast v746
  ![0, 0, v747.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S8x512x4096 : Shape := ⟨3, ![8, 512, 4096]⟩
abbrev S8x4096x128 : Shape := ⟨3, ![8, 4096, 128]⟩
abbrev S8x4096x640 : Shape := ⟨3, ![8, 4096, 640]⟩
abbrev S8x128x4096 : Shape := ⟨3, ![8, 128, 4096]⟩
abbrev S8x4096x512 : Shape := ⟨3, ![8, 4096, 512]⟩
abbrev S8x4096x4x128 : Shape := ⟨4, ![8, 4096, 4, 128]⟩
abbrev S8x4096x4 : Shape := ⟨3, ![8, 4096, 4]⟩
abbrev S8x4x4096 : Shape := ⟨3, ![8, 4, 4096]⟩
abbrev S4096 : Shape := ⟨1, ![4096]⟩
abbrev S8x4x4096x4096 : Shape := ⟨4, ![8, 4, 4096, 4096]⟩
abbrev S8x4x4096x1 : Shape := ⟨4, ![8, 4, 4096, 1]⟩
abbrev S8x4x1x4096 : Shape := ⟨4, ![8, 4, 1, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4x128x4096 : Shape := ⟨4, ![8, 4, 128, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x512x4096, .bf16⟩
  | .hbm, ⟨2, _⟩ => ⟨S8x4096x128, .f32⟩
  | .hbm, ⟨3, _⟩ => ⟨S8x4096x640, .bf16⟩
  | .hbm, ⟨4, _⟩ => ⟨S8x4096x640, .bf16⟩
  | .hbm, ⟨5, _⟩ => ⟨S8x128x4096, .bf16⟩
  | .hbm, ⟨6, _⟩ => ⟨S8x4096x512, .bf16⟩
  | .hbm, ⟨7, _⟩ => ⟨S8x4096x4x128, .bf16⟩
  | .hbm, ⟨8, _⟩ => ⟨S8x4096x512, .bf16⟩
  | .hbm, ⟨9, _⟩ => ⟨S8x4096x4x128, .bf16⟩
  | .hbm, ⟨10, _⟩ => ⟨S8x4096x512, .bf16⟩
  | .hbm, ⟨11, _⟩ => ⟨S8x4096x4x128, .bf16⟩
  | .hbm, ⟨12, _⟩ => ⟨S8x4096x4, .f32⟩
  | .hbm, ⟨13, _⟩ => ⟨S8x4x4096, .f32⟩
  | .hbm, ⟨14, _⟩ => ⟨S4096, .i32⟩
  | .hbm, ⟨15, _⟩ => ⟨S8x4x4096x4096, .f32⟩
  | .hbm, ⟨16, _⟩ => ⟨S8x4x4096x1, .f32⟩
  | .hbm, ⟨17, _⟩ => ⟨S8x4x1x4096, .f32⟩
  | .hbm, ⟨18, _⟩ => ⟨S8x4x4096x4096, .f32⟩
  | .hbm, ⟨19, _⟩ => ⟨S8x4x4096x4096, .f32⟩
  | .hbm, ⟨20, _⟩ => ⟨S8x4x4096x4096, .f32⟩
  | .hbm, ⟨21, _⟩ => ⟨S1x4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S8x4x4096x4096, .f32⟩
  | .hbm, ⟨27, _⟩ => ⟨S_, .f32⟩
  | .hbm, ⟨28, _⟩ => ⟨S_, .f32⟩
  | .hbm, ⟨29, _⟩ => ⟨S8x4x4096x4096, .i1⟩
  | .hbm, ⟨30, _⟩ => ⟨S8x4x4096x4096, .f32⟩
  | .hbm, ⟨31, _⟩ => ⟨S8x4x4096x4096, .f32⟩
  | .hbm, ⟨32, _⟩ => ⟨S_, .f32⟩
  | .hbm, ⟨33, _⟩ => ⟨S8x4x4096, .f32⟩
  | .hbm, ⟨34, _⟩ => ⟨S8x4x4096x1, .f32⟩
  | .hbm, ⟨35, _⟩ => ⟨S8x4x4096x4096, .f32⟩
  | .hbm, ⟨36, _⟩ => ⟨S8x4x4096x4096, .f32⟩
  | .hbm, ⟨37, _⟩ => ⟨S_, .f32⟩
  | .hbm, ⟨38, _⟩ => ⟨S8x4x4096x4096, .f32⟩
  | .hbm, ⟨39, _⟩ => ⟨S8x4x4096x4096, .f32⟩
  | .hbm, ⟨40, _⟩ => ⟨S_, .f32⟩
  | .hbm, ⟨41, _⟩ => ⟨S8x4x4096, .f32⟩
  | .hbm, ⟨42, _⟩ => ⟨S8x4x4096x1, .f32⟩
  | .hbm, ⟨43, _⟩ => ⟨S8x4x4096x4096, .f32⟩
  | .hbm, ⟨44, _⟩ => ⟨S8x4x4096x4096, .f32⟩
  | .hbm, ⟨45, _⟩ => ⟨S8x4x4096x4096, .bf16⟩
  | .hbm, ⟨46, _⟩ => ⟨S8x4x128x4096, .f32⟩
  | .hbm, ⟨47, _⟩ => ⟨S8x4096x4x128, .f32⟩
  | .hbm, ⟨48, _⟩ => ⟨S8x4096x512, .f32⟩
  | .hbm, ⟨49, _⟩ => ⟨S8x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Ffn.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S32768x1024 : Shape := ⟨2, ![32768, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S32768x2816 : Shape := ⟨2, ![32768, 2816]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1024x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S1024x2816, .f32⟩
  | .hbm, ⟨33, _⟩ => ⟨S32768x2816, .f32⟩
  | .hbm, ⟨34, _⟩ => ⟨S32768x2816, .f32⟩
  | .hbm, ⟨35, _⟩ => ⟨S2816x1024, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Merge.lean ====
abbrev S32768x512 : Shape := ⟨2, ![32768, 512]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x2048, .bf16⟩
  | .hbm, ⟨3, _⟩ => ⟨S32768x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S32768x512 : Shape := ⟨2, ![32768, 512]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩

abbrev nBuf : Space → Nat
  | .hbm => 39
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x2048, .bf16⟩
  | .hbm, ⟨3, _⟩ => ⟨S32768x1024, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S32768x1024, .bf16⟩
  | .hbm, ⟨9, _⟩ => ⟨S32768x1024, .f32⟩
  | .hbm, ⟨10, _⟩ => ⟨S32768x512, .f32⟩
  | .hbm, ⟨11, _⟩ => ⟨S512x1024, .f32⟩
  | .hbm, ⟨12, _⟩ => ⟨S32768x1024, .f32⟩
  | .hbm, ⟨13, _⟩ => ⟨S32768x1024, .f32⟩
  | .hbm, ⟨14, _⟩ => ⟨S32768x1024, .bf16⟩
  | .hbm, ⟨15, _⟩ => ⟨S32768x1024, .f32⟩
  | .hbm, ⟨16, _⟩ => ⟨S32768x512, .f32⟩
  | .hbm, ⟨17, _⟩ => ⟨S512x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S1024x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Input.lean ====
abbrev S8x4096x1024 : Shape := ⟨3, ![8, 4096, 1024]⟩
abbrev S1x1024 : Shape := ⟨2, ![1, 1024]⟩
abbrev S1024x1536 : Shape := ⟨2, ![1024, 1536]⟩
abbrev S1024x768 : Shape := ⟨2, ![1024, 768]⟩
abbrev S1024x640 : Shape := ⟨2, ![1024, 640]⟩
abbrev S1024x128 : Shape := ⟨2, ![1024, 128]⟩
abbrev S1024x2048 : Shape := ⟨2, ![1024, 2048]⟩
abbrev S1x128 : Shape := ⟨2, ![1, 128]⟩
abbrev S1x2048 : Shape := ⟨2, ![1, 2048]⟩
abbrev S4096x128 : Shape := ⟨2, ![4096, 128]⟩
abbrev S8x512x4096 : Shape := ⟨3, ![8, 512, 4096]⟩
abbrev S8x4096x640 : Shape := ⟨3, ![8, 4096, 640]⟩
abbrev S8x128x4096 : Shape := ⟨3, ![8, 128, 4096]⟩
abbrev S8x4096x128 : Shape := ⟨3, ![8, 4096, 128]⟩
abbrev S8x4096x2048 : Shape := ⟨3, ![8, 4096, 2048]⟩
abbrev S1x1024x1024 : Shape := ⟨3, ![1, 1024, 1024]⟩
abbrev S1x512x1024 : Shape := ⟨3, ![1, 512, 1024]⟩
abbrev S1x1024x640 : Shape := ⟨3, ![1, 1024, 640]⟩
abbrev S1x128x1024 : Shape := ⟨3, ![1, 128, 1024]⟩
abbrev S1x1024x128 : Shape := ⟨3, ![1, 1024, 128]⟩
abbrev S1x1024x2048 : Shape := ⟨3, ![1, 1024, 2048]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S1x1024x512 : Shape := ⟨3, ![1, 1024, 512]⟩
abbrev S128x1024 : Shape := ⟨2, ![128, 1024]⟩

abbrev nBuf : Space → Nat
  | .hbm => 22
  | .vmem => 37
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1024x1536, .bf16⟩
  | .hbm, ⟨3, _⟩ => ⟨S1024x768, .bf16⟩
  | .hbm, ⟨4, _⟩ => ⟨S1024x640, .bf16⟩
  | .hbm, ⟨5, _⟩ => ⟨S1024x128, .bf16⟩
  | .hbm, ⟨6, _⟩ => ⟨S1024x2048, .bf16⟩
  | .hbm, ⟨7, _⟩ => ⟨S1x128, .f32⟩
  | .hbm, ⟨8, _⟩ => ⟨S1x2048, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S8x4096x1024, .bf16⟩
  | .hbm, ⟨16, _⟩ => ⟨S8x512x4096, .bf16⟩
  | .hbm, ⟨17, _⟩ => ⟨S8x4096x640, .bf16⟩
  | .hbm, ⟨18, _⟩ => ⟨S8x128x4096, .bf16⟩
  | .hbm, ⟨19, _⟩ => ⟨S8x4096x640, .bf16⟩
  | .hbm, ⟨20, _⟩ => ⟨S8x4096x128, .f32⟩
  | .hbm, ⟨21, _⟩ => ⟨S8x4096x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x768, .bf16⟩
  | .local _ .vmem, ⟨5, _⟩ => ⟨S1024x640, .bf16⟩
  | .local _ .vmem, ⟨6, _⟩ => ⟨S1024x128, .bf16⟩
  | .local _ .vmem, ⟨7, _⟩ => ⟨S1024x2048, .bf16⟩
  | .local _ .vmem, ⟨8, _⟩ => ⟨S1x128, .f32⟩
  | .local _ .vmem, ⟨9, _⟩ => ⟨S1x2048, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1x1024x1024, .bf16⟩
  | .local _ .vmem, ⟨23, _⟩ => ⟨S1x1024x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x1024x640, .bf16⟩
  | .local _ .vmem, ⟨27, _⟩ => ⟨S1x1024x640, .bf16⟩
  | .local _ .vmem, ⟨28, _⟩ => ⟨S1x128x1024, .bf16⟩
  | .local _ .vmem, ⟨29, _⟩ => ⟨S1x128x1024, .bf16⟩
  | .local _ .vmem, ⟨30, _⟩ => ⟨S1x1024x640, .bf16⟩
  | .local _ .vmem, ⟨31, _⟩ => ⟨S1x1024x640, .bf16⟩
  | .local _ .vmem, ⟨32, _⟩ => ⟨S1x1024x128, .f32⟩
  | .local _ .vmem, ⟨33, _⟩ => ⟨S1x1024x128, .f32⟩
  | .local _ .vmem, ⟨34, _⟩ => ⟨S1x1024x2048, .bf16⟩
  | .local _ .vmem, ⟨35, _⟩ => ⟨S1x1024x2048, .bf16⟩
  | .local _ .vmem, ⟨36, _⟩ => ⟨S8x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x640 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x640 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1024x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== InputRefIdeal.lean ====
abbrev S8x4096x1024 : Shape := ⟨3, ![8, 4096, 1024]⟩
abbrev S1x1024 : Shape := ⟨2, ![1, 1024]⟩
abbrev S1024x1536 : Shape := ⟨2, ![1024, 1536]⟩
abbrev S1024x768 : Shape := ⟨2, ![1024, 768]⟩
abbrev S1024x640 : Shape := ⟨2, ![1024, 640]⟩
abbrev S1024x128 : Shape := ⟨2, ![1024, 128]⟩
abbrev S1024x2048 : Shape := ⟨2, ![1024, 2048]⟩
abbrev S1x128 : Shape := ⟨2, ![1, 128]⟩
abbrev S1x2048 : Shape := ⟨2, ![1, 2048]⟩
abbrev S4096x128 : Shape := ⟨2, ![4096, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1536 : Shape := ⟨3, ![8, 4096, 1536]⟩
abbrev S8x4096x512 : Shape := ⟨3, ![8, 4096, 512]⟩
abbrev S8x4096x768 : Shape := ⟨3, ![8, 4096, 768]⟩
abbrev S8x4096x128 : Shape := ⟨3, ![8, 4096, 128]⟩
abbrev S8x4096x2048 : Shape := ⟨3, ![8, 4096, 2048]⟩
abbrev S1x1x2048 : Shape := ⟨3, ![1, 1, 2048]⟩
abbrev S8x512x4096 : Shape := ⟨3, ![8, 512, 4096]⟩
abbrev S8x128x4096 : Shape := ⟨3, ![8, 128, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1024x1536, .bf16⟩
  | .hbm, ⟨3, _⟩ => ⟨S1024x768, .bf16⟩
  | .hbm, ⟨4, _⟩ => ⟨S1024x640, .bf16⟩
  | .hbm, ⟨5, _⟩ => ⟨S1024x128, .bf16⟩
  | .hbm, ⟨6, _⟩ => ⟨S1024x2048, .bf16⟩
  | .hbm, ⟨7, _⟩ => ⟨S1x128, .f32⟩
  | .hbm, ⟨8, _⟩ => ⟨S1x2048, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S1024x1536, .f32⟩
  | .hbm, ⟨32, _⟩ => ⟨S8x4096x1536, .f32⟩
  | .hbm, ⟨33, _⟩ => ⟨S8x4096x512, .f32⟩
  | .hbm, ⟨34, _⟩ => ⟨S8x4096x512, .f32⟩
  | .hbm, ⟨35, _⟩ => ⟨S8x4096x512, .f32⟩
  | .hbm, ⟨36, _⟩ => ⟨S1024x768, .f32⟩
  | .hbm, ⟨37, _⟩ => ⟨S8x4096x768, .f32⟩
  | .hbm, ⟨38, _⟩ => ⟨S8x4096x128, .f32⟩
  | .hbm, ⟨39, _⟩ => ⟨S_, .f32⟩
  | .hbm, ⟨40, _⟩ => ⟨S8x4096x512, .f32⟩
  | .hbm, ⟨41, _⟩ => ⟨S8x4096x512, .f32⟩
  | .hbm, ⟨42, _⟩ => ⟨S8x4096x1024, .f32⟩
  | .hbm, ⟨43, _⟩ => ⟨S1024x2048, .f32⟩
  | .hbm, ⟨44, _⟩ => ⟨S8x4096x2048, .f32⟩
  | .hbm, ⟨45, _⟩ => ⟨S1x1x2048, .f32⟩
  | .hbm, ⟨46, _⟩ => ⟨S8x4096x2048, .f32⟩
  | .hbm, ⟨47, _⟩ => ⟨S8x4096x2048, .f32⟩
  | .hbm, ⟨48, _⟩ => ⟨S8x4096x2048, .f32⟩
  | .hbm, ⟨49, _⟩ => ⟨S8x4096x2048, .f32⟩
  | .hbm, ⟨50, _⟩ => ⟨S_, .f32⟩
  | .hbm, ⟨51, _⟩ => ⟨S8x4096x2048, .f32⟩
  | .hbm, ⟨52, _⟩ => ⟨S8x4096x2048, .f32⟩
  | .hbm, ⟨53, _⟩ => ⟨S_, .f32⟩
  | .hbm, ⟨54, _⟩ => ⟨S8x4096x2048, .f32⟩
  | .hbm, ⟨55, _⟩ => ⟨S8x4096x2048, .f32⟩
  | .hbm, ⟨56, _⟩ => ⟨S8x512x4096, .f32⟩
  | .hbm, ⟨57, _⟩ => ⟨S8x128x4096, .f32⟩
  | .hbm, ⟨58, _⟩ => ⟨S8x4096x1024, .bf16⟩
  | .hbm, ⟨59, _⟩ => ⟨S8x512x4096, .bf16⟩
  | .hbm, ⟨60, _⟩ => ⟨S8x128x4096, .bf16⟩
  | .hbm, ⟨61, _⟩ => ⟨S8x4096x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Proof.Triple.lean ====
/-
  A small program logic over the buffers the token mixers' body works on. The body holds nineteen memrefs: nine
  input windows, two output windows and eight scratch buffers. Every one is owned whole while the body runs; the
  inputs keep their contents, the buffers of the first attention have contents the logic records (`St`), and the
  buffers only the second attention uses hold something unnamed. `W p Q s` says that the program `p`, run from
  the recorded contents `s`, returns with a value and recorded contents of which `Q` holds.
-/
module

public import Idealize.ShloMosaic.Lib.Scf
public import Idealize.ShloMosaic.Lib.Memref
public import Idealize.ShloMosaic.Lib.Pipeline.Frame

@[expose] public section

noncomputable section

namespace Mixers

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

abbrev SQ : Shape := ⟨3, ![1, 256, 512]⟩
abbrev SK : Shape := ⟨3, ![1, 4096, 512]⟩
abbrev SV : Shape := ⟨3, ![1, 512, 4096]⟩
abbrev SM : Shape := ⟨3, ![1, 4096, 128]⟩
abbrev SVd : Shape := ⟨3, ![1, 128, 4096]⟩
abbrev SSc : Shape := ⟨2, ![4096, 256]⟩
abbrev SExt : Shape := ⟨2, ![16, 256]⟩
abbrev SBuf : Shape := ⟨3, ![2, 256, 1024]⟩
abbrev SRow : Shape := ⟨2, ![8, 1024]⟩
abbrev SAcc : Shape := ⟨2, ![128, 1024]⟩

variable {nD : Nat} {τ : Topo} {sig : RefSig} {Val : EltTy → Type}

/-- The memrefs the body is given, and the contents of the input windows. -/
structure Refs (sig : RefSig) (Val : EltTy → Type) where
  r2 : Memref sig .tc .vmem SQ .bf16
  r3 : Memref sig .tc .vmem SK .bf16
  r4 : Memref sig .tc .vmem SV .bf16
  r5 : Memref sig .tc .vmem SM .f32
  r6 : Memref sig .tc .vmem SQ .bf16
  r7 : Memref sig .tc .vmem SM .bf16
  r8 : Memref sig .tc .vmem SQ .bf16
  r9 : Memref sig .tc .vmem SM .bf16
  r10 : Memref sig .tc .vmem SVd .bf16
  r11 : Memref sig .tc .vmem SQ .bf16
  r12 : Memref sig .tc .vmem SQ .bf16
  r13 : Memref sig .tc .vmem SSc .f32
  r14 : Memref sig .tc .vmem SExt .f32
  r15 : Memref sig .tc .vmem SBuf .f32
  r16 : Memref sig .tc .vmem SBuf .bf16
  r17 : Memref sig .tc .vmem SRow .f32
  r18 : Memref sig .tc .vmem SRow .f32
  r19 : Memref sig .tc .vmem SRow .f32
  r20 : Memref sig .tc .vmem SAcc .f32
  x2 : SQ.Idx → Val .bf16
  x3 : SK.Idx → Val .bf16
  x4 : SV.Idx → Val .bf16
  x5 : SM.Idx → Val .f32
  x6 : SQ.Idx → Val .bf16
  x7 : SM.Idx → Val .bf16
  x8 : SQ.Idx → Val .bf16
  x9 : SM.Idx → Val .bf16
  x10 : SVd.Idx → Val .bf16

/-- The recorded contents: the first attention's output, its two score buffers, its two weight buffers, the running
    maximum, the running sum, the pending rescale, and the accumulator. -/
@[ext] structure St (Val : EltTy → Type) where
  o : SQ.Idx → Val .bf16
  sb : SBuf.Idx → Val .f32
  pb : SBuf.Idx → Val .bf16
  m : SRow.Idx → Val .f32
  l : SRow.Idx → Val .f32
  a : SRow.Idx → Val .f32
  acc : SAcc.Idx → Val .f32

section
variable {Ix : Type} [DecidableEq Ix] {Name : Type} [DecidableEq Name] {U : Type} [URA U] {Lvl : Type}
local notation "𝕄" => MT nD τ sig Ix Val Name U Lvl

/-- A memref owned at some contents. -/
def some_ (c : Dev nD) {sh : Shape} {e : EltTy} (m : Memref sig .tc .vmem sh e) : sProp 𝕄 :=
  iprop(∃ X, owns (c : Thread nD τ) m fullShare X)

/-- A memref owned at given contents. -/
abbrev at_ (c : Dev nD) {sh : Shape} {e : EltTy} (m : Memref sig .tc .vmem sh e) (X : sh.Idx → Val e) : sProp 𝕄 :=
  owns (c : Thread nD τ) m fullShare X

/-- The nineteen memrefs. -/
inductive Buf | b2 | b3 | b4 | b5 | b6 | b7 | b8 | b9 | b10 | b11 | b12 | b13 | b14 | b15 | b16 | b17 | b18 | b19 | b20
  deriving DecidableEq

instance : Fintype Buf := ⟨{.b2, .b3, .b4, .b5, .b6, .b7, .b8, .b9, .b10, .b11, .b12, .b13, .b14, .b15, .b16, .b17, .b18, .b19, .b20}, fun x => by cases x <;> decide⟩

/-- The nineteen memrefs' ownership, one by one. -/
def comp (c : Dev nD) (R : Refs sig Val) (s : St Val) : Buf → sProp 𝕄
  | .b2 => at_ c R.r2 R.x2
  | .b3 => at_ c R.r3 R.x3
  | .b4 => at_ c R.r4 R.x4
  | .b5 => at_ c R.r5 R.x5
  | .b6 => at_ c R.r6 R.x6
  | .b7 => at_ c R.r7 R.x7
  | .b8 => at_ c R.r8 R.x8
  | .b9 => at_ c R.r9 R.x9
  | .b10 => at_ c R.r10 R.x10
  | .b11 => at_ c R.r11 s.o
  | .b12 => some_ c R.r12
  | .b13 => some_ c R.r13
  | .b14 => some_ c R.r14
  | .b15 => at_ c R.r15 s.sb
  | .b16 => at_ c R.r16 s.pb
  | .b17 => at_ c R.r17 s.m
  | .b18 => at_ c R.r18 s.l
  | .b19 => at_ c R.r19 s.a
  | .b20 => at_ c R.r20 s.acc

/-- All nineteen memrefs. -/
def Own (c : Dev nD) (R : Refs sig Val) (s : St Val) : sProp 𝕄 := bigSep Finset.univ (comp c R s)

/-- One memref and the others. -/
theorem Own_split (c : Dev nD) (R : Refs sig Val) (s : St Val) (i : Buf) :
    (Own c R s : sProp 𝕄) = iprop(comp c R s i ∗ bigSep (Finset.univ.erase i) (comp c R s)) :=
  bigSep_erase (Finset.mem_univ i)

/-- The others, when only the one memref's contents differ. -/
theorem Own_split' (c : Dev nD) (R : Refs sig Val) (s s' : St Val) (i : Buf)
    (h : ∀ j, j ≠ i → (comp c R s' j : sProp 𝕄) = comp c R s j) :
    (Own c R s' : sProp 𝕄) = iprop(comp c R s' i ∗ bigSep (Finset.univ.erase i) (comp c R s)) := by
  rw [Own_split c R s' i]
  exact congrArg (fun z => iprop(comp c R s' i ∗ z)) (bigSep_congr fun j hj => h j (Finset.ne_of_mem_erase hj))

end

section
variable {Ix : Type} [DecidableEq Ix] {Name : Type} [DecidableEq Name] {U : Type} [URA U] {Lvl : Type}
  [Preorder Lvl] {Λ : Labels}
local notation "𝕄" => MT nD τ sig Ix Val Name U Lvl

/-- Reading a rectangle of an owned memref. -/
theorem owns_load {defs : Defs nD τ sig Val Λ} (𝒱 : Variants) (c : Dev nD) (bd : Option 𝒱.V)
    (Γ : PendingWaitsCtx sig Ix) (E : Set Name) {sh : Shape} {e : EltTy} {α : Type}
    (m : Memref sig .tc .vmem sh e) (r : LoadRect sh) (hl : m.view.LoadsAt r) (X : sh.Idx → Val e)
    (k : (r.shape.Idx → Val e) → Prog (TpuEff nD τ sig Val Λ .tc) α) (Q : α → sProp 𝕄) :
    (at_ c m X : sProp 𝕄) ⊢ iprop((at_ c m X -∗ wp frame (wpE' defs 𝒱 (c : Thread nD τ) bd Γ) E (k fun j => X (r.idx j)) Q)
      -∗ wp frame (wpE' defs 𝒱 (c : Thread nD τ) bd Γ) E (.op (.load m r hl) k) Q) := by
  unfold at_ owns
  iintro ⟨%f, %hf, H⟩ Hk
  subst hf
  iapply (wp_load 𝒱 (c : Thread nD τ) bd E (m := m) (r := r) (hl := hl) (k := k) (S := m.view.set) (f := f)
    (m.view.setOn_subset_set r.set)) $$ H
  iintro H
  iapply Hk
  iexists f
  isplitr; · ipureintro; rfl
  iexact H

/-- Writing a rectangle of an owned memref. -/
theorem owns_store {defs : Defs nD τ sig Val Λ} (𝒱 : Variants) (c : Dev nD) (bd : Option 𝒱.V)
    (Γ : PendingWaitsCtx sig Ix) (E : Set Name) {sh : Shape} {e : EltTy} {α : Type}
    (m : Memref sig .tc .vmem sh e) (r : Rect sh) (w : r.shape.Idx → Val e)
    (hx : (m.access r).Stores Finset.univ) (hm) (X : sh.Idx → Val e)
    (k : PUnit → Prog (TpuEff nD τ sig Val Λ .tc) α) (Q : α → sProp 𝕄) :
    (at_ c m X : sProp 𝕄) ⊢ iprop((at_ c m (r.overlay X w) -∗ wp frame (wpE' defs 𝒱 (c : Thread nD τ) bd Γ) E (k ⟨⟩) Q)
      -∗ wp frame (wpE' defs 𝒱 (c : Thread nD τ) bd Γ) E (.op (.store m r w Finset.univ hx hm) k) Q) := by
  unfold at_ owns
  iintro ⟨%f, %hf, H⟩ Hk
  subst hf
  iapply (wp_store 𝒱 (c : Thread nD τ) bd E (m := m) (r := r) (w := w) (hx := hx) (hm := hm) (k := k) (S := m.view.set) (f := f)
    (m.setOn_access_subset r _)) $$ H
  iintro H
  iapply Hk
  iexists _
  isplitr
  swap; · iexact H
  ipureintro
  funext j
  by_cases h : j ∈ r.set
  · rw [← Rect.map_emb_univ, Finset.mem_map] at h
    obtain ⟨i, -, rfl⟩ := h
    rw [Rect.overlay_emb]
    exact View.read_slice_write_emb r f w (Finset.mem_univ i)
  · rw [Rect.overlay_of_not_mem _ _ _ h]
    exact View.read_slice_write_of_not_mem r f w _ (by rwa [Rect.map_emb_univ])

end

/-! ## The triple -/

section
variable {Ix : Type} [DecidableEq Ix] {Name : Type} [DecidableEq Name] {U : Type} [URA U] {Lvl : Type}
  [Preorder Lvl] {Λ : Labels}
local notation "𝕄" => MT nD τ sig Ix Val Name U Lvl

/-- What a triple is stated over: the device, the memrefs, the functions a call may enter with their variants, the
    bound on the variant, and the waits pending. -/
structure Ctx (nD : Nat) (τ : Topo) (sig : RefSig) (Val : EltTy → Type) (Λ : Labels) (Ix : Type) [DecidableEq Ix] where
  c : Dev nD
  R : Refs sig Val
  defs : Defs nD τ sig Val Λ
  𝒱 : Variants
  bd : Option 𝒱.V
  Γ : PendingWaitsCtx sig Ix

variable (Name U Lvl) in
/-- From the buffers at `s`, the program returns a value and leaves the buffers at contents of which `Q` holds. -/
def W (C : Ctx nD τ sig Val Λ Ix) {α : Type} (p : Prog (TpuEff nD τ sig Val Λ .tc) α) (Q : α → St Val → Prop) (s : St Val) : Prop :=
  (Own C.c C.R s : sProp 𝕄) ⊢ wp frame (wpE' C.defs C.𝒱 (C.c : Thread nD τ) C.bd C.Γ) (Set.univ : Set Name) p
    (fun a => iprop(∃ s', ⌜Q a s'⌝ ∗ Own C.c C.R s'))

variable {C : Ctx nD τ sig Val Λ Ix} {α β : Type} {s : St Val}
local notation "𝕎" => W Name U Lvl
local notation "ℙ" => Prog (TpuEff nD τ sig Val Λ Proc.tc)

theorem W.mono {p : ℙ α} {Q Q' : α → St Val → Prop} (h : 𝕎 C p Q s) (hQ : ∀ a s', Q a s' → Q' a s') : 𝕎 C p Q' s := by
  refine BIBase.Entails.trans h (wp_mono _ _ _ fun a => ?_)
  iintro ⟨%s', %hs, H⟩
  iexists s'
  isplitr; · ipureintro; exact hQ _ _ hs
  iexact H

theorem W.pure {a : α} {Q : α → St Val → Prop} (h : Q a s) : 𝕎 C (Pure.pure a : ℙ α) Q s := by
  unfold W
  rw [Prog.pure_eq_ret, wp_ret]
  iintro H
  imodintro
  iexists s
  isplitr; · ipureintro; exact h
  iexact H

/-- The buffers' contents need only be known as far as some property of them. -/
theorem W.bind {p : ℙ α} {k : α → ℙ β} {Q : β → St Val → Prop} (P : α → St Val → Prop) (h : 𝕎 C p P s)
    (hk : ∀ a s', P a s' → 𝕎 C (k a) Q s') : 𝕎 C (p >>= k) Q s := by
  unfold W at *
  rw [wp_bind]
  refine BIBase.Entails.trans h (wp_mono _ _ _ fun a => ?_)
  iintro ⟨%s', %hs, H⟩
  iapply (hk a s' hs); iexact H

/-- A single read of a memref held at `X`. -/
theorem W.load_of {sh : Shape} {e : EltTy} {m : Memref sig .tc .vmem sh e} {r : LoadRect sh} {hl : m.view.LoadsAt r}
    {X : sh.Idx → Val e} (Rest : sProp 𝕄) (hsplit : (Own C.c C.R s : sProp 𝕄) = iprop(at_ C.c m X ∗ Rest))
    {k : (r.shape.Idx → Val e) → ℙ β} {Q : β → St Val → Prop} (hk : 𝕎 C (k fun j => X (r.idx j)) Q s) :
    𝕎 C (Prog.lift (.load m r hl) >>= k) Q s := by
  unfold W at *
  rw [Prog.bind_lift]
  rw [hsplit] at hk ⊢
  iintro ⟨H, HR⟩
  iapply (owns_load C.𝒱 C.c C.bd C.Γ Set.univ m r hl X k _) $$ H
  iintro H
  iapply hk
  isplitl [H]; · iexact H
  iexact HR

/-- A single read of a memref held at something unnamed. -/
theorem W.load_some {sh : Shape} {e : EltTy} {m : Memref sig .tc .vmem sh e} {r : LoadRect sh} {hl : m.view.LoadsAt r}
    (Rest : sProp 𝕄) (hsplit : (Own C.c C.R s : sProp 𝕄) = iprop(some_ C.c m ∗ Rest))
    {k : (r.shape.Idx → Val e) → ℙ β} {Q : β → St Val → Prop} (hk : ∀ v, 𝕎 C (k v) Q s) :
    𝕎 C (Prog.lift (.load m r hl) >>= k) Q s := by
  unfold W at *
  rw [Prog.bind_lift]
  rw [hsplit] at hk ⊢
  unfold some_ at *
  iintro ⟨⟨%X, H⟩, HR⟩
  iapply (owns_load C.𝒱 C.c C.bd C.Γ Set.univ m r hl X k _) $$ H
  iintro H
  iapply hk
  isplitl [H]; · iexists X; iexact H
  iexact HR

/-- A single write of a memref held at `X`. -/
theorem W.store_of {sh : Shape} {e : EltTy} {m : Memref sig .tc .vmem sh e} {r : Rect sh} {w : r.shape.Idx → Val e}
    {hx : (m.access r).Stores Finset.univ} {hm}
    {X : sh.Idx → Val e} {s' : St Val} (Rest : sProp 𝕄) (hsplit : (Own C.c C.R s : sProp 𝕄) = iprop(at_ C.c m X ∗ Rest))
    (hsplit' : (Own C.c C.R s' : sProp 𝕄) = iprop(at_ C.c m (r.overlay X w) ∗ Rest))
    {k : PUnit → ℙ β} {Q : β → St Val → Prop} (hk : 𝕎 C (k ⟨⟩) Q s') :
    𝕎 C (Prog.lift (.store m r w Finset.univ hx hm) >>= k) Q s := by
  unfold W at *
  rw [Prog.bind_lift]
  rw [hsplit'] at hk
  rw [hsplit]
  iintro ⟨H, HR⟩
  iapply (owns_store C.𝒱 C.c C.bd C.Γ Set.univ m r w hx hm X k _) $$ H
  iintro H
  iapply hk
  isplitl [H]; · iexact H
  iexact HR

/-- A single write of a memref held at something unnamed. -/
theorem W.store_some {sh : Shape} {e : EltTy} {m : Memref sig .tc .vmem sh e} {r : Rect sh} {w : r.shape.Idx → Val e}
    {hx : (m.access r).Stores Finset.univ} {hm}
    (Rest : sProp 𝕄) (hsplit : (Own C.c C.R s : sProp 𝕄) = iprop(some_ C.c m ∗ Rest))
    {k : PUnit → ℙ β} {Q : β → St Val → Prop} (hk : 𝕎 C (k ⟨⟩) Q s) :
    𝕎 C (Prog.lift (.store m r w Finset.univ hx hm) >>= k) Q s := by
  unfold W at *
  rw [Prog.bind_lift]
  rw [hsplit] at hk ⊢
  unfold some_ at *
  iintro ⟨⟨%X, H⟩, HR⟩
  iapply (owns_store C.𝒱 C.c C.bd C.Γ Set.univ m r w hx hm X k _) $$ H
  iintro H
  iapply hk
  isplitl [H]; · iexists _; iexact H
  iexact HR

/-- A stated side condition that holds. -/
theorem W.assume {P : Prop} {d : Decidable P} {k : PLift P → ℙ β} {Q : β → St Val → Prop} (h : P) (hk : 𝕎 C (k ⟨h⟩) Q s) :
    𝕎 C (Prog.lift (.assume P d) >>= k) Q s := by
  unfold W at *
  rw [Prog.bind_lift]
  exact BIBase.Entails.trans hk (wp_assume C.𝒱 (C.c : Thread nD τ) C.bd Set.univ h)

/-- A conditional, each side under its condition. -/
theorem W.ite {P : Prop} [Decidable P] {p q : ℙ α} {Q : α → St Val → Prop} (h₁ : P → 𝕎 C p Q s) (h₂ : ¬ P → 𝕎 C q Q s) :
    𝕎 C (if P then p else q) Q s := by
  by_cases h : P
  · rw [if_pos h]; exact h₁ h
  · rw [if_neg h]; exact h₂ h

theorem W.dite {P : Prop} [Decidable P] {p : P → ℙ α} {q : ¬ P → ℙ α} {Q : α → St Val → Prop} (h₁ : ∀ h, 𝕎 C (p h) Q s)
    (h₂ : ∀ h, 𝕎 C (q h) Q s) : 𝕎 C (if h : P then p h else q h) Q s := by
  by_cases h : P
  · rw [dif_pos h]; exact h₁ h
  · rw [dif_neg h]; exact h₂ h

/-! ### Tails, loops and calls -/

theorem W.tail {p : ℙ α} {Q : α → St Val → Prop} (h : 𝕎 C (p >>= Pure.pure) Q s) : 𝕎 C p Q s := by
  rwa [Prog.bind_pure] at h

/-- Running `p` and then its continuation, whatever `p` does. -/
theorem W.seq {p : ℙ α} {k : α → ℙ β} {Q : β → St Val → Prop} (h : 𝕎 C p (fun a s' => 𝕎 C (k a) Q s') s) : 𝕎 C (p >>= k) Q s :=
  W.bind _ h fun _ _ hk => hk

/-- A counted loop, by an invariant. -/
theorem W.for {w : Nat} {σ : Type} (l : Scf.Loop w) (hok : l.OK) (init : σ) (body : Fin l.trips → σ → ℙ σ)
    (I : Nat → σ → St Val → Prop) (h0 : I 0 init s)
    (hbody : ∀ (k : Fin l.trips) (acc : σ) (s : St Val), I k acc s → 𝕎 C (body k acc) (I (k.val + 1)) s) :
    𝕎 C (Scf.Loop.for l hok init body) (I l.trips) s := by
  unfold W
  refine BIBase.Entails.trans ?_ (Scf.wp_for (M := 𝕄) _ _ _ l.lb l.ub l.st hok init body
    (fun k acc => iprop(∃ s', ⌜I k acc s'⌝ ∗ Own C.c C.R s')) ?_)
  · iintro H
    isplitl [H]
    · iexists s
      isplitr; · ipureintro; exact h0
      iexact H
    · iintro %acc H; iexact H
  · intro k acc
    iintro ⟨%s', %hs, H⟩
    have hb := hbody k acc s' hs
    unfold W at hb
    iapply hb; iexact H

/-- A call, its body run one variant lower. -/
theorem W.call {ℓ : Λ.Label} {a : Λ.Args ℓ} {Q : Λ.Result ℓ → St Val → Prop} (v : C.𝒱.V) (hv : ∀ u ∈ C.bd, C.𝒱.lt v u)
    (h : 𝕎 { C with bd := some v, Γ := C.Γ.descend none } (C.defs .tc ℓ a) Q s) : 𝕎 C (Prog.lift (.call ℓ a)) Q s := by
  unfold W at *
  refine BIBase.Entails.trans ?_ (wp_call C.𝒱 (C.c : Thread nD τ) C.bd Set.univ v hv)
  refine BIBase.Entails.trans h (wp_mono _ _ _ fun x => ?_)
  rw [wp_ret]
  iintro H
  imodintro
  iexact H

/-! ### Reads and writes of each memref -/

theorem W.load2 {r : LoadRect SQ} {hl : C.R.r2.view.LoadsAt r} {k : (r.shape.Idx → Val _) → ℙ β} {Q : β → St Val → Prop}
    (hk : 𝕎 C (k fun j => C.R.x2 (r.idx j)) Q s) : 𝕎 C (Prog.lift (.load C.R.r2 r hl) >>= k) Q s :=
  W.load_of _ (Own_split C.c C.R s .b2) hk

theorem W.load3 {r : LoadRect SK} {hl : C.R.r3.view.LoadsAt r} {k : (r.shape.Idx → Val _) → ℙ β} {Q : β → St Val → Prop}
    (hk : 𝕎 C (k fun j => C.R.x3 (r.idx j)) Q s) : 𝕎 C (Prog.lift (.load C.R.r3 r hl) >>= k) Q s :=
  W.load_of _ (Own_split C.c C.R s .b3) hk

theorem W.load4 {r : LoadRect SV} {hl : C.R.r4.view.LoadsAt r} {k : (r.shape.Idx → Val _) → ℙ β} {Q : β → St Val → Prop}
    (hk : 𝕎 C (k fun j => C.R.x4 (r.idx j)) Q s) : 𝕎 C (Prog.lift (.load C.R.r4 r hl) >>= k) Q s :=
  W.load_of _ (Own_split C.c C.R s .b4) hk

theorem W.load5 {r : LoadRect SM} {hl : C.R.r5.view.LoadsAt r} {k : (r.shape.Idx → Val _) → ℙ β} {Q : β → St Val → Prop}
    (hk : 𝕎 C (k fun j => C.R.x5 (r.idx j)) Q s) : 𝕎 C (Prog.lift (.load C.R.r5 r hl) >>= k) Q s :=
  W.load_of _ (Own_split C.c C.R s .b5) hk

theorem W.load6 {r : LoadRect SQ} {hl : C.R.r6.view.LoadsAt r} {k : (r.shape.Idx → Val _) → ℙ β} {Q : β → St Val → Prop}
    (hk : 𝕎 C (k fun j => C.R.x6 (r.idx j)) Q s) : 𝕎 C (Prog.lift (.load C.R.r6 r hl) >>= k) Q s :=
  W.load_of _ (Own_split C.c C.R s .b6) hk

theorem W.load7 {r : LoadRect SM} {hl : C.R.r7.view.LoadsAt r} {k : (r.shape.Idx → Val _) → ℙ β} {Q : β → St Val → Prop}
    (hk : 𝕎 C (k fun j => C.R.x7 (r.idx j)) Q s) : 𝕎 C (Prog.lift (.load C.R.r7 r hl) >>= k) Q s :=
  W.load_of _ (Own_split C.c C.R s .b7) hk

theorem W.load8 {r : LoadRect SQ} {hl : C.R.r8.view.LoadsAt r} {k : (r.shape.Idx → Val _) → ℙ β} {Q : β → St Val → Prop}
    (hk : 𝕎 C (k fun j => C.R.x8 (r.idx j)) Q s) : 𝕎 C (Prog.lift (.load C.R.r8 r hl) >>= k) Q s :=
  W.load_of _ (Own_split C.c C.R s .b8) hk

theorem W.load9 {r : LoadRect SM} {hl : C.R.r9.view.LoadsAt r} {k : (r.shape.Idx → Val _) → ℙ β} {Q : β → St Val → Prop}
    (hk : 𝕎 C (k fun j => C.R.x9 (r.idx j)) Q s) : 𝕎 C (Prog.lift (.load C.R.r9 r hl) >>= k) Q s :=
  W.load_of _ (Own_split C.c C.R s .b9) hk

theorem W.load10 {r : LoadRect SVd} {hl : C.R.r10.view.LoadsAt r} {k : (r.shape.Idx → Val _) → ℙ β} {Q : β → St Val → Prop}
    (hk : 𝕎 C (k fun j => C.R.x10 (r.idx j)) Q s) : 𝕎 C (Prog.lift (.load C.R.r10 r hl) >>= k) Q s :=
  W.load_of _ (Own_split C.c C.R s .b10) hk

theorem W.load11 {r : LoadRect SQ} {hl : C.R.r11.view.LoadsAt r} {k : (r.shape.Idx → Val _) → ℙ β} {Q : β → St Val → Prop}
    (hk : 𝕎 C (k fun j => s.o (r.idx j)) Q s) : 𝕎 C (Prog.lift (.load C.R.r11 r hl) >>= k) Q s :=
  W.load_of _ (Own_split C.c C.R s .b11) hk

theorem W.store11 {r : Rect SQ} {w : r.shape.Idx → Val _} {hx : (C.R.r11.access r).Stores Finset.univ} {hm}
    {k : PUnit → ℙ β} {Q : β → St Val → Prop} (hk : 𝕎 C (k ⟨⟩) Q { s with o := r.overlay s.o w }) :
    𝕎 C (Prog.lift (.store C.R.r11 r w Finset.univ hx hm) >>= k) Q s :=
  W.store_of _ (Own_split C.c C.R s .b11) (Own_split' C.c C.R s _ .b11 fun j hj => by
    cases j <;> first | exact absurd rfl hj | rfl) hk

theorem W.load15 {r : LoadRect SBuf} {hl : C.R.r15.view.LoadsAt r} {k : (r.shape.Idx → Val _) → ℙ β} {Q : β → St Val → Prop}
    (hk : 𝕎 C (k fun j => s.sb (r.idx j)) Q s) : 𝕎 C (Prog.lift (.load C.R.r15 r hl) >>= k) Q s :=
  W.load_of _ (Own_split C.c C.R s .b15) hk

theorem W.store15 {r : Rect SBuf} {w : r.shape.Idx → Val _} {hx : (C.R.r15.access r).Stores Finset.univ} {hm}
    {k : PUnit → ℙ β} {Q : β → St Val → Prop} (hk : 𝕎 C (k ⟨⟩) Q { s with sb := r.overlay s.sb w }) :
    𝕎 C (Prog.lift (.store C.R.r15 r w Finset.univ hx hm) >>= k) Q s :=
  W.store_of _ (Own_split C.c C.R s .b15) (Own_split' C.c C.R s _ .b15 fun j hj => by
    cases j <;> first | exact absurd rfl hj | rfl) hk

theorem W.load16 {r : LoadRect SBuf} {hl : C.R.r16.view.LoadsAt r} {k : (r.shape.Idx → Val _) → ℙ β} {Q : β → St Val → Prop}
    (hk : 𝕎 C (k fun j => s.pb (r.idx j)) Q s) : 𝕎 C (Prog.lift (.load C.R.r16 r hl) >>= k) Q s :=
  W.load_of _ (Own_split C.c C.R s .b16) hk

theorem W.store16 {r : Rect SBuf} {w : r.shape.Idx → Val _} {hx : (C.R.r16.access r).Stores Finset.univ} {hm}
    {k : PUnit → ℙ β} {Q : β → St Val → Prop} (hk : 𝕎 C (k ⟨⟩) Q { s with pb := r.overlay s.pb w }) :
    𝕎 C (Prog.lift (.store C.R.r16 r w Finset.univ hx hm) >>= k) Q s :=
  W.store_of _ (Own_split C.c C.R s .b16) (Own_split' C.c C.R s _ .b16 fun j hj => by
    cases j <;> first | exact absurd rfl hj | rfl) hk

theorem W.load17 {r : LoadRect SRow} {hl : C.R.r17.view.LoadsAt r} {k : (r.shape.Idx → Val _) → ℙ β} {Q : β → St Val → Prop}
    (hk : 𝕎 C (k fun j => s.m (r.idx j)) Q s) : 𝕎 C (Prog.lift (.load C.R.r17 r hl) >>= k) Q s :=
  W.load_of _ (Own_split C.c C.R s .b17) hk

theorem W.store17 {r : Rect SRow} {w : r.shape.Idx → Val _} {hx : (C.R.r17.access r).Stores Finset.univ} {hm}
    {k : PUnit → ℙ β} {Q : β → St Val → Prop} (hk : 𝕎 C (k ⟨⟩) Q { s with m := r.overlay s.m w }) :
    𝕎 C (Prog.lift (.store C.R.r17 r w Finset.univ hx hm) >>= k) Q s :=
  W.store_of _ (Own_split C.c C.R s .b17) (Own_split' C.c C.R s _ .b17 fun j hj => by
    cases j <;> first | exact absurd rfl hj | rfl) hk

theorem W.load18 {r : LoadRect SRow} {hl : C.R.r18.view.LoadsAt r} {k : (r.shape.Idx → Val _) → ℙ β} {Q : β → St Val → Prop}
    (hk : 𝕎 C (k fun j => s.l (r.idx j)) Q s) : 𝕎 C (Prog.lift (.load C.R.r18 r hl) >>= k) Q s :=
  W.load_of _ (Own_split C.c C.R s .b18) hk

theorem W.store18 {r : Rect SRow} {w : r.shape.Idx → Val _} {hx : (C.R.r18.access r).Stores Finset.univ} {hm}
    {k : PUnit → ℙ β} {Q : β → St Val → Prop} (hk : 𝕎 C (k ⟨⟩) Q { s with l := r.overlay s.l w }) :
    𝕎 C (Prog.lift (.store C.R.r18 r w Finset.univ hx hm) >>= k) Q s :=
  W.store_of _ (Own_split C.c C.R s .b18) (Own_split' C.c C.R s _ .b18 fun j hj => by
    cases j <;> first | exact absurd rfl hj | rfl) hk

theorem W.load19 {r : LoadRect SRow} {hl : C.R.r19.view.LoadsAt r} {k : (r.shape.Idx → Val _) → ℙ β} {Q : β → St Val → Prop}
    (hk : 𝕎 C (k fun j => s.a (r.idx j)) Q s) : 𝕎 C (Prog.lift (.load C.R.r19 r hl) >>= k) Q s :=
  W.load_of _ (Own_split C.c C.R s .b19) hk

theorem W.store19 {r : Rect SRow} {w : r.shape.Idx → Val _} {hx : (C.R.r19.access r).Stores Finset.univ} {hm}
    {k : PUnit → ℙ β} {Q : β → St Val → Prop} (hk : 𝕎 C (k ⟨⟩) Q { s with a := r.overlay s.a w }) :
    𝕎 C (Prog.lift (.store C.R.r19 r w Finset.univ hx hm) >>= k) Q s :=
  W.store_of _ (Own_split C.c C.R s .b19) (Own_split' C.c C.R s _ .b19 fun j hj => by
    cases j <;> first | exact absurd rfl hj | rfl) hk

theorem W.load20 {r : LoadRect SAcc} {hl : C.R.r20.view.LoadsAt r} {k : (r.shape.Idx → Val _) → ℙ β} {Q : β → St Val → Prop}
    (hk : 𝕎 C (k fun j => s.acc (r.idx j)) Q s) : 𝕎 C (Prog.lift (.load C.R.r20 r hl) >>= k) Q s :=
  W.load_of _ (Own_split C.c C.R s .b20) hk

theorem W.store20 {r : Rect SAcc} {w : r.shape.Idx → Val _} {hx : (C.R.r20.access r).Stores Finset.univ} {hm}
    {k : PUnit → ℙ β} {Q : β → St Val → Prop} (hk : 𝕎 C (k ⟨⟩) Q { s with acc := r.overlay s.acc w }) :
    𝕎 C (Prog.lift (.store C.R.r20 r w Finset.univ hx hm) >>= k) Q s :=
  W.store_of _ (Own_split C.c C.R s .b20) (Own_split' C.c C.R s _ .b20 fun j hj => by
    cases j <;> first | exact absurd rfl hj | rfl) hk

theorem W.load12 {r : LoadRect SQ} {hl : C.R.r12.view.LoadsAt r} {k : (r.shape.Idx → Val _) → ℙ β} {Q : β → St Val → Prop}
    (hk : ∀ v, 𝕎 C (k v) Q s) : 𝕎 C (Prog.lift (.load C.R.r12 r hl) >>= k) Q s :=
  W.load_some _ (Own_split C.c C.R s .b12) hk

theorem W.store12 {r : Rect SQ} {w : r.shape.Idx → Val _} {hx : (C.R.r12.access r).Stores Finset.univ} {hm}
    {k : PUnit → ℙ β} {Q : β → St Val → Prop} (hk : 𝕎 C (k ⟨⟩) Q s) : 𝕎 C (Prog.lift (.store C.R.r12 r w Finset.univ hx hm) >>= k) Q s :=
  W.store_some _ (Own_split C.c C.R s .b12) hk

theorem W.load13 {r : LoadRect SSc} {hl : C.R.r13.view.LoadsAt r} {k : (r.shape.Idx → Val _) → ℙ β} {Q : β → St Val → Prop}
    (hk : ∀ v, 𝕎 C (k v) Q s) : 𝕎 C (Prog.lift (.load C.R.r13 r hl) >>= k) Q s :=
  W.load_some _ (Own_split C.c C.R s .b13) hk

theorem W.store13 {r : Rect SSc} {w : r.shape.Idx → Val _} {hx : (C.R.r13.access r).Stores Finset.univ} {hm}
    {k : PUnit → ℙ β} {Q : β → St Val → Prop} (hk : 𝕎 C (k ⟨⟩) Q s) : 𝕎 C (Prog.lift (.store C.R.r13 r w Finset.univ hx hm) >>= k) Q s :=
  W.store_some _ (Own_split C.c C.R s .b13) hk

theorem W.load14 {r : LoadRect SExt} {hl : C.R.r14.view.LoadsAt r} {k : (r.shape.Idx → Val _) → ℙ β} {Q : β → St Val → Prop}
    (hk : ∀ v, 𝕎 C (k v) Q s) : 𝕎 C (Prog.lift (.load C.R.r14 r hl) >>= k) Q s :=
  W.load_some _ (Own_split C.c C.R s .b14) hk

theorem W.store14 {r : Rect SExt} {w : r.shape.Idx → Val _} {hx : (C.R.r14.access r).Stores Finset.univ} {hm}
    {k : PUnit → ℙ β} {Q : β → St Val → Prop} (hk : 𝕎 C (k ⟨⟩) Q s) : 𝕎 C (Prog.lift (.store C.R.r14 r w Finset.univ hx hm) >>= k) Q s :=
  W.store_some _ (Own_split C.c C.R s .b14) hk

end

end Mixers
end
-- ==== Proof.Keep.lean ====
/-
  Programs that run safely from any contents of the buffers. `Keep b C p` says that `p` runs from every recorded
  contents and, if `b` holds, leaves the first attention's output as it was. It is closed under sequencing, counted
  loops, conditionals and calls, and asks nothing of the values read or written.
-/
module

public import proofs.«01_k».proof.Proof.Triple

@[expose] public section

noncomputable section

namespace Mixers

open Idealize.ShloMosaic Idealize.ShloMosaic.TcCoe
open Idealize.SL Idealize.SL.RA Idealize.SL.BI
open scoped Idealize.SL.BI
open Idealize.SL.BI.BIBase Idealize.SL.Sem

variable {nD : Nat} {τ : Topo} {sig : RefSig} {Val : EltTy → Type}
variable {Ix : Type} [DecidableEq Ix] {Name : Type} [DecidableEq Name] {U : Type} [URA U] {Lvl : Type}
  [Preorder Lvl] {Λ : Labels}
local notation "𝕄" => MT nD τ sig Ix Val Name U Lvl

variable (Ix Name U Lvl) in
/-- A memref of the body's: it may be read. -/
class Loads (R : Refs sig Val) {sh : Shape} {e : EltTy} (m : Memref sig .tc .vmem sh e) : Prop where
  out : ∀ (c : Dev nD) (s : St Val), (∃ (X : sh.Idx → Val e) (Rest : sProp 𝕄), (Own c R s : sProp 𝕄) = iprop(at_ c m X ∗ Rest))
    ∨ ∃ Rest : sProp 𝕄, (Own c R s : sProp 𝕄) = iprop(some_ c m ∗ Rest)

variable (Ix Name U Lvl) in
/-- A memref of the body's that may be written; under `b`, not the first attention's output. -/
class Stores (b : Bool) (R : Refs sig Val) {sh : Shape} {e : EltTy} (m : Memref sig .tc .vmem sh e) : Prop where
  out : ∀ (c : Dev nD) (s : St Val), (∃ (X : sh.Idx → Val e) (Rest : sProp 𝕄), (Own c R s : sProp 𝕄) = iprop(at_ c m X ∗ Rest)
      ∧ ∀ X' : sh.Idx → Val e, ∃ s' : St Val, (b → s'.o = s.o) ∧ (Own c R s' : sProp 𝕄) = iprop(at_ c m X' ∗ Rest))
    ∨ ∃ Rest : sProp 𝕄, (Own c R s : sProp 𝕄) = iprop(some_ c m ∗ Rest)

section
variable {R : Refs sig Val} {b : Bool}
instance : Loads (nD := nD) (τ := τ) Ix Name U Lvl R R.r2 := ⟨fun c s => .inl ⟨_, _, Own_split c R s .b2⟩⟩
instance : Loads (nD := nD) (τ := τ) Ix Name U Lvl R R.r3 := ⟨fun c s => .inl ⟨_, _, Own_split c R s .b3⟩⟩
instance : Loads (nD := nD) (τ := τ) Ix Name U Lvl R R.r4 := ⟨fun c s => .inl ⟨_, _, Own_split c R s .b4⟩⟩
instance : Loads (nD := nD) (τ := τ) Ix Name U Lvl R R.r5 := ⟨fun c s => .inl ⟨_, _, Own_split c R s .b5⟩⟩
instance : Loads (nD := nD) (τ := τ) Ix Name U Lvl R R.r6 := ⟨fun c s => .inl ⟨_, _, Own_split c R s .b6⟩⟩
instance : Loads (nD := nD) (τ := τ) Ix Name U Lvl R R.r7 := ⟨fun c s => .inl ⟨_, _, Own_split c R s .b7⟩⟩
instance : Loads (nD := nD) (τ := τ) Ix Name U Lvl R R.r8 := ⟨fun c s => .inl ⟨_, _, Own_split c R s .b8⟩⟩
instance : Loads (nD := nD) (τ := τ) Ix Name U Lvl R R.r9 := ⟨fun c s => .inl ⟨_, _, Own_split c R s .b9⟩⟩
instance : Loads (nD := nD) (τ := τ) Ix Name U Lvl R R.r10 := ⟨fun c s => .inl ⟨_, _, Own_split c R s .b10⟩⟩
instance : Loads (nD := nD) (τ := τ) Ix Name U Lvl R R.r11 := ⟨fun c s => .inl ⟨_, _, Own_split c R s .b11⟩⟩
instance : Loads (nD := nD) (τ := τ) Ix Name U Lvl R R.r15 := ⟨fun c s => .inl ⟨_, _, Own_split c R s .b15⟩⟩
instance : Loads (nD := nD) (τ := τ) Ix Name U Lvl R R.r16 := ⟨fun c s => .inl ⟨_, _, Own_split c R s .b16⟩⟩
instance : Loads (nD := nD) (τ := τ) Ix Name U Lvl R R.r17 := ⟨fun c s => .inl ⟨_, _, Own_split c R s .b17⟩⟩
instance : Loads (nD := nD) (τ := τ) Ix Name U Lvl R R.r18 := ⟨fun c s => .inl ⟨_, _, Own_split c R s .b18⟩⟩
instance : Loads (nD := nD) (τ := τ) Ix Name U Lvl R R.r19 := ⟨fun c s => .inl ⟨_, _, Own_split c R s .b19⟩⟩
instance : Loads (nD := nD) (τ := τ) Ix Name U Lvl R R.r20 := ⟨fun c s => .inl ⟨_, _, Own_split c R s .b20⟩⟩
instance : Loads (nD := nD) (τ := τ) Ix Name U Lvl R R.r12 := ⟨fun c s => .inr ⟨_, Own_split c R s .b12⟩⟩
instance : Loads (nD := nD) (τ := τ) Ix Name U Lvl R R.r13 := ⟨fun c s => .inr ⟨_, Own_split c R s .b13⟩⟩
instance : Loads (nD := nD) (τ := τ) Ix Name U Lvl R R.r14 := ⟨fun c s => .inr ⟨_, Own_split c R s .b14⟩⟩
instance : Stores (nD := nD) (τ := τ) Ix Name U Lvl b R R.r12 := ⟨fun c s => .inr ⟨_, Own_split c R s .b12⟩⟩
instance : Stores (nD := nD) (τ := τ) Ix Name U Lvl b R R.r13 := ⟨fun c s => .inr ⟨_, Own_split c R s .b13⟩⟩
instance : Stores (nD := nD) (τ := τ) Ix Name U Lvl b R R.r14 := ⟨fun c s => .inr ⟨_, Own_split c R s .b14⟩⟩
instance : Stores (nD := nD) (τ := τ) Ix Name U Lvl false R R.r11 := ⟨fun c s => .inl ⟨_, _, Own_split c R s .b11, fun X' =>
  ⟨{ s with o := X' }, (fun h => nomatch h), Own_split' c R s _ .b11 fun j hj => by cases j <;> first | exact absurd rfl hj | rfl⟩⟩⟩
instance : Stores (nD := nD) (τ := τ) Ix Name U Lvl b R R.r15 := ⟨fun c s => .inl ⟨_, _, Own_split c R s .b15, fun X' =>
  ⟨{ s with sb := X' }, (fun _ => rfl), Own_split' c R s _ .b15 fun j hj => by cases j <;> first | exact absurd rfl hj | rfl⟩⟩⟩
instance : Stores (nD := nD) (τ := τ) Ix Name U Lvl b R R.r16 := ⟨fun c s => .inl ⟨_, _, Own_split c R s .b16, fun X' =>
  ⟨{ s with pb := X' }, (fun _ => rfl), Own_split' c R s _ .b16 fun j hj => by cases j <;> first | exact absurd rfl hj | rfl⟩⟩⟩
instance : Stores (nD := nD) (τ := τ) Ix Name U Lvl b R R.r17 := ⟨fun c s => .inl ⟨_, _, Own_split c R s .b17, fun X' =>
  ⟨{ s with m := X' }, (fun _ => rfl), Own_split' c R s _ .b17 fun j hj => by cases j <;> first | exact absurd rfl hj | rfl⟩⟩⟩
instance : Stores (nD := nD) (τ := τ) Ix Name U Lvl b R R.r18 := ⟨fun c s => .inl ⟨_, _, Own_split c R s .b18, fun X' =>
  ⟨{ s with l := X' }, (fun _ => rfl), Own_split' c R s _ .b18 fun j hj => by cases j <;> first | exact absurd rfl hj | rfl⟩⟩⟩
instance : Stores (nD := nD) (τ := τ) Ix Name U Lvl b R R.r19 := ⟨fun c s => .inl ⟨_, _, Own_split c R s .b19, fun X' =>
  ⟨{ s with a := X' }, (fun _ => rfl), Own_split' c R s _ .b19 fun j hj => by cases j <;> first | exact absurd rfl hj | rfl⟩⟩⟩
instance : Stores (nD := nD) (τ := τ) Ix Name U Lvl b R R.r20 := ⟨fun c s => .inl ⟨_, _, Own_split c R s .b20, fun X' =>
  ⟨{ s with acc := X' }, (fun _ => rfl), Own_split' c R s _ .b20 fun j hj => by cases j <;> first | exact absurd rfl hj | rfl⟩⟩⟩
end

variable (Name U Lvl) in
/-- `p` runs from every contents, and under `b` keeps the first attention's output. -/
def Keep (b : Bool) (C : Ctx nD τ sig Val Λ Ix) {α : Type} (p : Prog (TpuEff nD τ sig Val Λ .tc) α) : Prop :=
  ∀ s : St Val, W Name U Lvl C p (fun _ s' => b → s'.o = s.o) s

variable {C : Ctx nD τ sig Val Λ Ix} {α β : Type} {b : Bool}
local notation "𝕂" => Keep Name U Lvl
local notation "ℙ" => Prog (TpuEff nD τ sig Val Λ Proc.tc)

theorem Keep.pure {a : α} : 𝕂 b C (Pure.pure a : ℙ α) := fun _ => W.pure fun _ => rfl

theorem Keep.seq {p : ℙ α} {k : α → ℙ β} (h : 𝕂 b C p) (hk : ∀ a, 𝕂 b C (k a)) : 𝕂 b C (p >>= k) := fun s =>
  W.bind _ (h s) fun a s' hs => W.mono (hk a s') fun _ _ h' hb => (h' hb).trans (hs hb)

theorem Keep.load {sh : Shape} {e : EltTy} {m : Memref sig .tc .vmem sh e} [hm : Loads (nD := nD) (τ := τ) Ix Name U Lvl C.R m]
    {r : LoadRect sh} {hl : m.view.LoadsAt r} {k : (r.shape.Idx → Val e) → ℙ β} (hk : ∀ v, 𝕂 b C (k v)) :
    𝕂 b C (Prog.lift (.load m r hl) >>= k) := fun s => by
  rcases hm.out C.c s with ⟨X, Rest, h⟩ | ⟨Rest, h⟩
  · exact W.load_of Rest h (hk _ s)
  · exact W.load_some Rest h fun v => hk v s

theorem Keep.store {sh : Shape} {e : EltTy} {m : Memref sig .tc .vmem sh e} [hm : Stores (nD := nD) (τ := τ) Ix Name U Lvl b C.R m]
    {r : Rect sh} {w : r.shape.Idx → Val e} {hx : (m.access r).Stores Finset.univ} {hy}
    {k : PUnit → ℙ β} (hk : 𝕂 b C (k ⟨⟩)) :
    𝕂 b C (Prog.lift (.store m r w Finset.univ hx hy) >>= k) := fun s => by
  rcases hm.out C.c s with ⟨X, Rest, h, h'⟩ | ⟨Rest, h⟩
  · obtain ⟨s', ho, hs'⟩ := h' (r.overlay X w)
    exact W.store_of Rest h hs' (W.mono (hk s') fun _ _ g hb => (g hb).trans (ho hb))
  · exact W.store_some Rest h (hk s)

theorem Keep.store' {sh : Shape} {e : EltTy} {m : Memref sig .tc .vmem sh e} [hm : Stores (nD := nD) (τ := τ) Ix Name U Lvl b C.R m]
    {r : Rect sh} {w : r.shape.Idx → Val e} {hx : (m.access r).Stores Finset.univ} {hy} :
    𝕂 b C (Prog.lift (.store m r w Finset.univ hx hy)) := fun s => W.tail (Keep.store Keep.pure s)

theorem Keep.ite {P : Prop} [Decidable P] {p q : ℙ α} (h₁ : 𝕂 b C p) (h₂ : 𝕂 b C q) : 𝕂 b C (if P then p else q) := fun s =>
  W.ite (fun _ => h₁ s) fun _ => h₂ s

theorem Keep.dite {P : Prop} [Decidable P] {p : P → ℙ α} {q : ¬ P → ℙ α} (h₁ : ∀ h, 𝕂 b C (p h)) (h₂ : ∀ h, 𝕂 b C (q h)) :
    𝕂 b C (if h : P then p h else q h) := fun s => W.dite (fun h => h₁ h s) fun h => h₂ h s

theorem Keep.for {w : Nat} {σ : Type} {l : Scf.Loop w} {hok : l.OK} {init : σ} {body : Fin l.trips → σ → ℙ σ}
    (hbody : ∀ k acc, 𝕂 b C (body k acc)) : 𝕂 b C (Scf.Loop.for l hok init body) := fun s =>
  W.for l hok init body (fun _ _ s' => b → s'.o = s.o) (fun _ => rfl) fun k acc s' hs =>
    W.mono (hbody k acc s') fun _ _ h hb => (h hb).trans (hs hb)

theorem Keep.call {ℓ : Λ.Label} {a : Λ.Args ℓ} (v : C.𝒱.V) (hv : ∀ u ∈ C.bd, C.𝒱.lt v u)
    (h : 𝕂 b { C with bd := some v, Γ := C.Γ.descend none } (C.defs .tc ℓ a)) : 𝕂 b C (Prog.lift (.call ℓ a)) := fun s =>
  W.call v hv (h s)

end Mixers
-- ==== Proof.KernelIdeal.Loops.lean ====
/-
  The first attention's key loops run safely: four stages per trip.
-/
module

public import proofs.«01_k».proof.Proof.Gen.KernelIdeal.Skeleton
public import proofs.«01_k».proof.Proof.Keep

@[expose] public section

noncomputable section

namespace Cert.KernelIdeal.Body

open Idealize.ShloMosaic Idealize.SL Idealize.SL.RA Idealize.SL.Sem
open Cert.KernelIdeal Cert.KernelIdeal.Gen Mixers

variable {F : FTy → Type} [FloatOps F] [Named F]
variable {Ix : Type} [DecidableEq Ix] {Name : Type} [DecidableEq Name] {U : Type} [URA U] {Lvl : Type} [Preorder Lvl]
variable {b : Bool} {C : Ctx nD τ sig (Elt F) (Λ₀ F) Ix}
local notation "𝕂" => Keep Name U Lvl

set_option maxHeartbeats 4000000 in
/-- A trip of the loop over groups of four key chunks. -/
theorem keep_t1 (_i harg2 harg3 harg4 harg5 harg6 harg7 harg8 harg9 harg10 harg11 harg12 harg13 harg14 harg15 harg16 harg17 harg18 harg19 harg20 _arg1 _v34 _v40 _v46 _v52 _v58 _v64 _v70 _v76 _v82 _v175 tr cy) :
    𝕂 b C (k0_t1_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v34 _v40 _v46 _v52 _v58 _v64 _v70 _v76 _v82 _v175 tr cy) := by
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A trip of the loop's remainder. -/
theorem keep_t2 (_i harg2 harg3 harg4 harg5 harg6 harg7 harg8 harg9 harg10 harg11 harg12 harg13 harg14 harg15 harg16 harg17 harg18 harg19 harg20 _arg1 _v34 _v40 _v46 _v52 _v58 _v64 _v70 _v76 _v82 _v175 _v200 tr cy) :
    𝕂 b C (k0_t2_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v34 _v40 _v46 _v52 _v58 _v64 _v70 _v76 _v82 _v175 _v200 tr cy) := by
  unfold k0_t2_body
  simp only [k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
  delta k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

end Cert.KernelIdeal.Body
-- ==== Proof.KernelIdeal.Tail.lean ====
/-
  The stages after the first attention's key loop, by how many chunks are left over.
-/
module

public import proofs.«01_k».proof.Proof.Gen.KernelIdeal.Skeleton
public import proofs.«01_k».proof.Proof.Keep

@[expose] public section

noncomputable section

namespace Cert.KernelIdeal.Body

open Idealize.ShloMosaic Idealize.SL Idealize.SL.RA Idealize.SL.Sem
open Cert.KernelIdeal Cert.KernelIdeal.Gen Mixers

variable {F : FTy → Type} [FloatOps F] [Named F]
variable {Ix : Type} [DecidableEq Ix] {Name : Type} [DecidableEq Name] {U : Type} [URA U] {Lvl : Type} [Preorder Lvl]
variable {b : Bool} {C : Ctx nD τ sig (Elt F) (Λ₀ F) Ix}
local notation "𝕂" => Keep Name U Lvl

set_option maxHeartbeats 4000000 in
/-- The last stages when three chunks are left over. -/
theorem keep_part128 (_i harg2 harg3 harg4 harg5 harg6 harg7 harg8 harg9 harg10 harg11 harg12 harg13 harg14 harg15 harg16 harg17 harg18 harg19 harg20 _arg1 _v3 _v34 _v40 _v46 _v52 _v58 _v64 _v70 _v76 _v82 _v109 _v220 _k0_h4) :
    𝕂 b C (k0_part128 (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v3 _v34 _v40 _v46 _v52 _v58 _v64 _v70 _v76 _v82 _v109 _v220 _k0_h4) := by
  rw [k0_part128_eq_skeleton]
  unfold k0_part128_skel
  simp only [k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton]
  delta k0_part100_skel k0_part101_skel k0_part102_skel k0_part103_skel k0_part104_skel k0_part105_skel k0_part106_skel k0_part107_skel k0_part108_skel k0_part109_skel k0_part110_skel k0_part111_skel k0_part112_skel k0_part113_skel k0_part114_skel k0_part115_skel k0_part116_skel k0_part117_skel k0_part118_skel k0_part119_skel k0_part120_skel k0_part121_skel k0_part122_skel k0_part123_skel k0_part124_skel k0_part125_skel k0_part126_skel k0_part127_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- The four cases of chunks left over, and the first of its outputs. -/
theorem keep_part184 (_i harg2 harg3 harg4 harg5 harg6 harg7 harg8 harg9 harg10 harg11 harg12 harg13 harg14 harg15 harg16 harg17 harg18 harg19 harg20 _arg1 _v3 _v34 _v40 _v46 _v52 _v58 _v64 _v70 _v76 _v82 _v109 _v203 _v214 _v216) :
    𝕂 false C (k0_part184 (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v3 _v34 _v40 _v46 _v52 _v58 _v64 _v70 _v76 _v82 _v109 _v203 _v214 _v216) := by
  rw [k0_part184_eq_skeleton]
  unfold k0_part184_skel
  simp only [k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
  delta k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel k0_part91_skel k0_part92_skel k0_part93_skel k0_part94_skel k0_part95_skel k0_part96_skel k0_part97_skel k0_part98_skel k0_part99_skel
  beta_reduce
  repeat' first
    | with_reducible refine Keep.load fun _ => ?_
    | with_reducible refine Keep.store ?_
    | with_reducible exact Keep.store'
    | with_reducible exact Keep.pure
    | with_reducible apply keep_part128
    | with_reducible refine Keep.seq ?_ fun _ => ?_
    | with_reducible refine Keep.for fun _ _ => ?_
    | with_reducible refine Keep.ite ?_ ?_
    | with_reducible refine Keep.dite (fun _ => ?_) fun _ => ?_
    | dsimp only
    | split

end Cert.KernelIdeal.Body
-- ==== Proof.KernelIdeal.Second.lean ====
/-
  The second attention's key loops and last stages run safely.
-/
module

public import proofs.«01_k».proof.Proof.Gen.KernelIdeal.Skeleton
public import proofs.«01_k».proof.Proof.Keep

@[expose] public section

noncomputable section

namespace Cert.KernelIdeal.Body

open Idealize.ShloMosaic Idealize.SL Idealize.SL.RA Idealize.SL.Sem
open Cert.KernelIdeal Cert.KernelIdeal.Gen Mixers

variable {F : FTy → Type} [FloatOps F] [Named F]
variable {Ix : Type} [DecidableEq Ix] {Name : Type} [DecidableEq Name] {U : Type} [URA U] {Lvl : Type} [Preorder Lvl]
variable {b : Bool} {C : Ctx nD τ sig (Elt F) (Λ₀ F) Ix}
local notation "𝕂" => Keep Name U Lvl

set_option maxHeartbeats 4000000 in
/-- A trip of its loop over groups of four key chunks. -/
theorem keep_t13 (_i harg2 harg3 harg4 harg5 harg6 harg7 harg8 harg9 harg10 harg11 harg12 harg13 harg14 harg15 harg16 harg17 harg18 harg19 harg20 _arg1 _v304 _v322 tr cy) :
    𝕂 b C (k0_t13_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v304 _v322 tr cy) := by
  unfold k0_t13_body
  simp only [k0_part142_eq_skeleton, k0_part143_eq_skeleton, k0_part144_eq_skeleton, k0_part145_eq_skeleton, k0_part146_eq_skeleton, k0_part147_eq_skeleton, k0_part148_eq_skeleton, k0_part149_eq_skeleton]
  delta k0_part142_skel k0_part143_skel k0_part144_skel k0_part145_skel k0_part146_skel k0_part147_skel k0_part148_skel k0_part149_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A trip of the loop's remainder. -/
theorem keep_t14 (_i harg2 harg3 harg4 harg5 harg6 harg7 harg8 harg9 harg10 harg11 harg12 harg13 harg14 harg15 harg16 harg17 harg18 harg19 harg20 _arg1 _v304 _v322 _v372 tr cy) :
    𝕂 b C (k0_t14_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v304 _v322 _v372 tr cy) := by
  unfold k0_t14_body
  simp only [k0_part150_eq_skeleton, k0_part151_eq_skeleton, k0_part152_eq_skeleton, k0_part153_eq_skeleton, k0_part154_eq_skeleton, k0_part155_eq_skeleton, k0_part156_eq_skeleton, k0_part157_eq_skeleton]
  delta k0_part150_skel k0_part151_skel k0_part152_skel k0_part153_skel k0_part154_skel k0_part155_skel k0_part156_skel k0_part157_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- Its cases of chunks left over, and its division. -/
theorem keep_part189 (_i harg2 harg3 harg4 harg5 harg6 harg7 harg8 harg9 harg10 harg11 harg12 harg13 harg14 harg15 harg16 harg17 harg18 harg19 harg20 _arg1 _v3 _v304 _v322 _c4_i32_227 _v375 _v380 _v382 _c0_i32_231) :
    𝕂 b C (k0_part189 (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v3 _v304 _v322 _c4_i32_227 _v375 _v380 _v382 _c0_i32_231) := by
  rw [k0_part189_eq_skeleton]
  unfold k0_part189_skel
  simp only [k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton]
  delta k0_part158_skel k0_part159_skel k0_part160_skel k0_part161_skel k0_part162_skel k0_part163_skel k0_part164_skel k0_part165_skel k0_part166_skel k0_part167_skel k0_part168_skel k0_part169_skel k0_part170_skel k0_part171_skel k0_part172_skel k0_part173_skel k0_part174_skel k0_part175_skel k0_part176_skel k0_part177_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

end Cert.KernelIdeal.Body
-- ==== Proof.KernelIdeal.Search.lean ====
/-
  The search for each query's score threshold runs safely: its loops end, and every read and write is one of the body's buffers.
-/
module

public import proofs.«01_k».proof.Proof.Gen.KernelIdeal.Skeleton
public import proofs.«01_k».proof.Proof.Keep

@[expose] public section

noncomputable section

namespace Cert.KernelIdeal.Body

open Idealize.ShloMosaic Idealize.SL Idealize.SL.RA Idealize.SL.Sem
open Cert.KernelIdeal Cert.KernelIdeal.Gen Mixers

variable {F : FTy → Type} [FloatOps F] [Named F]
variable {Ix : Type} [DecidableEq Ix] {Name : Type} [DecidableEq Name] {U : Type} [URA U] {Lvl : Type} [Preorder Lvl]
variable {b : Bool} {C : Ctx nD τ sig (Elt F) (Λ₀ F) Ix}
local notation "𝕂" => Keep Name U Lvl

set_option maxHeartbeats 4000000 in
/-- A trip of a counting loop. -/
theorem keep_t4 (_i harg2 harg3 harg4 harg5 harg6 harg7 harg8 harg9 harg10 harg11 harg12 harg13 harg14 harg15 harg16 harg17 harg18 harg19 harg20 _v0 _v486 _v491 _v492 tr cy) :
    𝕂 b C (k0_t4_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _v0 _v486 _v491 _v492 tr cy) := by
  unfold k0_t4_body
  simp only [k0_part129_eq_skeleton, k0_part130_eq_skeleton]
  delta k0_part129_skel k0_part130_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A trip of its remainder. -/
theorem keep_t5 (_i harg2 harg3 harg4 harg5 harg6 harg7 harg8 harg9 harg10 harg11 harg12 harg13 harg14 harg15 harg16 harg17 harg18 harg19 harg20 _v0 _v486 _v491 _v492 _v518 tr cy) :
    𝕂 b C (k0_t5_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _v0 _v486 _v491 _v492 _v518 tr cy) := by
  unfold k0_t5_body
  simp only [k0_part131_eq_skeleton, k0_part132_eq_skeleton]
  delta k0_part131_skel k0_part132_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A pass of counting. -/
theorem keep_part135 (_i harg2 harg3 harg4 harg5 harg6 harg7 harg8 harg9 harg10 harg11 harg12 harg13 harg14 harg15 harg16 harg17 harg18 harg19 harg20 _v0 _v486 _v491 _v492) :
    𝕂 b C (k0_part135 (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _v0 _v486 _v491 _v492) := by
  rw [k0_part135_eq_skeleton]
  unfold k0_part135_skel
  repeat' first
    | with_reducible refine Keep.load fun _ => ?_
    | with_reducible refine Keep.store ?_
    | with_reducible exact Keep.store'
    | with_reducible exact Keep.pure
    | with_reducible apply keep_t4
    | with_reducible apply keep_t5
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A trip of a counting loop. -/
theorem keep_t9 (_i harg2 harg3 harg4 harg5 harg6 harg7 harg8 harg9 harg10 harg11 harg12 harg13 harg14 harg15 harg16 harg17 harg18 harg19 harg20 _v0 _v1 _v304 _c0_i32_272 _c1_i32_273 _k0_t8 _arg22 tr cy) :
    𝕂 b C (k0_t9_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _v0 _v1 _v304 _c0_i32_272 _c1_i32_273 _k0_t8 _arg22 tr cy) := by
  unfold k0_t9_body
  simp only [k0_part136_eq_skeleton, k0_part137_eq_skeleton]
  delta k0_part136_skel k0_part137_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A trip of its remainder. -/
theorem keep_t10 (_i harg2 harg3 harg4 harg5 harg6 harg7 harg8 harg9 harg10 harg11 harg12 harg13 harg14 harg15 harg16 harg17 harg18 harg19 harg20 _v0 _v1 _v304 _c0_i32_272 _c1_i32_273 _k0_t8 _arg22 _v489 tr cy) :
    𝕂 b C (k0_t10_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _v0 _v1 _v304 _c0_i32_272 _c1_i32_273 _k0_t8 _arg22 _v489 tr cy) := by
  unfold k0_t10_body
  simp only [k0_part138_eq_skeleton, k0_part139_eq_skeleton]
  delta k0_part138_skel k0_part139_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A pass of counting. -/
theorem keep_part141 (_i harg2 harg3 harg4 harg5 harg6 harg7 harg8 harg9 harg10 harg11 harg12 harg13 harg14 harg15 harg16 harg17 harg18 harg19 harg20 _v0 _v1 _v304 _c0_i32_272 _c1_i32_273 _k0_t8 _arg22) :
    𝕂 b C (k0_part141 (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _v0 _v1 _v304 _c0_i32_272 _c1_i32_273 _k0_t8 _arg22) := by
  rw [k0_part141_eq_skeleton]
  unfold k0_part141_skel
  repeat' first
    | with_reducible refine Keep.load fun _ => ?_
    | with_reducible refine Keep.store ?_
    | with_reducible exact Keep.store'
    | with_reducible exact Keep.pure
    | with_reducible apply keep_t9
    | with_reducible apply keep_t10
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A trip of a counting loop. -/
theorem keep_t6 (_i _cst_172 _cst_173 _v288 harg13 _arg21 _arg22 _arg23 _arg24 _arg25 _arg26 _arg27 _arg28 _v0 _v493 tr cy) :
    𝕂 b C (k0_t6_body (F := F) _i _cst_172 _cst_173 _v288 C.R.r13 harg13 _arg21 _arg22 _arg23 _arg24 _arg25 _arg26 _arg27 _arg28 _v0 _v493 tr cy) := by
  unfold k0_t6_body
  simp only [k0_part191_eq_skeleton, k0_part192_eq_skeleton]
  delta k0_part191_skel k0_part192_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A trip of its remainder. -/
theorem keep_t7 (_i _cst_172 _cst_173 _v288 harg13 _arg21 _arg22 _arg23 _arg24 _arg25 _arg26 _arg27 _arg28 _v0 _v493 _v518 tr cy) :
    𝕂 b C (k0_t7_body (F := F) _i _cst_172 _cst_173 _v288 C.R.r13 harg13 _arg21 _arg22 _arg23 _arg24 _arg25 _arg26 _arg27 _arg28 _v0 _v493 _v518 tr cy) := by
  unfold k0_t7_body
  simp only [k0_part193_eq_skeleton, k0_part194_eq_skeleton]
  delta k0_part193_skel k0_part194_skel
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A pass of counting. -/
theorem keep_part197 (_i _cst_172 _cst_173 _v288 harg13 _arg21 _arg22 _arg23 _arg24 _arg25 _arg26 _arg27 _arg28 _v0 _v493) :
    𝕂 b C (k0_part197 (F := F) _i _cst_172 _cst_173 _v288 C.R.r13 harg13 _arg21 _arg22 _arg23 _arg24 _arg25 _arg26 _arg27 _arg28 _v0 _v493) := by
  rw [k0_part197_eq_skeleton]
  unfold k0_part197_skel
  repeat' first
    | with_reducible refine Keep.load fun _ => ?_
    | with_reducible refine Keep.store ?_
    | with_reducible exact Keep.store'
    | with_reducible exact Keep.pure
    | with_reducible apply keep_t6
    | with_reducible apply keep_t7
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A trip of the bisection. -/
theorem keep_t3 (_i harg2 harg3 harg4 harg5 harg6 harg7 harg8 harg9 harg10 harg11 harg12 harg13 harg14 harg15 harg16 harg17 harg18 harg19 harg20 _v0 _v1 _v275 _v278 _v281 _v282 _cst_168 tr cy) :
    𝕂 b C (k0_t3_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _v0 _v1 _v275 _v278 _v281 _v282 _cst_168 tr cy) := by
  unfold k0_t3_body
  simp only [k0_part134_eq_skeleton, k0_part133_eq_skeleton]
  delta k0_part134_skel k0_part133_skel
  beta_reduce
  repeat' first
    | with_reducible refine Keep.load fun _ => ?_
    | with_reducible refine Keep.store ?_
    | with_reducible exact Keep.store'
    | with_reducible exact Keep.pure
    | with_reducible apply keep_part135
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A trip of the search among ties. -/
theorem keep_t8 (_i harg2 harg3 harg4 harg5 harg6 harg7 harg8 harg9 harg10 harg11 harg12 harg13 harg14 harg15 harg16 harg17 harg18 harg19 harg20 _v0 _v1 _v275 _v278 _v281 _v282 _v300_0 _v300_3 tr cy) :
    𝕂 b C (k0_t8_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _v0 _v1 _v275 _v278 _v281 _v282 _v300_0 _v300_3 tr cy) := by
  unfold k0_t8_body
  simp only [k0_part140_eq_skeleton]
  delta k0_part140_skel
  beta_reduce
  repeat' first
    | with_reducible refine Keep.load fun _ => ?_
    | with_reducible refine Keep.store ?_
    | with_reducible exact Keep.store'
    | with_reducible exact Keep.pure
    | with_reducible apply keep_part141
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A trip of the masking loop. -/
theorem keep_t11 (_i harg2 harg3 harg4 harg5 harg6 harg7 harg8 harg9 harg10 harg11 harg12 harg13 harg14 harg15 harg16 harg17 harg18 harg19 harg20 _v0 _v1 _v275 _v278 _v281 _v282 _v300_0 _v300_2 _v447 tr cy) :
    𝕂 b C (k0_t11_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _v0 _v1 _v275 _v278 _v281 _v282 _v300_0 _v300_2 _v447 tr cy) := by
  unfold k0_t11_body
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- A trip of its remainder. -/
theorem keep_t12 (_i harg2 harg3 harg4 harg5 harg6 harg7 harg8 harg9 harg10 harg11 harg12 harg13 harg14 harg15 harg16 harg17 harg18 harg19 harg20 _v0 _v1 _v275 _v278 _v281 _v282 _v300_0 _v300_2 _v447 tr cy) :
    𝕂 b C (k0_t12_body (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _v0 _v1 _v275 _v278 _v281 _v282 _v300_0 _v300_2 _v447 tr cy) := by
  unfold k0_t12_body
  beta_reduce
  repeat' first
    | with_reducible refine Keep.load fun _ => ?_
    | with_reducible refine Keep.store ?_
    | with_reducible exact Keep.store'
    | with_reducible exact Keep.pure
    | with_reducible refine Keep.seq ?_ fun _ => ?_
    | with_reducible refine Keep.for fun _ _ => ?_
    | with_reducible refine Keep.ite ?_ ?_
    | with_reducible refine Keep.dite (fun _ => ?_) fun _ => ?_
    | dsimp only
    | split

end Cert.KernelIdeal.Body
-- ==== Proof.KernelIdeal.While.lean ====
/-
  The bisection's last loop ends: it counts its trips and stops at 256 of them. And with it the whole search.
-/
module

public import proofs.«01_k».proof.Proof.KernelIdeal.Search

@[expose] public section

noncomputable section

namespace Cert.KernelIdeal.Body

open Idealize.ShloMosaic Idealize.SL Idealize.SL.RA Idealize.SL.Sem
open Cert.KernelIdeal Cert.KernelIdeal.Gen Mixers

variable {F : FTy → Type} [FloatOps F] [Named F]
variable {Ix : Type} [DecidableEq Ix] {Name : Type} [DecidableEq Name] {U : Type} [URA U] {Lvl : Type} [Preorder Lvl]
variable {b : Bool} {C : Ctx nD τ sig (Elt F) (Λ₀ F) Ix}
local notation "𝕂" => Keep Name U Lvl

variable {c : Dev nD} {R : Refs sig (Elt F)}

/-- The bodies' context: the program's functions, their variants natural numbers. -/
abbrev wctx (c : Dev nD) (R : Refs sig (Elt F)) (bd : Option ℕ) (Γ : PendingWaitsCtx sig Ix) : Ctx nD τ sig (Elt F) (Λ₀ F) Ix :=
  { c := c, R := R, defs := defs₀, 𝒱 := Variants.nat, bd := bd, Γ := Γ }

/-- The trips left before the count reaches 256. -/
def left (n : BitVec 32) : ℕ := (256 - n.toInt).toNat

/-- Counting on below 256 leaves fewer. -/
theorem left_add {n : BitVec 32} (h : Scalar.cmpi .slt n 256#32 = 1#1) : left (Scalar.addi n 1#32) < left n := by
  have h' : n.toInt < 256 := by
    by_contra hn
    have : Scalar.cmpi .slt n 256#32 = 0#1 := by
      simp only [Scalar.cmpi, IntOp.cmpi, BitVec.slt]
      have h2 : (256#32 : BitVec 32).toInt = 256 := by decide
      rw [h2, decide_eq_false hn]
      rfl
    rw [this] at h
    exact absurd h (by decide)
  have e : (Scalar.addi n 1#32).toInt = n.toInt + 1 := by
    have h1 : (1#32 : BitVec 32).toInt = 1 := by decide
    have := n.le_toInt
    show (n + 1#32).toInt = _
    rw [BitVec.toInt_add, h1]
    exact Int.bmod_eq_of_le (by omega) (by omega)
  unfold left
  rw [e]
  omega

theorem and_right {x y : BitVec 1} (h : Scalar.andi x y = 1#1) : y = 1#1 := by
  revert x y; decide

set_option maxHeartbeats 4000000 in
/-- The loop ends, whatever bound on its variant it is entered under, if that bound is at least the trips left. -/
theorem keep_while (n : ℕ) : ∀ (bd : Option ℕ) (Γ : PendingWaitsCtx sig Ix) (_i _cst_172 _cst_173 _v288 harg13 _arg21 _arg22 _arg23 _arg24 _arg25 _arg26 _arg27 _arg28), left _arg28 ≤ n → (∀ u ∈ bd, n ≤ u) →    𝕂 b (wctx c R bd Γ) (cc0_while1 (F := F) _i _cst_172 _cst_173 _v288 (wctx c R bd Γ).R.r13 harg13 _arg21 _arg22 _arg23 _arg24 _arg25 _arg26 _arg27 _arg28) := by
  induction n with
  | zero =>
    intro bd Γ _i _cst_172 _cst_173 _v288 harg13 _arg21 _arg22 _arg23 _arg24 _arg25 _arg26 _arg27 _arg28 hn hbd
    rw [cc0_while1_eq_skeleton]
    unfold cc0_while1_skel
    refine Keep.dite (fun h => ?_) fun _ => Keep.pure
    exact absurd (left_add (and_right h)) (by omega)
  | succ n ih =>
    intro bd Γ _i _cst_172 _cst_173 _v288 harg13 _arg21 _arg22 _arg23 _arg24 _arg25 _arg26 _arg27 _arg28 hn hbd
    rw [cc0_while1_eq_skeleton]
    unfold cc0_while1_skel
    refine Keep.dite (fun h => ?_) fun _ => Keep.pure
    have hl := left_add (and_right h)
    simp only [k0_part195_eq_skeleton, k0_part196_eq_skeleton]
    delta k0_part195_skel k0_part196_skel
    beta_reduce
    repeat' first
      | with_reducible refine Keep.load fun _ => ?_
      | with_reducible exact Keep.pure
      | with_reducible apply keep_part197
      | with_reducible refine Keep.seq ?_ fun _ => ?_
      | with_reducible refine Keep.dite (fun _ => ?_) fun _ => ?_
      | dsimp only
      | split
    all_goals refine Keep.call (C := wctx c R bd Γ) (show ℕ from n) (fun u hu => lt_of_lt_of_le (Nat.lt_succ_self n) (hbd u hu)) ?_
    all_goals refine ih (some n) _ _ _ _ _ _ _ _ _ _ _ _ _ _ ?_ ?_
    all_goals first | omega | exact (fun u hu => by cases hu; exact le_rfl)

set_option maxHeartbeats 4000000 in
/-- The search: bisection by counting, its last trips, and the choice among ties. -/
theorem keep_part186 {Γ : PendingWaitsCtx sig Ix} (_i harg2 harg3 harg4 harg5 harg6 harg7 harg8 harg9 harg10 harg11 harg12 harg13 harg14 harg15 harg16 harg17 harg18 harg19 harg20 _v0 _v1 _v275 _v278 _v281 _v282) :
    𝕂 b (wctx c R none Γ) (k0_part186 (F := F) _i (wctx c R none Γ).R.r2 harg2 (wctx c R none Γ).R.r3 harg3 (wctx c R none Γ).R.r4 harg4 (wctx c R none Γ).R.r5 harg5 (wctx c R none Γ).R.r6 harg6 (wctx c R none Γ).R.r7 harg7 (wctx c R none Γ).R.r8 harg8 (wctx c R none Γ).R.r9 harg9 (wctx c R none Γ).R.r10 harg10 (wctx c R none Γ).R.r11 harg11 (wctx c R none Γ).R.r12 harg12 (wctx c R none Γ).R.r13 harg13 (wctx c R none Γ).R.r14 harg14 (wctx c R none Γ).R.r15 harg15 (wctx c R none Γ).R.r16 harg16 (wctx c R none Γ).R.r17 harg17 (wctx c R none Γ).R.r18 harg18 (wctx c R none Γ).R.r19 harg19 (wctx c R none Γ).R.r20 harg20 _v0 _v1 _v275 _v278 _v281 _v282) := by
  rw [k0_part186_eq_skeleton]
  unfold k0_part186_skel
  repeat' first
    | with_reducible refine Keep.load fun _ => ?_
    | with_reducible refine Keep.store ?_
    | with_reducible exact Keep.store'
    | with_reducible exact Keep.pure
    | with_reducible apply keep_t3
    | with_reducible apply keep_t8
    | with_reducible apply keep_t11
    | with_reducible apply keep_t12
    | with_reducible refine Keep.seq ?_ fun _ => ?_
    | with_reducible refine Keep.for fun _ _ => ?_
    | with_reducible refine Keep.ite ?_ ?_
    | with_reducible refine Keep.dite (fun _ => ?_) fun _ => ?_
    | dsimp only
    | split
  rename_i x
  refine Keep.call (C := wctx c R none Γ) (left x.2.2.2.2.2.2.2) (fun _ h => nomatch h) ?_
  exact keep_while _ _ _ _ _ _ _ _ _ _ _ _ _ _ _ _ le_rfl (fun u h => by cases h; exact le_rfl)

end Cert.KernelIdeal.Body
-- ==== Proof.KernelIdeal.Body.lean ====
/-
  The whole body runs safely.
-/
module

public import proofs.«01_k».proof.Proof.KernelIdeal.Loops
public import proofs.«01_k».proof.Proof.KernelIdeal.Tail
public import proofs.«01_k».proof.Proof.KernelIdeal.Second
public import proofs.«01_k».proof.Proof.KernelIdeal.While

@[expose] public section

noncomputable section

namespace Cert.KernelIdeal.Body

open Idealize.ShloMosaic Idealize.SL Idealize.SL.RA Idealize.SL.Sem
open Cert.KernelIdeal Cert.KernelIdeal.Gen Mixers

variable {F : FTy → Type} [FloatOps F] [Named F]
variable {Ix : Type} [DecidableEq Ix] {Name : Type} [DecidableEq Name] {U : Type} [URA U] {Lvl : Type} [Preorder Lvl]
variable {b : Bool} {C : Ctx nD τ sig (Elt F) (Λ₀ F) Ix}
local notation "𝕂" => Keep Name U Lvl

variable {c : Dev nD} {R : Refs sig (Elt F)} {Γ : PendingWaitsCtx sig Ix}

set_option maxHeartbeats 4000000 in
/-- The first attention's key loop. -/
theorem keep_part183 (_i harg2 harg3 harg4 harg5 harg6 harg7 harg8 harg9 harg10 harg11 harg12 harg13 harg14 harg15 harg16 harg17 harg18 harg19 harg20 _arg1 _v34 _v40 _v46 _v52 _v58 _v64 _v70 _v76 _v82 _v175) :
    𝕂 b C (k0_part183 (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v34 _v40 _v46 _v52 _v58 _v64 _v70 _v76 _v82 _v175) := by
  rw [k0_part183_eq_skeleton]
  unfold k0_part183_skel
  repeat' first
    | with_reducible refine Keep.load fun _ => ?_
    | with_reducible refine Keep.store ?_
    | with_reducible exact Keep.store'
    | with_reducible exact Keep.pure
    | with_reducible apply keep_t1
    | with_reducible apply keep_t2
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- The second attention's key loop. -/
theorem keep_part188 (_i harg2 harg3 harg4 harg5 harg6 harg7 harg8 harg9 harg10 harg11 harg12 harg13 harg14 harg15 harg16 harg17 harg18 harg19 harg20 _arg1 _v304 _v322) :
    𝕂 b C (k0_part188 (F := F) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v304 _v322) := by
  rw [k0_part188_eq_skeleton]
  unfold k0_part188_skel
  repeat' first
    | with_reducible refine Keep.load fun _ => ?_
    | with_reducible refine Keep.store ?_
    | with_reducible exact Keep.store'
    | with_reducible exact Keep.pure
    | with_reducible apply keep_t13
    | with_reducible apply keep_t14
    | with_reducible refine Keep.seq ?_ fun _ => ?_
    | with_reducible refine Keep.for fun _ _ => ?_
    | with_reducible refine Keep.ite ?_ ?_
    | with_reducible refine Keep.dite (fun _ => ?_) fun _ => ?_
    | dsimp only
    | split

set_option maxHeartbeats 4000000 in
/-- The body. -/
theorem keep_body (_i harg2 harg3 harg4 harg5 harg6 harg7 harg8 harg9 harg10 harg11 harg12 harg13 harg14 harg15 harg16 harg17 harg18 harg19 harg20) :
    𝕂 false (wctx c R none Γ) (cc0_token_mixers (F := F) _i (wctx c R none Γ).R.r2 harg2 (wctx c R none Γ).R.r3 harg3 (wctx c R none Γ).R.r4 harg4 (wctx c R none Γ).R.r5 harg5 (wctx c R none Γ).R.r6 harg6 (wctx c R none Γ).R.r7 harg7 (wctx c R none Γ).R.r8 harg8 (wctx c R none Γ).R.r9 harg9 (wctx c R none Γ).R.r10 harg10 (wctx c R none Γ).R.r11 harg11 (wctx c R none Γ).R.r12 harg12 (wctx c R none Γ).R.r13 harg13 (wctx c R none Γ).R.r14 harg14 (wctx c R none Γ).R.r15 harg15 (wctx c R none Γ).R.r16 harg16 (wctx c R none Γ).R.r17 harg17 (wctx c R none Γ).R.r18 harg18 (wctx c R none Γ).R.r19 harg19 (wctx c R none Γ).R.r20 harg20) := by
  rw [cc0_token_mixers_eq_skeleton]
  unfold cc0_token_mixers_skel
  rw [k0_part190_eq_skeleton]
  unfold k0_part190_skel
  simp only [k0_part178_eq_skeleton, k0_part179_eq_skeleton, k0_part180_eq_skeleton, k0_part181_eq_skeleton, k0_part182_eq_skeleton, k0_part185_eq_skeleton, k0_part187_eq_skeleton]
  delta k0_part178_skel k0_part179_skel k0_part180_skel k0_part181_skel k0_part182_skel k0_part185_skel k0_part187_skel
  beta_reduce
  repeat' first
    | with_reducible refine Keep.load fun _ => ?_
    | with_reducible refine Keep.store ?_
    | with_reducible exact Keep.store'
    | with_reducible exact Keep.pure
    | with_reducible apply keep_part183
    | with_reducible apply keep_part184
    | with_reducible apply keep_part186
    | with_reducible apply keep_part188
    | with_reducible apply keep_part189
    | with_reducible refine Keep.seq ?_ fun _ => ?_
    | with_reducible refine Keep.for fun _ _ => ?_
    | with_reducible refine Keep.ite ?_ ?_
    | with_reducible refine Keep.dite (fun _ => ?_) fun _ => ?_
    | dsimp only
    | split

end Cert.KernelIdeal.Body
-- ==== Proof.KernelIdeal.Run.lean ====
/-
  The launch: the pipelined grid runs whatever the body is, if the body, from its input windows at their blocks and
  its scratch at anything, returns. The proof data say of the inputs that they are kept, of the first output that a
  given property holds of what the body leaves there, and nothing of the second.
-/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.Frame
public import Idealize.ShloMosaic.Lib.Tactic

@[expose] public section

noncomputable section

namespace Cert.KernelIdeal.Body

open Cert.KernelIdeal Cert.KernelIdeal.Gen Mixers
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents of the windows' staging buffers. -/
abbrev Stage (F : FTy → Type) [FloatOps F] [Named F] := (w : Fin (cfg0 (F := F)).W) → ((cfg0 (F := F)).win w).block.Idx → Elt F ((cfg0 (F := F)).win w).elt

/-- What the body may leave in each window: the inputs as they were, the first output with the property `G`. -/
def leaves (G : Fin (cfg0 (F := F)).N → (SQ.Idx → Elt F .bf16) → Prop) :
    (w : Fin (cfg0 (F := F)).W) → (t : Fin (cfg0 (F := F)).N) → (Y X : ((cfg0 (F := F)).win w).block.Idx → Elt F ((cfg0 (F := F)).win w).elt) → Prop
  | 0, _, Y, X => X = Y
  | 1, _, Y, X => X = Y
  | 2, _, Y, X => X = Y
  | 3, _, Y, X => X = Y
  | 4, _, Y, X => X = Y
  | 5, _, Y, X => X = Y
  | 6, _, Y, X => X = Y
  | 7, _, Y, X => X = Y
  | 8, _, Y, X => X = Y
  | 9, t, _, X => G t X
  | 10, _, _, _ => True
  | ⟨_ + 11, h⟩, _, _, _ => absurd h (Nat.not_lt.2 (Nat.le_add_left _ _))

/-- The launch's proof data. -/
def rdat (m : (ℓ : Loc nD τ sig) → Buf (Elt F) ℓ) (G : Dev nD → Fin (cfg0 (F := F)).N → (SQ.Idx → Elt F .bf16) → Prop) (c : Dev nD) :
    Pipeline.RDat τ (Elt F) Unit ℕ (UR sig nD τ) ℕ (cfg0 (F := F)) c where
  A w := m ((c : Thread nD τ).loc (Pipeline.arrRef spec0 w))
  after := leaves (G c)
  Φ _ := Pipeline.ΦA spec0 c
  q := Pipeline.shareOf spec0
  owed _ := 0

/-- The memrefs the body is given at a point, and what its input windows hold. -/
abbrev refs (t : Fin (cfg0 (F := F)).N) (Y : Stage F) : Refs sig (Elt F) :=
  { r2 := st0_0 t, r3 := st0_1 t, r4 := st0_2 t, r5 := st0_3 t, r6 := st0_4 t, r7 := st0_5 t, r8 := st0_6 t, r9 := st0_7 t, r10 := st0_8 t, r11 := st0_9 t, r12 := st0_10 t, r13 := Memref.whole cc0_scratch0, r14 := Memref.whole cc0_scratch1, r15 := Memref.whole cc0_scratch2, r16 := Memref.whole cc0_scratch3, r17 := Memref.whole cc0_scratch4, r18 := Memref.whole cc0_scratch5, r19 := Memref.whole cc0_scratch6, r20 := Memref.whole cc0_scratch7, x2 := Y 0, x3 := Y 1, x4 := Y 2, x5 := Y 3, x6 := Y 4, x7 := Y 5, x8 := Y 6, x9 := Y 7, x10 := Y 8 }

/-- The nineteen memrefs one by one. -/
theorem Own_chain (c : Dev nD) (R : Refs sig (Elt F)) (s : St (Elt F)) :
    (Own c R s : sProp 𝕄) = iprop(at_ c R.r2 R.x2 ∗ at_ c R.r3 R.x3 ∗ at_ c R.r4 R.x4 ∗ at_ c R.r5 R.x5 ∗ at_ c R.r6 R.x6 ∗ at_ c R.r7 R.x7 ∗ at_ c R.r8 R.x8 ∗ at_ c R.r9 R.x9 ∗ at_ c R.r10 R.x10 ∗ at_ c R.r11 s.o ∗ some_ c R.r12 ∗ some_ c R.r13 ∗ some_ c R.r14 ∗ at_ c R.r15 s.sb ∗ at_ c R.r16 s.pb ∗ at_ c R.r17 s.m ∗ at_ c R.r18 s.l ∗ at_ c R.r19 s.a ∗ at_ c R.r20 s.acc) :=
  bigSep_univ_eq_bigSepL [Buf.b2, .b3, .b4, .b5, .b6, .b7, .b8, .b9, .b10, .b11, .b12, .b13, .b14, .b15, .b16, .b17, .b18, .b19, .b20] (by decide) (by decide) _

/-- The nineteen memrefs as the pipeline takes them back: the scratch at anything. -/
theorem Own_refs (c : Dev nD) (t : Fin (cfg0 (F := F)).N) (Y : Stage F) (s : St (Elt F)) :
    (Own c (refs t Y) s : sProp 𝕄) ⊢ iprop(owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare s.o ∗ (∃ X, owns (c : Thread nD τ) (st0_10 t) fullShare X) ∗ (∃ f : Idealize.ShloMosaic.Buf (Elt F) ((c : Thread nD τ).loc cc0_scratch0), ((c : Thread nD τ).loc cc0_scratch0) ↦{fullShare} f) ∗ (∃ f : Idealize.ShloMosaic.Buf (Elt F) ((c : Thread nD τ).loc cc0_scratch1), ((c : Thread nD τ).loc cc0_scratch1) ↦{fullShare} f) ∗ (∃ f : Idealize.ShloMosaic.Buf (Elt F) ((c : Thread nD τ).loc cc0_scratch2), ((c : Thread nD τ).loc cc0_scratch2) ↦{fullShare} f) ∗ (∃ f : Idealize.ShloMosaic.Buf (Elt F) ((c : Thread nD τ).loc cc0_scratch3), ((c : Thread nD τ).loc cc0_scratch3) ↦{fullShare} f) ∗ (∃ f : Idealize.ShloMosaic.Buf (Elt F) ((c : Thread nD τ).loc cc0_scratch4), ((c : Thread nD τ).loc cc0_scratch4) ↦{fullShare} f) ∗ (∃ f : Idealize.ShloMosaic.Buf (Elt F) ((c : Thread nD τ).loc cc0_scratch5), ((c : Thread nD τ).loc cc0_scratch5) ↦{fullShare} f) ∗ (∃ f : Idealize.ShloMosaic.Buf (Elt F) ((c : Thread nD τ).loc cc0_scratch6), ((c : Thread nD τ).loc cc0_scratch6) ↦{fullShare} f) ∗ (∃ f : Idealize.ShloMosaic.Buf (Elt F) ((c : Thread nD τ).loc cc0_scratch7), ((c : Thread nD τ).loc cc0_scratch7) ↦{fullShare} f)) := by
  rw [Own_chain]
  unfold some_
  dsimp only [at_, refs]
  simp only [owns_whole]
  iintro ⟨H2, H3, H4, H5, H6, H7, H8, H9, H10, H11, H12, H13, H14, H15, H16, H17, H18, H19, H20⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  iexists _; iexact H20

/-- What is asked of the body at a point. -/
def Runs (m : (ℓ : Loc nD τ sig) → Buf (Elt F) ℓ) (G : Dev nD → Fin (cfg0 (F := F)).N → (SQ.Idx → Elt F .bf16) → Prop) : Prop :=
  ∀ (c : Dev nD) (t : Fin (cfg0 (F := F)).N) (Y : Stage F), (∀ w, (rdat m G c).Finds w t (Y w)) → ∀ s : St (Elt F),
    W (Ix := Unit) ℕ (UR sig nD τ) ℕ (wctx c (refs t Y) none .empty) (bodyAt0 t) (fun _ s' => G c t s'.o) s

theorem defs₀_row (t : Fin (cfg0 (F := F)).N) : defs₀ (F := F) .tc cfg0.body (cfg0.bodyArgs t (cfg0.slots t)) = bodyAt0 t := by
  unfold defs₀; rw [Defs.onTc_tc]

set_option maxHeartbeats 1000000 in
/-- The pipeline's obligation of the body, from what is asked of it. -/
theorem body_obligation {m : (ℓ : Loc nD τ sig) → Buf (Elt F) ℓ} {G : Dev nD → Fin (cfg0 (F := F)).N → (SQ.Idx → Elt F .bf16) → Prop}
    (h : Runs m G) (c : Dev nD) : (rdat m G c).BodyObligation (defs₀ (F := F)) Variants.nat () Set.univ := fun t Y hY => by
  rw [bigSep_W0, bigSep_W0, defs₀_row]
  rw [show (rdat m G c).Φ t.succ = (Pipeline.ΦA spec0 c : sProp 𝕄) from rfl, show (rdat m G c).Φ t.castSucc = (Pipeline.ΦA spec0 c : sProp 𝕄) from rfl,
    show (rdat m G c).owesAt () t.succ = (rdat m G c).owesAt () t.castSucc from rfl]
  unfold Pipeline.ΦA
  rw [scopedRest0_eq]
  iintro ⟨⟨⟨⟨%f13, H13⟩, ⟨%f14, H14⟩, ⟨%f15, H15⟩, ⟨%f16, H16⟩, ⟨%f17, H17⟩, ⟨%f18, H18⟩, ⟨%f19, H19⟩, ⟨%f20, H20⟩⟩, Hp⟩, Ho, H2, H3, H4, H5, H6, H7, H8, H9, H10, H11, H12⟩
  have hb := h c t Y hY ⟨Y 9, f15, f16, f17, f18, f19, f20⟩
  unfold W at hb
  rw [Own_chain] at hb
  iapply (BIBase.Entails.trans hb (wp_wand _ _ _)) $$ [H2 H3 H4 H5 H6 H7 H8 H9 H10 H11 H12 H13 H14 H15 H16 H17 H18 H19 H20]
  · isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · unfold some_; iexists _; iexact H12
    isplitl [H13]
    · unfold some_; iexists f13; rw [owns_whole]; iexact H13
    isplitl [H14]
    · unfold some_; iexists f14; rw [owns_whole]; iexact H14
    isplitl [H15]
    · dsimp only [at_, refs]; rw [owns_whole]; iexact H15
    isplitl [H16]
    · dsimp only [at_, refs]; rw [owns_whole]; iexact H16
    isplitl [H17]
    · dsimp only [at_, refs]; rw [owns_whole]; iexact H17
    isplitl [H18]
    · dsimp only [at_, refs]; rw [owns_whole]; iexact H18
    isplitl [H19]
    · dsimp only [at_, refs]; rw [owns_whole]; iexact H19
    dsimp only [at_, refs]; rw [owns_whole]; iexact H20
  iintro %a ⟨%s', %hG, H⟩
  ihave H := (Own_refs c t Y s') $$ H
  icases H with ⟨H2, H3, H4, H5, H6, H7, H8, H9, H10, H11, H12, H13, H14, H15, H16, H17, H18, H19, H20⟩
  icases H12 with ⟨%f12, H12⟩
  isplitl [H13 H14 H15 H16 H17 H18 H19 H20 Hp]
  · isplitr [Hp]
    swap; · iexact Hp
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [Ho]; · iexact Ho
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact hG
  iexists _; isplitr; swap; · iexact H12
  ipureintro; exact trivial

/-- Every execution from a memory of zero counters ends, with the windows' arrays as the proof data say. -/
theorem run {m : (ℓ : Loc nD τ sig) → Buf (Elt F) ℓ} {G : Dev nD → Fin (cfg0 (F := F)).N → (SQ.Idx → Elt F .bf16) → Prop}
    (h : Runs m G) (ρ : Dev nD → PrngReg) :
    θ_run defs (onTc (τ := τ) (main (F := F))) ⟨m, fun _ => 0, ρ⟩
      (fun r => Pipeline.RDat.FramePost cfg0 (rdat m G) (fun c b => m ((c.tc : Thread nD τ).loc b)) r ∧ r.2.sem = fun _ => 0) :=
  Pipeline.RDat.θ_run_frame_track_shared cfgs (0 : Fin 1) launch₀0 defs₀ Variants.nat (rdat m G) m ρ main
    (body_obligation h) (fun _ _ _ => rfl) (fun _ _ => rfl) (fun c b => m ((c.tc : Thread nD τ).loc b))
    (Pipeline.hmain_region cfgs 0 defs₀ Variants.nat m main fun c => (main_chain c).trans rfl)
    (fun _ _ => rfl) (fun _ => .rfl) (fun _ => .rfl) _ (fun _ h => h)

/-- The body returns, whatever it leaves. -/
theorem runs (m : (ℓ : Loc nD τ sig) → Buf (Elt F) ℓ) : Runs m fun _ _ _ => True := fun c t Y _ s =>
  W.mono (keep_body (c := c) (R := refs t Y) (Γ := .empty) _ _ _ _ _ _ _ _ _ _ _ _ _ _ _ _ _ _ _ _ s) fun _ _ _ => trivial

/-- The kernel runs, its arguments end unchanged, and every semaphore ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun _ h => ⟨fun c => ⟨h.1.arr_in c 0 rfl, h.1.arr_in c 2 rfl, h.1.arr_in c 3 rfl, h.1.arr_in c 4 rfl, h.1.arr_in c 6 rfl, h.1.arr_in c 8 rfl⟩, h.2⟩)
    (run (runs m) ρ)

end Cert.KernelIdeal.Body
-- ==== Proof.FfnValue.lean ====
/- The feed-forward call against its reference over the extended reals: a point's payload at a row is the reference at
   that row of the whole array, so the call's blocks tile the reference's result. -/
module

public import proofs.«01_k».proof.Defs
public import proofs.«01_k».proof.Proof.Gen.FfnIdeal.Value
public import proofs.«01_k».proof.Proof.Gen.FfnRefIdeal.Run
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.FfnIdeal.Rows

open Cert.FfnIdeal Cert.FfnIdeal.Gen

set_option pp.deepTerms false in
/-- The payload at a row of the block is the reference at the array's row that block row holds. -/
theorem payload_at (m' : (ℓ : Loc Cert.FfnRefIdeal.nD Cert.FfnRefIdeal.τ Cert.FfnRefIdeal.sig) → Buf (Elt Ideal) ℓ)
    (c : Dev Cert.FfnRefIdeal.nD) (P0 : Vec Ideal S1024x1024 .f32) (R : Fin 32768) (r : Fin 1024) (l : Fin 1024)
    (h0 : ∀ k, P0 (ix2 r k) = m' (c.tc.loc Cert.FfnRefIdeal.main_arg0) (ix2 R k)) :
    k0_pay1 P0 (k0_pay2 P0 (m' (c.tc.loc Cert.FfnRefIdeal.main_arg1)) (m' (c.tc.loc Cert.FfnRefIdeal.main_arg2))
        (m' (c.tc.loc Cert.FfnRefIdeal.main_arg3)) (m' (c.tc.loc Cert.FfnRefIdeal.main_arg4)))
      (m' (c.tc.loc Cert.FfnRefIdeal.main_arg5))
      (k0_pay3 P0 (m' (c.tc.loc Cert.FfnRefIdeal.main_arg1)) (m' (c.tc.loc Cert.FfnRefIdeal.main_arg2))
        (m' (c.tc.loc Cert.FfnRefIdeal.main_arg3)) (m' (c.tc.loc Cert.FfnRefIdeal.main_arg4)))
      k0_pay4 (ix2 r l) = Cert.FfnRefIdeal.Value.res_main_v32 m' c (ix2 R l) := by
  pointwise [k0_pay1, k0_pay2, k0_pay3, k0_pay4, Cert.FfnRefIdeal.Value.res_main_v32]
  simp only [h0, zero_sub]

variable (m : (ℓ : Loc nD τ sig) → Buf (Elt Ideal) ℓ)

theorem N_eq : cfg0.N = 32 := N_0

/-- Where the windows stand at point `t`: the hidden state's and the result's at row block `t`, the others at the origin. -/
theorem index_at : ∀ t : Fin cfg0.N, (win0_0.index t 0 = t.val ∧ win0_0.index t 1 = 0) ∧ (win0_6.index t 0 = t.val ∧ win0_6.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) :=
  (by decide +kernel : ∀ t : Fin grid0.N, (win0_0.index t 0 = t.val ∧ win0_0.index t 1 = 0) ∧ (win0_6.index t 0 = t.val ∧ win0_6.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0))

/-- Row `r` of block `t`, as a row of the whole array. -/
def row (t : Fin cfg0.N) (r : Fin 1024) : Fin 32768 := ⟨t.val * 1024 + r.val, by have : t.val < 32 := lt_of_lt_of_eq t.isLt N_eq; omega⟩

theorem iblk0 (c : Dev nD) (t : Fin cfg0.N) (r k : Fin 1024) :
    iblk m c 0 t (ix2 r k) = m (c.tc.loc main_arg0) (ix2 (row t r) k) := by
  show V m c (Pipeline.arrRef spec0 0) _ = _
  refine congrArg (m (c.tc.loc main_arg0)) (funext fun a => Fin.ext ?_)
  obtain ⟨⟨e0, e1⟩, -⟩ := index_at t
  match a with
  | ⟨0, _⟩ => show win0_0.index t 0 * 1024 + 1 * r.val = t.val * 1024 + r.val; omega
  | ⟨1, _⟩ => show win0_0.index t 1 * 1024 + 1 * k.val = k.val; omega

theorem iblk1 (c : Dev nD) (t : Fin cfg0.N) : iblk m c 1 t = m (c.tc.loc main_arg1) := by
  funext y
  show V m c (Pipeline.arrRef spec0 1) _ = _
  refine congrArg (m (c.tc.loc main_arg1)) (funext fun a => Fin.ext ?_)
  obtain ⟨-, -, ⟨e0, e1⟩, -⟩ := index_at t
  match a with
  | ⟨0, _⟩ => show win0_1.index t 0 * 1 + 1 * (y 0).val = (y 0).val; omega
  | ⟨1, _⟩ => show win0_1.index t 1 * 1024 + 1 * (y 1).val = (y 1).val; omega

theorem iblk2 (c : Dev nD) (t : Fin cfg0.N) : iblk m c 2 t = m (c.tc.loc main_arg2) := by
  funext y
  show V m c (Pipeline.arrRef spec0 2) _ = _
  refine congrArg (m (c.tc.loc main_arg2)) (funext fun a => Fin.ext ?_)
  obtain ⟨-, -, -, ⟨e0, e1⟩, -⟩ := index_at t
  match a with
  | ⟨0, _⟩ => show win0_2.index t 0 * 1024 + 1 * (y 0).val = (y 0).val; omega
  | ⟨1, _⟩ => show win0_2.index t 1 * 2816 + 1 * (y 1).val = (y 1).val; omega

theorem iblk3 (c : Dev nD) (t : Fin cfg0.N) : iblk m c 3 t = m (c.tc.loc main_arg3) := by
  funext y
  show V m c (Pipeline.arrRef spec0 3) _ = _
  refine congrArg (m (c.tc.loc main_arg3)) (funext fun a => Fin.ext ?_)
  obtain ⟨-, -, -, -, ⟨e0, e1⟩, -⟩ := index_at t
  match a with
  | ⟨0, _⟩ => show win0_3.index t 0 * 1024 + 1 * (y 0).val = (y 0).val; omega
  | ⟨1, _⟩ => show win0_3.index t 1 * 2816 + 1 * (y 1).val = (y 1).val; omega

theorem iblk4 (c : Dev nD) (t : Fin cfg0.N) : iblk m c 4 t = m (c.tc.loc main_arg4) := by
  funext y
  show V m c (Pipeline.arrRef spec0 4) _ = _
  refine congrArg (m (c.tc.loc main_arg4)) (funext fun a => Fin.ext ?_)
  obtain ⟨-, -, -, -, -, ⟨e0, e1⟩, -⟩ := index_at t
  match a with
  | ⟨0, _⟩ => show win0_4.index t 0 * 2816 + 1 * (y 0).val = (y 0).val; omega
  | ⟨1, _⟩ => show win0_4.index t 1 * 1024 + 1 * (y 1).val = (y 1).val; omega

theorem iblk5 (c : Dev nD) (t : Fin cfg0.N) : iblk m c 5 t = m (c.tc.loc main_arg5) := by
  funext y
  show V m c (Pipeline.arrRef spec0 5) _ = _
  refine congrArg (m (c.tc.loc main_arg5)) (funext fun a => Fin.ext ?_)
  obtain ⟨-, -, -, -, -, -, e0, e1⟩ := index_at t
  match a with
  | ⟨0, _⟩ => show win0_5.index t 0 * 1 + 1 * (y 0).val = (y 0).val; omega
  | ⟨1, _⟩ => show win0_5.index t 1 * 1024 + 1 * (y 1).val = (y 1).val; omega

theorem hz : (![0, 0] : Fin 2 → Nat) = fun _ => 0 := funext fun a => by fin_cases a <;> rfl

/-- The two programs' memories, holding the same arguments. -/
def Same (m : (ℓ : Loc nD τ sig) → Buf (Elt Ideal) ℓ)
    (m' : (ℓ : Loc Cert.FfnRefIdeal.nD Cert.FfnRefIdeal.τ Cert.FfnRefIdeal.sig) → Buf (Elt Ideal) ℓ) (c : Dev nD) : Prop :=
  m' (c.tc.loc Cert.FfnRefIdeal.main_arg0) = m (c.tc.loc main_arg0) ∧ m' (c.tc.loc Cert.FfnRefIdeal.main_arg1) = m (c.tc.loc main_arg1)
  ∧ m' (c.tc.loc Cert.FfnRefIdeal.main_arg2) = m (c.tc.loc main_arg2) ∧ m' (c.tc.loc Cert.FfnRefIdeal.main_arg3) = m (c.tc.loc main_arg3)
  ∧ m' (c.tc.loc Cert.FfnRefIdeal.main_arg4) = m (c.tc.loc main_arg4) ∧ m' (c.tc.loc Cert.FfnRefIdeal.main_arg5) = m (c.tc.loc main_arg5)

variable {m} {m' : (ℓ : Loc Cert.FfnRefIdeal.nD Cert.FfnRefIdeal.τ Cert.FfnRefIdeal.sig) → Buf (Elt Ideal) ℓ}

/-- What point `t` writes back is block `t` of the reference's result. -/
theorem flushed_eq (c : Dev nD) (h : Same m m' c) (t : Fin cfg0.N) :
    (dats m 0 c).flushed 6 t = (win0_6.blk t).view.read (Elt Ideal) (Cert.FfnRefIdeal.Value.res_main_v32 m' c) := by
  obtain ⟨h0, h1, h2, h3, h4, h5⟩ := h
  rw [Value.flushed6]
  unfold out0_6
  rw [View.canon_unit_zero hz]
  repeat rw [View.ld_unit_zero hz]
  rw [iblk1, iblk2, iblk3, iblk4, iblk5, ← h1, ← h2, ← h3, ← h4, ← h5]
  funext y
  idx_vars y
  show k0_pay1 (iblk m c 0 t) _ _ _ _ (ix2 y0 y1) = _
  refine (payload_at m' c (iblk m c 0 t) (row t y0) y0 y1 (fun k => (iblk0 m c t y0 k).trans (by rw [h0]))).trans ?_
  refine congrArg (Cert.FfnRefIdeal.Value.res_main_v32 m' c) (funext fun a => Fin.ext ?_)
  obtain ⟨-, ⟨e0, e1⟩, -⟩ := index_at t
  match a with
  | ⟨0, _⟩ => show t.val * 1024 + y0.val = win0_6.index t 0 * 1024 + 1 * y0.val; omega
  | ⟨1, _⟩ => show y1.val = win0_6.index t 1 * 1024 + 1 * y1.val; omega

theorem mem_blk (t : Fin cfg0.N) (i : S32768x1024.Idx) :
    i ∈ ((cfg0.win 6).blk t).view.set ↔ t.val * 1024 ≤ (i 0 : Nat) ∧ (i 0 : Nat) < t.val * 1024 + 1024 := by
  show i ∈ ((View.whole main_v0).slice (win0_6.rect t)).set ↔ _
  rw [View.set_slice_whole, Rect.mem_set_unit]
  have h1 : (i 1 : Nat) < 1024 := (i 1).isLt
  obtain ⟨-, ⟨e0, e1⟩, -⟩ := index_at t
  refine ⟨fun h => ?_, fun h a => ?_⟩
  · have : win0_6.index t 0 * 1024 ≤ (i 0 : Nat) ∧ (i 0 : Nat) < win0_6.index t 0 * 1024 + 1024 := h 0
    rw [e0] at this; exact this
  · match a with
    | ⟨0, _⟩ => show win0_6.index t 0 * 1024 ≤ (i 0 : Nat) ∧ (i 0 : Nat) < win0_6.index t 0 * 1024 + 1024
                rw [e0]; exact h
    | ⟨1, _⟩ => show win0_6.index t 1 * 1024 ≤ (i 1 : Nat) ∧ (i 1 : Nat) < win0_6.index t 1 * 1024 + 1024
                rw [e1]; exact ⟨Nat.zero_le _, h1⟩

/-- The row blocks tile the result. -/
theorem cover (i : S32768x1024.Idx) : ∃ t : Fin cfg0.N, (cfg0.win 6).flush t = true ∧ i ∈ ((cfg0.win 6).blk t).view.set := by
  have h0 : (i 0 : Nat) < 32768 := (i 0).isLt
  have hN : cfg0.N = 32 := N_eq
  have ht : (i 0 : Nat) / 1024 < cfg0.N := by omega
  refine ⟨⟨(i 0 : Nat) / 1024, ht⟩, flush0_6 _, ?_⟩
  rw [mem_blk]
  dsimp only
  omega

/-- The call's result is the reference's. -/
theorem final (c : Dev nD) (h : Same m m' c) : (dats m 0 c).arrAt 6 cfg0.N = Cert.FfnRefIdeal.Value.res_main_v32 m' c :=
  (dats m 0 c).arrAt_eq_of_cover 6 (Cert.FfnRefIdeal.Value.res_main_v32 m' c) (fun t _ => flushed_eq c h t) cover

/-- The feed-forward call and its reference end with the same result. -/
theorem agrees : algebraic_FfnIdeal_FfnRefIdeal (hFfnIdeal := Cert.FfnIdeal.Gen.facts) (hFfnRefIdeal := Cert.FfnRefIdeal.Gen.facts) :=
  fun m g m' g' _ h => ⟨fun c => Cert.FfnRefIdeal.Value.res_main_v32 m' c,
    (θ_run _ _ _).mono (fun r k c => ⟨(k c).1.trans (final c (h c)), (k c).2⟩) (Value.run_blocks (F := Ideal) m g),
    Cert.FfnRefIdeal.Value.run (F := Ideal) m' g'⟩

end Cert.FfnIdeal.Rows

end
-- ==== Proof.MergeValue.lean ====
/- The merge call against its reference over the extended reals: a point's payload at a row is the reference at
   that row of the whole array, so the call's blocks tile the reference's result. -/
module

public import proofs.«01_k».proof.Defs
public import proofs.«01_k».proof.Proof.Gen.MergeIdeal.Value
public import proofs.«01_k».proof.Proof.Gen.MergeRefIdeal.Run
public import Idealize.ShloMosaic.Lib.Pointwise
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MergeRefIdeal.Rows

open Cert.MergeRefIdeal Cert.MergeRefIdeal.Gen

/-- The gated sum of the two branches through the output projection. -/
def projected (m : (ℓ : Loc nD τ sig) → Buf (Elt Ideal) ℓ) (c : Dev nD) : FVec Ideal S32768x1024 .f32 :=
  Host.dotGeneral dot_S32768x1024_S1024x1024_S32768x1024_1_0_0_1_n_n none
    (addf (mulf (extf .f32 (extractStridedSlice S32768x1024 ![0, 0] (m (c.tc.loc main_arg2)) slices_S32768x2048_S32768x1024_0_0) bitsLt_bf16_f32)
        (Host.dotGeneral dot_S32768x512_S512x1024_S32768x1024_1_0_0_1_n_n none (extf .f32 (m (c.tc.loc main_arg0)) bitsLt_bf16_f32) (extf .f32 (m (c.tc.loc main_arg4)) bitsLt_bf16_f32)))
      (mulf (extf .f32 (extractStridedSlice S32768x1024 ![0, 1024] (m (c.tc.loc main_arg2)) slices_S32768x2048_S32768x1024_0_1024) bitsLt_bf16_f32)
        (Host.dotGeneral dot_S32768x512_S512x1024_S32768x1024_1_0_0_1_n_n none (extf .f32 (m (c.tc.loc main_arg1)) bitsLt_bf16_f32) (extf .f32 (m (c.tc.loc main_arg5)) bitsLt_bf16_f32)))) (extf .f32 (m (c.tc.loc main_arg6)) bitsLt_bf16_f32)

/-- The reference's result. -/
def want (m : (ℓ : Loc nD τ sig) → Buf (Elt Ideal) ℓ) (c : Dev nD) : Buf (Elt Ideal) ((c.tc : Thread nD τ).loc main_v27) :=
  addf (m (c.tc.loc main_arg3))
    (mulf (mulf (projected m c) (broadcastInDim S32768x1024 ![0, 1] bcast_S32768x1_S32768x1024_0_1
      (Host.rsqrt (addf (Host.divf (broadcastInDim S32768x1 ![0] bcast_S32768_S32768x1_0 (Host.reduceAdd (mulf (projected m c) (projected m c)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (m (c.tc.loc main_arg7))))

end Cert.MergeRefIdeal.Rows

namespace Cert.MergeIdeal.Rows

open Cert.MergeIdeal Cert.MergeIdeal.Gen
open Cert.MergeRefIdeal.Rows (want projected)

/-- The payload at a row of the block is the reference at the array's row that block row holds. -/
theorem payload_at (m' : (ℓ : Loc Cert.MergeRefIdeal.nD Cert.MergeRefIdeal.τ Cert.MergeRefIdeal.sig) → Buf (Elt Ideal) ℓ) (c : Dev Cert.MergeRefIdeal.nD)
    (P0 P1 : Vec Ideal S1024x512 .bf16) (P2 P2' : Vec Ideal S1024x1024 .bf16) (P3 : Vec Ideal S1024x1024 .f32)
    (R : Fin 32768) (r l : Fin 1024)
    (h0 : ∀ k, P0 (ix2 r k) = m' (c.tc.loc Cert.MergeRefIdeal.main_arg0) (ix2 R k))
    (h1 : ∀ k, P1 (ix2 r k) = m' (c.tc.loc Cert.MergeRefIdeal.main_arg1) (ix2 R k))
    (h2 : ∀ k : Fin 1024, P2 (ix2 r k) = m' (c.tc.loc Cert.MergeRefIdeal.main_arg2) (ix2 R ⟨k.val, by omega⟩))
    (h2' : ∀ k : Fin 1024, P2' (ix2 r k) = m' (c.tc.loc Cert.MergeRefIdeal.main_arg2) (ix2 R ⟨1024 + k.val, by omega⟩))
    (h3 : ∀ k, P3 (ix2 r k) = m' (c.tc.loc Cert.MergeRefIdeal.main_arg3) (ix2 R k)) :
    k0_pay1 P0 (m' (c.tc.loc Cert.MergeRefIdeal.main_arg4)) P1 (m' (c.tc.loc Cert.MergeRefIdeal.main_arg5))
      P2 P2' (m' (c.tc.loc Cert.MergeRefIdeal.main_arg6)) P3 (m' (c.tc.loc Cert.MergeRefIdeal.main_arg7)) (ix2 r l)
      = want m' c (ix2 R l) := by
  pointwise [k0_pay1, want, projected]
  simp only [h0, h1, h2, h2', h3]

variable (m : (ℓ : Loc nD τ sig) → Buf (Elt Ideal) ℓ)

theorem N_eq : cfg0.N = 32 := N_0

/-- Where the windows stand at point `t`: the branches', gates', residual's and result's at row block `t`, the weights' at the origin. -/
theorem index_at : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val ∧ win0_8.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = t.val ∧ win0_8.index t 1 = 0))

/-- Row `r` of block `t`, as a row of the whole array. -/
def row (t : Fin cfg0.N) (r : Fin 1024) : Fin 32768 := ⟨t.val * 1024 + r.val, by have : t.val < 32 := lt_of_lt_of_eq t.isLt N_eq; omega⟩

theorem iblk0 (c : Dev nD) (t : Fin cfg0.N) (r : Fin 1024) (k : Fin 512) :
    iblk m c 0 t (ix2 r k) = m (c.tc.loc main_arg0) (ix2 (row t r) k) := by
  show V m c (Pipeline.arrRef spec0 0) _ = _
  refine congrArg (m (c.tc.loc main_arg0)) (funext fun a => Fin.ext ?_)
  obtain ⟨⟨e0, e1⟩, -⟩ := index_at t
  match a with
  | ⟨0, _⟩ => show win0_0.index t 0 * 1024 + 1 * r.val = t.val * 1024 + r.val; omega
  | ⟨1, _⟩ => show win0_0.index t 1 * 512 + 1 * k.val = k.val; omega

theorem iblk1 (c : Dev nD) (t : Fin cfg0.N) (r : Fin 1024) (k : Fin 512) :
    iblk m c 1 t (ix2 r k) = m (c.tc.loc main_arg1) (ix2 (row t r) k) := by
  show V m c (Pipeline.arrRef spec0 1) _ = _
  refine congrArg (m (c.tc.loc main_arg1)) (funext fun a => Fin.ext ?_)
  obtain ⟨-, ⟨e0, e1⟩, -⟩ := index_at t
  match a with
  | ⟨0, _⟩ => show win0_1.index t 0 * 1024 + 1 * r.val = t.val * 1024 + r.val; omega
  | ⟨1, _⟩ => show win0_1.index t 1 * 512 + 1 * k.val = k.val; omega

theorem iblk2 (c : Dev nD) (t : Fin cfg0.N) (r : Fin 1024) (k : Fin 2048) :
    iblk m c 2 t (ix2 r k) = m (c.tc.loc main_arg2) (ix2 (row t r) k) := by
  show V m c (Pipeline.arrRef spec0 2) _ = _
  refine congrArg (m (c.tc.loc main_arg2)) (funext fun a => Fin.ext ?_)
  obtain ⟨-, -, ⟨e0, e1⟩, -⟩ := index_at t
  match a with
  | ⟨0, _⟩ => show win0_2.index t 0 * 1024 + 1 * r.val = t.val * 1024 + r.val; omega
  | ⟨1, _⟩ => show win0_2.index t 1 * 2048 + 1 * k.val = k.val; omega

theorem iblk3 (c : Dev nD) (t : Fin cfg0.N) (r : Fin 1024) (k : Fin 1024) :
    iblk m c 3 t (ix2 r k) = m (c.tc.loc main_arg3) (ix2 (row t r) k) := by
  show V m c (Pipeline.arrRef spec0 3) _ = _
  refine congrArg (m (c.tc.loc main_arg3)) (funext fun a => Fin.ext ?_)
  obtain ⟨-, -, -, ⟨e0, e1⟩, -⟩ := index_at t
  match a with
  | ⟨0, _⟩ => show win0_3.index t 0 * 1024 + 1 * r.val = t.val * 1024 + r.val; omega
  | ⟨1, _⟩ => show win0_3.index t 1 * 1024 + 1 * k.val = k.val; omega

theorem iblk4 (c : Dev nD) (t : Fin cfg0.N) : iblk m c 4 t = m (c.tc.loc main_arg4) := by
  funext y
  show V m c (Pipeline.arrRef spec0 4) _ = _
  refine congrArg (m (c.tc.loc main_arg4)) (funext fun a => Fin.ext ?_)
  obtain ⟨-, -, -, -, ⟨e0, e1⟩, -⟩ := index_at t
  match a with
  | ⟨0, _⟩ => show win0_4.index t 0 * 512 + 1 * (y 0).val = (y 0).val; omega
  | ⟨1, _⟩ => show win0_4.index t 1 * 1024 + 1 * (y 1).val = (y 1).val; omega

theorem iblk5 (c : Dev nD) (t : Fin cfg0.N) : iblk m c 5 t = m (c.tc.loc main_arg5) := by
  funext y
  show V m c (Pipeline.arrRef spec0 5) _ = _
  refine congrArg (m (c.tc.loc main_arg5)) (funext fun a => Fin.ext ?_)
  obtain ⟨-, -, -, -, -, ⟨e0, e1⟩, -⟩ := index_at t
  match a with
  | ⟨0, _⟩ => show win0_5.index t 0 * 512 + 1 * (y 0).val = (y 0).val; omega
  | ⟨1, _⟩ => show win0_5.index t 1 * 1024 + 1 * (y 1).val = (y 1).val; omega

theorem iblk6 (c : Dev nD) (t : Fin cfg0.N) : iblk m c 6 t = m (c.tc.loc main_arg6) := by
  funext y
  show V m c (Pipeline.arrRef spec0 6) _ = _
  refine congrArg (m (c.tc.loc main_arg6)) (funext fun a => Fin.ext ?_)
  obtain ⟨-, -, -, -, -, -, ⟨e0, e1⟩, -⟩ := index_at t
  match a with
  | ⟨0, _⟩ => show win0_6.index t 0 * 1024 + 1 * (y 0).val = (y 0).val; omega
  | ⟨1, _⟩ => show win0_6.index t 1 * 1024 + 1 * (y 1).val = (y 1).val; omega

theorem iblk7 (c : Dev nD) (t : Fin cfg0.N) : iblk m c 7 t = m (c.tc.loc main_arg7) := by
  funext y
  show V m c (Pipeline.arrRef spec0 7) _ = _
  refine congrArg (m (c.tc.loc main_arg7)) (funext fun a => Fin.ext ?_)
  obtain ⟨-, -, -, -, -, -, -, ⟨e0, e1⟩, -⟩ := index_at t
  match a with
  | ⟨0, _⟩ => show win0_7.index t 0 * 1 + 1 * (y 0).val = (y 0).val; omega
  | ⟨1, _⟩ => show win0_7.index t 1 * 1024 + 1 * (y 1).val = (y 1).val; omega

theorem hz : (![0, 0] : Fin 2 → Nat) = fun _ => 0 := funext fun a => by fin_cases a <;> rfl

/-- The two programs' memories, holding the same arguments. -/
def Same (m : (ℓ : Loc nD τ sig) → Buf (Elt Ideal) ℓ) (m' : (ℓ : Loc Cert.MergeRefIdeal.nD Cert.MergeRefIdeal.τ Cert.MergeRefIdeal.sig) → Buf (Elt Ideal) ℓ) (c : Dev nD) : Prop :=
  m' (c.tc.loc Cert.MergeRefIdeal.main_arg0) = m (c.tc.loc main_arg0) ∧ m' (c.tc.loc Cert.MergeRefIdeal.main_arg1) = m (c.tc.loc main_arg1)
  ∧ m' (c.tc.loc Cert.MergeRefIdeal.main_arg2) = m (c.tc.loc main_arg2) ∧ m' (c.tc.loc Cert.MergeRefIdeal.main_arg3) = m (c.tc.loc main_arg3)
  ∧ m' (c.tc.loc Cert.MergeRefIdeal.main_arg4) = m (c.tc.loc main_arg4) ∧ m' (c.tc.loc Cert.MergeRefIdeal.main_arg5) = m (c.tc.loc main_arg5)
  ∧ m' (c.tc.loc Cert.MergeRefIdeal.main_arg6) = m (c.tc.loc main_arg6) ∧ m' (c.tc.loc Cert.MergeRefIdeal.main_arg7) = m (c.tc.loc main_arg7)

variable {m} {m' : (ℓ : Loc Cert.MergeRefIdeal.nD Cert.MergeRefIdeal.τ Cert.MergeRefIdeal.sig) → Buf (Elt Ideal) ℓ}

/-- What point `t` writes back is block `t` of the reference's result. -/
theorem flushed_eq (c : Dev nD) (h : Same m m' c) (t : Fin cfg0.N) :
    (dats m 0 c).flushed 8 t = (win0_8.blk t).view.read (Elt Ideal) (want m' c) := by
  obtain ⟨h0, h1, h2, h3, h4, h5, h6, h7⟩ := h
  rw [Value.flushed8]
  unfold out0_8
  rw [View.canon_unit_zero hz]
  repeat rw [View.ld_unit_zero hz]
  rw [iblk4, iblk5, iblk6, iblk7, ← h4, ← h5, ← h6, ← h7]
  funext y
  idx_vars y
  show k0_pay1 (iblk m c 0 t) _ (iblk m c 1 t) _ (View.ld (iblk m c 2 t) r0_2) (View.ld (iblk m c 2 t) r0_3) _ (iblk m c 3 t) _ (ix2 y0 y1) = _
  refine (payload_at m' c _ _ _ _ _ (row t y0) y0 y1 (fun k => (iblk0 m c t y0 k).trans (by rw [h0]))
    (fun k => (iblk1 m c t y0 k).trans (by rw [h1])) (fun k => ?_) (fun k => ?_) (fun k => (iblk3 m c t y0 k).trans (by rw [h3]))).trans ?_
  · rw [h2]
    refine Eq.trans ?_ (iblk2 m c t y0 ⟨k.val, by omega⟩)
    refine congrArg (iblk m c 2 t) (funext fun a => Fin.ext ?_)
    match a with
    | ⟨0, _⟩ => show 0 + 1 * y0.val = y0.val; omega
    | ⟨1, _⟩ => show 0 + 1 * k.val = k.val; omega
  · rw [h2]
    refine Eq.trans ?_ (iblk2 m c t y0 ⟨1024 + k.val, by omega⟩)
    refine congrArg (iblk m c 2 t) (funext fun a => Fin.ext ?_)
    match a with
    | ⟨0, _⟩ => show 0 + 1 * y0.val = y0.val; omega
    | ⟨1, _⟩ => show 1024 + 1 * k.val = 1024 + k.val; omega
  refine congrArg (want m' c) (funext fun a => Fin.ext ?_)
  obtain ⟨-, -, -, -, -, -, -, -, e0, e1⟩ := index_at t
  match a with
  | ⟨0, _⟩ => show t.val * 1024 + y0.val = win0_8.index t 0 * 1024 + 1 * y0.val; omega
  | ⟨1, _⟩ => show y1.val = win0_8.index t 1 * 1024 + 1 * y1.val; omega

theorem mem_blk (t : Fin cfg0.N) (i : S32768x1024.Idx) :
    i ∈ ((cfg0.win 8).blk t).view.set ↔ t.val * 1024 ≤ (i 0 : Nat) ∧ (i 0 : Nat) < t.val * 1024 + 1024 := by
  show i ∈ ((View.whole main_v0).slice (win0_8.rect t)).set ↔ _
  rw [View.set_slice_whole, Rect.mem_set_unit]
  have h1 : (i 1 : Nat) < 1024 := (i 1).isLt
  obtain ⟨-, -, -, -, -, -, -, -, e0, e1⟩ := index_at t
  refine ⟨fun h => ?_, fun h a => ?_⟩
  · have : win0_8.index t 0 * 1024 ≤ (i 0 : Nat) ∧ (i 0 : Nat) < win0_8.index t 0 * 1024 + 1024 := h 0
    rw [e0] at this; exact this
  · match a with
    | ⟨0, _⟩ => show win0_8.index t 0 * 1024 ≤ (i 0 : Nat) ∧ (i 0 : Nat) < win0_8.index t 0 * 1024 + 1024
                rw [e0]; exact h
    | ⟨1, _⟩ => show win0_8.index t 1 * 1024 ≤ (i 1 : Nat) ∧ (i 1 : Nat) < win0_8.index t 1 * 1024 + 1024
                rw [e1]; exact ⟨Nat.zero_le _, h1⟩

/-- The row blocks tile the result. -/
theorem cover (i : S32768x1024.Idx) : ∃ t : Fin cfg0.N, (cfg0.win 8).flush t = true ∧ i ∈ ((cfg0.win 8).blk t).view.set := by
  have h0 : (i 0 : Nat) < 32768 := (i 0).isLt
  have hN : cfg0.N = 32 := N_eq
  have ht : (i 0 : Nat) / 1024 < cfg0.N := by omega
  refine ⟨⟨(i 0 : Nat) / 1024, ht⟩, flush0_8 _, ?_⟩
  rw [mem_blk]
  dsimp only
  omega

/-- The call's result is the reference's. -/
theorem final (c : Dev nD) (h : Same m m' c) : (dats m 0 c).arrAt 8 cfg0.N = want m' c :=
  (dats m 0 c).arrAt_eq_of_cover 8 (want m' c) (fun t _ => flushed_eq c h t) cover

/-- The merge call and its reference end with the same result. -/
theorem agrees : algebraic_MergeIdeal_MergeRefIdeal (hMergeIdeal := Cert.MergeIdeal.Gen.facts) (hMergeRefIdeal := Cert.MergeRefIdeal.Gen.facts) :=
  fun m g m' g' _ h => ⟨fun c => want m' c,
    (θ_run _ _ _).mono (fun r k c => ⟨(k c).1.trans (final c (h c)), (k c).2⟩) (Value.run_blocks (F := Ideal) m g),
    Cert.MergeRefIdeal.Value.run (F := Ideal) m' g'⟩

end Cert.MergeIdeal.Rows

end
-- ==== Proof.InputValue.lean ====
/- The input stage's call against its reference over the extended reals: the queries, keys and values of the forgetting
   attention, the other attention's values and the gates. A point's payload at a row is the reference at that row of the
   whole array, so the call's blocks tile the reference's results. -/
module

public import proofs.«01_k».proof.Defs
public import proofs.«01_k».proof.Proof.Gen.InputIdeal.Value
public import proofs.«01_k».proof.Proof.Gen.InputRefIdeal.Run
public import Idealize.ShloMosaic.Lib.Pointwise
public import Idealize.ShloMosaic.Lib.Pipeline.Value
public import Idealize.ShloMosaic.Lib.VecWindow
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InputRefIdeal.Rows

open Cert.InputRefIdeal Cert.InputRefIdeal.Gen

/-- The normalised input. -/
def normed (m : (ℓ : Loc nD τ sig) → Buf (Elt Ideal) ℓ) (c : Dev nD) : FVec Ideal S8x4096x1024 .f32 :=
  mulf (mulf (m (c.tc.loc main_arg0)) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (m (c.tc.loc main_arg0)) (m (c.tc.loc main_arg0))) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![1, 2] bcast_S1x1024_S1x1x1024_1_2 (m (c.tc.loc main_arg1))))

/-- The reference's queries and keys. -/
def wantQk (m : (ℓ : Loc nD τ sig) → Buf (Elt Ideal) ℓ) (c : Dev nD) : FVec Ideal S8x4096x1024 .bf16 :=
  truncf .bf16 (concatenate S8x4096x1024 2 [⟨S8x4096x512, (mulf (extractStridedSlice S8x4096x512 ![0, 0, 0] (Host.dotGeneral dot_S8x4096x1024_S1024x1536_S8x4096x1536_2_0_01_1_n_n none (normed m c) (extf .f32 (m (c.tc.loc main_arg2)) bitsLt_bf16_f32)) slices_S8x4096x1536_S8x4096x512_0_0_0) (broadcastInDim S8x4096x512 ![] bcast_S_S8x4096x512 (constant S_ .f32 0x3E0293EE#32)))⟩, ⟨S8x4096x512, (extractStridedSlice S8x4096x512 ![0, 0, 512] (Host.dotGeneral dot_S8x4096x1024_S1024x1536_S8x4096x1536_2_0_01_1_n_n none (normed m c) (extf .f32 (m (c.tc.loc main_arg2)) bitsLt_bf16_f32)) slices_S8x4096x1536_S8x4096x512_0_0_512)⟩] concatenates_S8x4096x512_S8x4096x512_S8x4096x1024_d2) bitsLt_bf16_f32

/-- The reference's values, transposed. -/
def wantV (m : (ℓ : Loc nD τ sig) → Buf (Elt Ideal) ℓ) (c : Dev nD) : FVec Ideal S8x512x4096 .bf16 :=
  truncf .bf16 (transpose S8x512x4096 [0, 2, 1] (extractStridedSlice S8x4096x512 ![0, 0, 1024] (Host.dotGeneral dot_S8x4096x1024_S1024x1536_S8x4096x1536_2_0_01_1_n_n none (normed m c) (extf .f32 (m (c.tc.loc main_arg2)) bitsLt_bf16_f32)) slices_S8x4096x1536_S8x4096x512_0_0_1024) transposes_S8x4096x512_S8x512x4096_0_2_1) bitsLt_bf16_f32

/-- The reference's values of the other attention, transposed. -/
def wantVd (m : (ℓ : Loc nD τ sig) → Buf (Elt Ideal) ℓ) (c : Dev nD) : FVec Ideal S8x128x4096 .bf16 :=
  truncf .bf16 (transpose S8x128x4096 [0, 2, 1] (extractStridedSlice S8x4096x128 ![0, 0, 640] (Host.dotGeneral dot_S8x4096x1024_S1024x768_S8x4096x768_2_0_01_1_n_n none (normed m c) (extf .f32 (m (c.tc.loc main_arg3)) bitsLt_bf16_f32)) slices_S8x4096x768_S8x4096x128_0_0_640) transposes_S8x4096x128_S8x128x4096_0_2_1) bitsLt_bf16_f32

/-- The reference's gates. -/
def wantG (m : (ℓ : Loc nD τ sig) → Buf (Elt Ideal) ℓ) (c : Dev nD) : FVec Ideal S8x4096x2048 .bf16 :=
  truncf .bf16 (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf (addf (Host.dotGeneral dot_S8x4096x1024_S1024x2048_S8x4096x2048_2_0_01_1_n_n none (normed m c) (extf .f32 (m (c.tc.loc main_arg6)) bitsLt_bf16_f32)) (broadcastInDim S8x4096x2048 ![0, 1, 2] bcast_S1x1x2048_S8x4096x2048_0_1_2 (broadcastInDim S1x1x2048 ![1, 2] bcast_S1x2048_S1x1x2048_1_2 (m (c.tc.loc main_arg8))))))))) bitsLt_bf16_f32

end Cert.InputRefIdeal.Rows

namespace Cert.InputIdeal.Rows

open Cert.InputIdeal Cert.InputIdeal.Gen
open Cert.InputRefIdeal.Rows (normed wantQk wantV wantVd wantG)

section Payloads

variable (m' : (ℓ : Loc Cert.InputRefIdeal.nD Cert.InputRefIdeal.τ Cert.InputRefIdeal.sig) → Buf (Elt Ideal) ℓ)
  (c : Dev Cert.InputRefIdeal.nD) (P0 : Vec Ideal S1x1024x1024 .f32) (b : Fin 8) (R : Fin 4096) (r : Fin 1024)
  (h0 : ∀ k, P0 (ix3 0 r k) = m' (c.tc.loc Cert.InputRefIdeal.main_arg0) (ix3 b R k))
include h0

/-- The payload of the queries at a row of the block is the reference at the array's row that block row holds. -/
theorem q_at (l : Fin 512) : k0_pay6 P0 (m' (c.tc.loc Cert.InputRefIdeal.main_arg1)) (m' (c.tc.loc Cert.InputRefIdeal.main_arg2)) (ix3 0 r l)
    = wantQk m' c (ix3 b R ⟨l.val, by omega⟩) := by
  pointwise [k0_pay6, k0_pay5, k0_pay4, wantQk, normed]
  simp only [h0]

/-- The payload of the keys at a row of the block. -/
theorem k_at (l : Fin 512) : k0_pay7 P0 (m' (c.tc.loc Cert.InputRefIdeal.main_arg1)) (m' (c.tc.loc Cert.InputRefIdeal.main_arg2)) (ix3 0 r l)
    = wantQk m' c (ix3 b R ⟨512 + l.val, by omega⟩) := by
  pointwise [k0_pay7, k0_pay5, k0_pay4, wantQk, normed]
  simp only [h0]

/-- The payloads of the four heads' values at a column of the block. -/
theorem v0_at (l : Fin 128) : k0_pay9 (k0_pay8 P0 (m' (c.tc.loc Cert.InputRefIdeal.main_arg1)) (m' (c.tc.loc Cert.InputRefIdeal.main_arg2))) (ix3 0 l r)
    = wantV m' c (ix3 b ⟨l.val, by omega⟩ R) := by
  pointwise [k0_pay9, k0_pay8, k0_pay5, k0_pay4, wantV, normed]
  simp only [h0]

theorem v1_at (l : Fin 128) : k0_pay10 (k0_pay5 P0 (m' (c.tc.loc Cert.InputRefIdeal.main_arg1)) (m' (c.tc.loc Cert.InputRefIdeal.main_arg2))) (ix3 0 l r)
    = wantV m' c (ix3 b ⟨128 + l.val, by omega⟩ R) := by
  pointwise [k0_pay10, k0_pay5, k0_pay4, wantV, normed]
  simp only [h0, ← Nat.add_assoc, Nat.reduceAdd]

theorem v2_at (l : Fin 128) : k0_pay11 (k0_pay5 P0 (m' (c.tc.loc Cert.InputRefIdeal.main_arg1)) (m' (c.tc.loc Cert.InputRefIdeal.main_arg2))) (ix3 0 l r)
    = wantV m' c (ix3 b ⟨256 + l.val, by omega⟩ R) := by
  pointwise [k0_pay11, k0_pay5, k0_pay4, wantV, normed]
  simp only [h0, ← Nat.add_assoc, Nat.reduceAdd]

theorem v3_at (l : Fin 128) : k0_pay12 (k0_pay5 P0 (m' (c.tc.loc Cert.InputRefIdeal.main_arg1)) (m' (c.tc.loc Cert.InputRefIdeal.main_arg2))) (ix3 0 l r)
    = wantV m' c (ix3 b ⟨384 + l.val, by omega⟩ R) := by
  pointwise [k0_pay12, k0_pay5, k0_pay4, wantV, normed]
  simp only [h0, ← Nat.add_assoc, Nat.reduceAdd]

/-- The payload of the other attention's values at a column of the block. -/
theorem vd_at (l : Fin 128) : k0_pay21 (k0_pay13 (k0_pay4 P0 (m' (c.tc.loc Cert.InputRefIdeal.main_arg1))) (m' (c.tc.loc Cert.InputRefIdeal.main_arg3))) (ix3 0 l r)
    = wantVd m' c (ix3 b l R) := by
  pointwise [k0_pay21, k0_pay13, k0_pay4, wantVd, normed]
  simp only [h0]

/-- The payload of the gates at a row of the block. -/
theorem g_at (l : Fin 2048) : k0_pay32 (k0_pay4 P0 (m' (c.tc.loc Cert.InputRefIdeal.main_arg1))) (m' (c.tc.loc Cert.InputRefIdeal.main_arg6))
    (m' (c.tc.loc Cert.InputRefIdeal.main_arg8)) (ix3 0 r l) = wantG m' c (ix3 b R l) := by
  pointwise [k0_pay32, k0_pay4, wantG, normed]
  simp only [h0, zero_sub]

end Payloads

variable (m : (ℓ : Loc nD τ sig) → Buf (Elt Ideal) ℓ)

theorem N_eq : cfg0.N = 32 := N_0

/-- Where window 0 stands at point `t`. -/
theorem index0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- Where window 1 stands at point `t`. -/
theorem index1 : ∀ t : Fin cfg0.N, win0_1.index t 0 = 0 ∧ win0_1.index t 1 = 0 :=
  (by decide +kernel : ∀ t : Fin grid0.N, win0_1.index t 0 = 0 ∧ win0_1.index t 1 = 0)

/-- Where window 2 stands at point `t`. -/
theorem index2 : ∀ t : Fin cfg0.N, win0_2.index t 0 = 0 ∧ win0_2.index t 1 = 0 :=
  (by decide +kernel : ∀ t : Fin grid0.N, win0_2.index t 0 = 0 ∧ win0_2.index t 1 = 0)

/-- Where window 3 stands at point `t`. -/
theorem index3 : ∀ t : Fin cfg0.N, win0_3.index t 0 = 0 ∧ win0_3.index t 1 = 0 :=
  (by decide +kernel : ∀ t : Fin grid0.N, win0_3.index t 0 = 0 ∧ win0_3.index t 1 = 0)

/-- Where window 6 stands at point `t`. -/
theorem index6 : ∀ t : Fin cfg0.N, win0_6.index t 0 = 0 ∧ win0_6.index t 1 = 0 :=
  (by decide +kernel : ∀ t : Fin grid0.N, win0_6.index t 0 = 0 ∧ win0_6.index t 1 = 0)

/-- Where window 8 stands at point `t`. -/
theorem index8 : ∀ t : Fin cfg0.N, win0_8.index t 0 = 0 ∧ win0_8.index t 1 = 0 :=
  (by decide +kernel : ∀ t : Fin grid0.N, win0_8.index t 0 = 0 ∧ win0_8.index t 1 = 0)

/-- Where window 15 stands at point `t`. -/
theorem index15 : ∀ t : Fin cfg0.N, win0_15.index t 0 = t.val / 4 ∧ win0_15.index t 1 = t.val % 4 ∧ win0_15.index t 2 = 0 :=
  (by decide +kernel : ∀ t : Fin grid0.N, win0_15.index t 0 = t.val / 4 ∧ win0_15.index t 1 = t.val % 4 ∧ win0_15.index t 2 = 0)

/-- Where window 16 stands at point `t`. -/
theorem index16 : ∀ t : Fin cfg0.N, win0_16.index t 0 = t.val / 4 ∧ win0_16.index t 1 = 0 ∧ win0_16.index t 2 = t.val % 4 :=
  (by decide +kernel : ∀ t : Fin grid0.N, win0_16.index t 0 = t.val / 4 ∧ win0_16.index t 1 = 0 ∧ win0_16.index t 2 = t.val % 4)

/-- Where window 18 stands at point `t`. -/
theorem index18 : ∀ t : Fin cfg0.N, win0_18.index t 0 = t.val / 4 ∧ win0_18.index t 1 = 0 ∧ win0_18.index t 2 = t.val % 4 :=
  (by decide +kernel : ∀ t : Fin grid0.N, win0_18.index t 0 = t.val / 4 ∧ win0_18.index t 1 = 0 ∧ win0_18.index t 2 = t.val % 4)

/-- Where window 21 stands at point `t`. -/
theorem index21 : ∀ t : Fin cfg0.N, win0_21.index t 0 = t.val / 4 ∧ win0_21.index t 1 = t.val % 4 ∧ win0_21.index t 2 = 0 :=
  (by decide +kernel : ∀ t : Fin grid0.N, win0_21.index t 0 = t.val / 4 ∧ win0_21.index t 1 = t.val % 4 ∧ win0_21.index t 2 = 0)

/-- The batch entry and the row of the whole array that row `r` of block `t` is. -/
def batch (t : Fin cfg0.N) : Fin 8 := ⟨t.val / 4, by have : t.val < 32 := lt_of_lt_of_eq t.isLt N_eq; omega⟩
def row (t : Fin cfg0.N) (r : Fin 1024) : Fin 4096 := ⟨t.val % 4 * 1024 + r.val, by omega⟩

theorem iblk0 (c : Dev nD) (t : Fin cfg0.N) (r k : Fin 1024) :
    iblk m c 0 t (ix3 0 r k) = m (c.tc.loc main_arg0) (ix3 (batch t) (row t r) k) := by
  show V m c (Pipeline.arrRef spec0 0) _ = _
  refine congrArg (m (c.tc.loc main_arg0)) (funext fun a => Fin.ext ?_)
  obtain ⟨e0, e1, e2⟩ := index0 t
  match a with
  | ⟨0, _⟩ => show win0_0.index t 0 * 1 + 1 * 0 = t.val / 4; omega
  | ⟨1, _⟩ => show win0_0.index t 1 * 1024 + 1 * r.val = t.val % 4 * 1024 + r.val; omega
  | ⟨2, _⟩ => show win0_0.index t 2 * 1024 + 1 * k.val = k.val; omega

theorem iblk1 (c : Dev nD) (t : Fin cfg0.N) : iblk m c 1 t = m (c.tc.loc main_arg1) := by
  funext y
  show V m c (Pipeline.arrRef spec0 1) _ = _
  refine congrArg (m (c.tc.loc main_arg1)) (funext fun a => Fin.ext ?_)
  obtain ⟨e0, e1⟩ := index1 t
  match a with
  | ⟨0, _⟩ => show win0_1.index t 0 * 1 + 1 * (y 0).val = (y 0).val; omega
  | ⟨1, _⟩ => show win0_1.index t 1 * 1024 + 1 * (y 1).val = (y 1).val; omega

theorem iblk2 (c : Dev nD) (t : Fin cfg0.N) : iblk m c 2 t = m (c.tc.loc main_arg2) := by
  funext y
  show V m c (Pipeline.arrRef spec0 2) _ = _
  refine congrArg (m (c.tc.loc main_arg2)) (funext fun a => Fin.ext ?_)
  obtain ⟨e0, e1⟩ := index2 t
  match a with
  | ⟨0, _⟩ => show win0_2.index t 0 * 1024 + 1 * (y 0).val = (y 0).val; omega
  | ⟨1, _⟩ => show win0_2.index t 1 * 1536 + 1 * (y 1).val = (y 1).val; omega

theorem iblk3 (c : Dev nD) (t : Fin cfg0.N) : iblk m c 3 t = m (c.tc.loc main_arg3) := by
  funext y
  show V m c (Pipeline.arrRef spec0 3) _ = _
  refine congrArg (m (c.tc.loc main_arg3)) (funext fun a => Fin.ext ?_)
  obtain ⟨e0, e1⟩ := index3 t
  match a with
  | ⟨0, _⟩ => show win0_3.index t 0 * 1024 + 1 * (y 0).val = (y 0).val; omega
  | ⟨1, _⟩ => show win0_3.index t 1 * 768 + 1 * (y 1).val = (y 1).val; omega

theorem iblk6 (c : Dev nD) (t : Fin cfg0.N) : iblk m c 6 t = m (c.tc.loc main_arg6) := by
  funext y
  show V m c (Pipeline.arrRef spec0 6) _ = _
  refine congrArg (m (c.tc.loc main_arg6)) (funext fun a => Fin.ext ?_)
  obtain ⟨e0, e1⟩ := index6 t
  match a with
  | ⟨0, _⟩ => show win0_6.index t 0 * 1024 + 1 * (y 0).val = (y 0).val; omega
  | ⟨1, _⟩ => show win0_6.index t 1 * 2048 + 1 * (y 1).val = (y 1).val; omega

theorem iblk8 (c : Dev nD) (t : Fin cfg0.N) : iblk m c 8 t = m (c.tc.loc main_arg8) := by
  funext y
  show V m c (Pipeline.arrRef spec0 8) _ = _
  refine congrArg (m (c.tc.loc main_arg8)) (funext fun a => Fin.ext ?_)
  obtain ⟨e0, e1⟩ := index8 t
  match a with
  | ⟨0, _⟩ => show win0_8.index t 0 * 1 + 1 * (y 0).val = (y 0).val; omega
  | ⟨1, _⟩ => show win0_8.index t 1 * 2048 + 1 * (y 1).val = (y 1).val; omega

/-- A load of a whole memref reads what the memref holds. -/
theorem load {sp : Space} {s : Shape} {e : EltTy} {M : Memref sig .tc sp s e} (h : M.IsWhole) (X : s.Idx → Elt Ideal e)
    {off : Fin s.rank → ℕ} (inb : ∀ a, off a + s.size a ≤ s.size a) :
    View.readAt (Elt Ideal) M.view (Rect.unit off s.size inb).toLoadRect (h.unread X) = X :=
  (View.readAt_full ..).trans (h.read_unread X)

/-- What the body loads of input window 0. -/
def ld0 (c : Dev nD) (t : Fin cfg0.N) : Vec Ideal S1x1024x1024 .f32 :=
  View.readAt (Elt Ideal) (ms0_0 t).view (Rect.unit (s := S1x1024x1024) (![0, 0, 0] : Fin 3 → ℕ) (![1, 1024, 1024] : Fin 3 → ℕ) inb_S1x1024x1024_S1x1024x1024_0_0_0).toLoadRect ((hs0_0 t).unread (iblk m c 0 t))

theorem ld0_eq (c : Dev nD) (t : Fin cfg0.N) : ld0 m c t = iblk m c 0 t := load (hs0_0 t) _ _

/-- What the body loads of input window 1. -/
def ld1 (c : Dev nD) (t : Fin cfg0.N) : Vec Ideal S1x1024 .f32 :=
  View.readAt (Elt Ideal) (ms0_1 t).view (Rect.unit (s := S1x1024) (![0, 0] : Fin 2 → ℕ) (![1, 1024] : Fin 2 → ℕ) inb_S1x1024_S1x1024_0_0).toLoadRect ((hs0_1 t).unread (iblk m c 1 t))

theorem ld1_eq (c : Dev nD) (t : Fin cfg0.N) : ld1 m c t = iblk m c 1 t := load (hs0_1 t) _ _

/-- What the body loads of input window 2. -/
def ld2 (c : Dev nD) (t : Fin cfg0.N) : Vec Ideal S1024x1536 .bf16 :=
  View.readAt (Elt Ideal) (ms0_2 t).view (Rect.unit (s := S1024x1536) (![0, 0] : Fin 2 → ℕ) (![1024, 1536] : Fin 2 → ℕ) inb_S1024x1536_S1024x1536_0_0).toLoadRect ((hs0_2 t).unread (iblk m c 2 t))

theorem ld2_eq (c : Dev nD) (t : Fin cfg0.N) : ld2 m c t = iblk m c 2 t := load (hs0_2 t) _ _

/-- What the body loads of input window 3. -/
def ld3 (c : Dev nD) (t : Fin cfg0.N) : Vec Ideal S1024x768 .bf16 :=
  View.readAt (Elt Ideal) (ms0_3 t).view (Rect.unit (s := S1024x768) (![0, 0] : Fin 2 → ℕ) (![1024, 768] : Fin 2 → ℕ) inb_S1024x768_S1024x768_0_0).toLoadRect ((hs0_3 t).unread (iblk m c 3 t))

theorem ld3_eq (c : Dev nD) (t : Fin cfg0.N) : ld3 m c t = iblk m c 3 t := load (hs0_3 t) _ _

/-- What the body loads of input window 6. -/
def ld6 (c : Dev nD) (t : Fin cfg0.N) : Vec Ideal S1024x2048 .bf16 :=
  View.readAt (Elt Ideal) (ms0_6 t).view (Rect.unit (s := S1024x2048) (![0, 0] : Fin 2 → ℕ) (![1024, 2048] : Fin 2 → ℕ) inb_S1024x2048_S1024x2048_0_0).toLoadRect ((hs0_6 t).unread (iblk m c 6 t))

theorem ld6_eq (c : Dev nD) (t : Fin cfg0.N) : ld6 m c t = iblk m c 6 t := load (hs0_6 t) _ _

/-- What the body loads of input window 8. -/
def ld8 (c : Dev nD) (t : Fin cfg0.N) : Vec Ideal S1x2048 .f32 :=
  View.readAt (Elt Ideal) (ms0_8 t).view (Rect.unit (s := S1x2048) (![0, 0] : Fin 2 → ℕ) (![1, 2048] : Fin 2 → ℕ) inb_S1x2048_S1x2048_0_0).toLoadRect ((hs0_8 t).unread (iblk m c 8 t))

theorem ld8_eq (c : Dev nD) (t : Fin cfg0.N) : ld8 m c t = iblk m c 8 t := load (hs0_8 t) _ _

/-- The two programs' memories, holding the same arguments. -/
def Same (m : (ℓ : Loc nD τ sig) → Buf (Elt Ideal) ℓ)
    (m' : (ℓ : Loc Cert.InputRefIdeal.nD Cert.InputRefIdeal.τ Cert.InputRefIdeal.sig) → Buf (Elt Ideal) ℓ) (c : Dev nD) : Prop :=
  m' (c.tc.loc Cert.InputRefIdeal.main_arg0) = m (c.tc.loc main_arg0) ∧ m' (c.tc.loc Cert.InputRefIdeal.main_arg1) = m (c.tc.loc main_arg1)
  ∧ m' (c.tc.loc Cert.InputRefIdeal.main_arg2) = m (c.tc.loc main_arg2) ∧ m' (c.tc.loc Cert.InputRefIdeal.main_arg3) = m (c.tc.loc main_arg3)
  ∧ m' (c.tc.loc Cert.InputRefIdeal.main_arg6) = m (c.tc.loc main_arg6) ∧ m' (c.tc.loc Cert.InputRefIdeal.main_arg8) = m (c.tc.loc main_arg8)

variable {m} {m' : (ℓ : Loc Cert.InputRefIdeal.nD Cert.InputRefIdeal.τ Cert.InputRefIdeal.sig) → Buf (Elt Ideal) ℓ}

theorem ld0_at (c : Dev nD) (h : Same m m' c) (t : Fin cfg0.N) (r k : Fin 1024) :
    ld0 m c t (ix3 0 r k) = m' (c.tc.loc Cert.InputRefIdeal.main_arg0) (ix3 (batch t) (row t r) k) := by
  rw [ld0_eq, h.1]; exact iblk0 m c t r k

theorem ld1_at (c : Dev nD) (h : Same m m' c) (t : Fin cfg0.N) : ld1 m c t = m' (c.tc.loc Cert.InputRefIdeal.main_arg1) := by
  rw [ld1_eq, iblk1]; exact (h.2.1).symm

theorem ld2_at (c : Dev nD) (h : Same m m' c) (t : Fin cfg0.N) : ld2 m c t = m' (c.tc.loc Cert.InputRefIdeal.main_arg2) := by
  rw [ld2_eq, iblk2]; exact (h.2.2.1).symm

theorem ld3_at (c : Dev nD) (h : Same m m' c) (t : Fin cfg0.N) : ld3 m c t = m' (c.tc.loc Cert.InputRefIdeal.main_arg3) := by
  rw [ld3_eq, iblk3]; exact (h.2.2.2.1).symm

theorem ld6_at (c : Dev nD) (h : Same m m' c) (t : Fin cfg0.N) : ld6 m c t = m' (c.tc.loc Cert.InputRefIdeal.main_arg6) := by
  rw [ld6_eq, iblk6]; exact (h.2.2.2.2.1).symm

theorem ld8_at (c : Dev nD) (h : Same m m' c) (t : Fin cfg0.N) : ld8 m c t = m' (c.tc.loc Cert.InputRefIdeal.main_arg8) := by
  rw [ld8_eq, iblk8]; exact (h.2.2.2.2.2).symm

/-- The stores into output window 15's block, the last first. -/
def pieces15 (m : (ℓ : Loc nD τ sig) → Buf (Elt Ideal) ℓ) (c : Dev nD) (t : Fin cfg0.N) : List (View.Piece (Elt Ideal) S1x1024x1024 .bf16) :=
  [⟨Rect.unit (s := S1x1024x1024) (![0, 0, 512] : Fin 3 → ℕ) (![1, 1024, 512] : Fin 3 → ℕ) inb_S1x1024x1024_S1x1024x512_0_0_512, (k0_pay7 (ld0 m c t) (ld1 m c t) (ld2 m c t) : Vec Ideal S1x1024x512 .bf16)⟩,
    ⟨Rect.unit (s := S1x1024x1024) (![0, 0, 0] : Fin 3 → ℕ) (![1, 1024, 512] : Fin 3 → ℕ) inb_S1x1024x1024_S1x1024x512_0_0_0, (k0_pay6 (ld0 m c t) (ld1 m c t) (ld2 m c t) : Vec Ideal S1x1024x512 .bf16)⟩]

/-- Each of them stores the block of the reference's result. -/
theorem pieces15_eq (c : Dev nD) (h : Same m m' c) (t : Fin cfg0.N) : ∀ p ∈ pieces15 m c t, ∀ x : p.1.shape.Idx,
    p.2 x = (((cfg0.win 15).blk t).view.read (Elt Ideal) (wantQk m' c)) (p.1.emb x) := by
  obtain ⟨e0, e1, e2⟩ := index15 t
  intro p hp
  simp only [pieces15, List.mem_cons, List.not_mem_nil, or_false] at hp
  rcases hp with rfl | rfl
  · intro (x : S1x1024x512.Idx)
    idx_vars x
    obtain rfl : x0 = 0 := Subsingleton.elim _ _
    show k0_pay7 (ld0 m c t) (ld1 m c t) (ld2 m c t) (ix3 0 x1 x2) = _
    rw [ld1_at c h t, ld2_at c h t]
    refine (k_at m' c (ld0 m c t) (batch t) (row t x1) x1 (fun k => ld0_at c h t x1 k) x2).trans ?_
    refine congrArg (wantQk m' c) (funext fun a => Fin.ext ?_)
    match a with
    | ⟨0, _⟩ => show t.val / 4 = win0_15.index t 0 * 1 + 1 * (0 + 1 * 0); omega
    | ⟨1, _⟩ => show t.val % 4 * 1024 + x1.val = win0_15.index t 1 * 1024 + 1 * (0 + 1 * x1.val); omega
    | ⟨2, _⟩ => show 512 + x2.val = win0_15.index t 2 * 1024 + 1 * (512 + 1 * x2.val); omega
  · intro (x : S1x1024x512.Idx)
    idx_vars x
    obtain rfl : x0 = 0 := Subsingleton.elim _ _
    show k0_pay6 (ld0 m c t) (ld1 m c t) (ld2 m c t) (ix3 0 x1 x2) = _
    rw [ld1_at c h t, ld2_at c h t]
    refine (q_at m' c (ld0 m c t) (batch t) (row t x1) x1 (fun k => ld0_at c h t x1 k) x2).trans ?_
    refine congrArg (wantQk m' c) (funext fun a => Fin.ext ?_)
    match a with
    | ⟨0, _⟩ => show t.val / 4 = win0_15.index t 0 * 1 + 1 * (0 + 1 * 0); omega
    | ⟨1, _⟩ => show t.val % 4 * 1024 + x1.val = win0_15.index t 1 * 1024 + 1 * (0 + 1 * x1.val); omega
    | ⟨2, _⟩ => show x2.val = win0_15.index t 2 * 1024 + 1 * (0 + 1 * x2.val); omega

/-- What point `t` writes back of window 15 is its block of the reference's result. -/
theorem flushed15 (c : Dev nD) (h : Same m m' c) (t : Fin cfg0.N) :
    (dats m 0 c).flushed 15 t = ((cfg0.win 15).blk t).view.read (Elt Ideal) (wantQk m' c) := by
  funext y
  by_cases h0 : t.val % 4 = 0
  · rw [Value.flushed15_A m c t h0]
    refine (View.read_writes_apply_of_pieces _ _ (((cfg0.win 15).blk t).view.read (Elt Ideal) (wantQk m' c)) _ ?_ y (cover0_A_15 ..)).trans rfl
    exact pieces15_eq c h t
  · rw [Value.flushed15_B m c t h0]
    refine (View.read_writes_apply_of_pieces _ _ (((cfg0.win 15).blk t).view.read (Elt Ideal) (wantQk m' c)) _ ?_ y (cover0_B_15 ..)).trans rfl
    exact pieces15_eq c h t

theorem final15 (c : Dev nD) (h : Same m m' c) : (dats m 0 c).arrAt 15 cfg0.N = wantQk m' c :=
  (dats m 0 c).arrAt_eq_of_cover 15 (wantQk m' c) (fun t _ => flushed15 c h t) (fun i => (Value.covered_iff15 i).2 (by
    have h0 : (i 0).val < 8 := (i 0).isLt; have h1 : (i 1).val < 4096 := (i 1).isLt; have h2 : (i 2).val < 1024 := (i 2).isLt; omega))

/-- The stores into output window 16's block, the last first. -/
def pieces16 (m : (ℓ : Loc nD τ sig) → Buf (Elt Ideal) ℓ) (c : Dev nD) (t : Fin cfg0.N) : List (View.Piece (Elt Ideal) S1x512x1024 .bf16) :=
  [⟨Rect.unit (s := S1x512x1024) (![0, 384, 0] : Fin 3 → ℕ) (![1, 128, 1024] : Fin 3 → ℕ) inb_S1x512x1024_S1x128x1024_0_384_0, (k0_pay12 (k0_pay5 (ld0 m c t) (ld1 m c t) (ld2 m c t)) : Vec Ideal S1x128x1024 .bf16)⟩,
    ⟨Rect.unit (s := S1x512x1024) (![0, 256, 0] : Fin 3 → ℕ) (![1, 128, 1024] : Fin 3 → ℕ) inb_S1x512x1024_S1x128x1024_0_256_0, (k0_pay11 (k0_pay5 (ld0 m c t) (ld1 m c t) (ld2 m c t)) : Vec Ideal S1x128x1024 .bf16)⟩,
    ⟨Rect.unit (s := S1x512x1024) (![0, 128, 0] : Fin 3 → ℕ) (![1, 128, 1024] : Fin 3 → ℕ) inb_S1x512x1024_S1x128x1024_0_128_0, (k0_pay10 (k0_pay5 (ld0 m c t) (ld1 m c t) (ld2 m c t)) : Vec Ideal S1x128x1024 .bf16)⟩,
    ⟨Rect.unit (s := S1x512x1024) (![0, 0, 0] : Fin 3 → ℕ) (![1, 128, 1024] : Fin 3 → ℕ) inb_S1x512x1024_S1x128x1024_0_0_0, (k0_pay9 (k0_pay8 (ld0 m c t) (ld1 m c t) (ld2 m c t)) : Vec Ideal S1x128x1024 .bf16)⟩]

/-- Each of them stores the block of the reference's result. -/
theorem pieces16_eq (c : Dev nD) (h : Same m m' c) (t : Fin cfg0.N) : ∀ p ∈ pieces16 m c t, ∀ x : p.1.shape.Idx,
    p.2 x = (((cfg0.win 16).blk t).view.read (Elt Ideal) (wantV m' c)) (p.1.emb x) := by
  obtain ⟨e0, e1, e2⟩ := index16 t
  intro p hp
  simp only [pieces16, List.mem_cons, List.not_mem_nil, or_false] at hp
  rcases hp with rfl | rfl | rfl | rfl
  · intro (x : S1x128x1024.Idx)
    idx_vars x
    obtain rfl : x0 = 0 := Subsingleton.elim _ _
    show k0_pay12 (k0_pay5 (ld0 m c t) (ld1 m c t) (ld2 m c t)) (ix3 0 x1 x2) = _
    rw [ld1_at c h t, ld2_at c h t]
    refine (v3_at m' c (ld0 m c t) (batch t) (row t x2) x2 (fun k => ld0_at c h t x2 k) x1).trans ?_
    refine congrArg (wantV m' c) (funext fun a => Fin.ext ?_)
    match a with
    | ⟨0, _⟩ => show t.val / 4 = win0_16.index t 0 * 1 + 1 * (0 + 1 * 0); omega
    | ⟨1, _⟩ => show 384 + x1.val = win0_16.index t 1 * 512 + 1 * (384 + 1 * x1.val); omega
    | ⟨2, _⟩ => show t.val % 4 * 1024 + x2.val = win0_16.index t 2 * 1024 + 1 * (0 + 1 * x2.val); omega
  · intro (x : S1x128x1024.Idx)
    idx_vars x
    obtain rfl : x0 = 0 := Subsingleton.elim _ _
    show k0_pay11 (k0_pay5 (ld0 m c t) (ld1 m c t) (ld2 m c t)) (ix3 0 x1 x2) = _
    rw [ld1_at c h t, ld2_at c h t]
    refine (v2_at m' c (ld0 m c t) (batch t) (row t x2) x2 (fun k => ld0_at c h t x2 k) x1).trans ?_
    refine congrArg (wantV m' c) (funext fun a => Fin.ext ?_)
    match a with
    | ⟨0, _⟩ => show t.val / 4 = win0_16.index t 0 * 1 + 1 * (0 + 1 * 0); omega
    | ⟨1, _⟩ => show 256 + x1.val = win0_16.index t 1 * 512 + 1 * (256 + 1 * x1.val); omega
    | ⟨2, _⟩ => show t.val % 4 * 1024 + x2.val = win0_16.index t 2 * 1024 + 1 * (0 + 1 * x2.val); omega
  · intro (x : S1x128x1024.Idx)
    idx_vars x
    obtain rfl : x0 = 0 := Subsingleton.elim _ _
    show k0_pay10 (k0_pay5 (ld0 m c t) (ld1 m c t) (ld2 m c t)) (ix3 0 x1 x2) = _
    rw [ld1_at c h t, ld2_at c h t]
    refine (v1_at m' c (ld0 m c t) (batch t) (row t x2) x2 (fun k => ld0_at c h t x2 k) x1).trans ?_
    refine congrArg (wantV m' c) (funext fun a => Fin.ext ?_)
    match a with
    | ⟨0, _⟩ => show t.val / 4 = win0_16.index t 0 * 1 + 1 * (0 + 1 * 0); omega
    | ⟨1, _⟩ => show 128 + x1.val = win0_16.index t 1 * 512 + 1 * (128 + 1 * x1.val); omega
    | ⟨2, _⟩ => show t.val % 4 * 1024 + x2.val = win0_16.index t 2 * 1024 + 1 * (0 + 1 * x2.val); omega
  · intro (x : S1x128x1024.Idx)
    idx_vars x
    obtain rfl : x0 = 0 := Subsingleton.elim _ _
    show k0_pay9 (k0_pay8 (ld0 m c t) (ld1 m c t) (ld2 m c t)) (ix3 0 x1 x2) = _
    rw [ld1_at c h t, ld2_at c h t]
    refine (v0_at m' c (ld0 m c t) (batch t) (row t x2) x2 (fun k => ld0_at c h t x2 k) x1).trans ?_
    refine congrArg (wantV m' c) (funext fun a => Fin.ext ?_)
    match a with
    | ⟨0, _⟩ => show t.val / 4 = win0_16.index t 0 * 1 + 1 * (0 + 1 * 0); omega
    | ⟨1, _⟩ => show x1.val = win0_16.index t 1 * 512 + 1 * (0 + 1 * x1.val); omega
    | ⟨2, _⟩ => show t.val % 4 * 1024 + x2.val = win0_16.index t 2 * 1024 + 1 * (0 + 1 * x2.val); omega

/-- What point `t` writes back of window 16 is its block of the reference's result. -/
theorem flushed16 (c : Dev nD) (h : Same m m' c) (t : Fin cfg0.N) :
    (dats m 0 c).flushed 16 t = ((cfg0.win 16).blk t).view.read (Elt Ideal) (wantV m' c) := by
  funext y
  by_cases h0 : t.val % 4 = 0
  · rw [Value.flushed16_A m c t h0]
    refine (View.read_writes_apply_of_pieces _ _ (((cfg0.win 16).blk t).view.read (Elt Ideal) (wantV m' c)) _ ?_ y (cover0_A_16 ..)).trans rfl
    exact pieces16_eq c h t
  · rw [Value.flushed16_B m c t h0]
    refine (View.read_writes_apply_of_pieces _ _ (((cfg0.win 16).blk t).view.read (Elt Ideal) (wantV m' c)) _ ?_ y (cover0_B_16 ..)).trans rfl
    exact pieces16_eq c h t

theorem final16 (c : Dev nD) (h : Same m m' c) : (dats m 0 c).arrAt 16 cfg0.N = wantV m' c :=
  (dats m 0 c).arrAt_eq_of_cover 16 (wantV m' c) (fun t _ => flushed16 c h t) (fun i => (Value.covered_iff16 i).2 (by
    have h0 : (i 0).val < 8 := (i 0).isLt; have h1 : (i 1).val < 512 := (i 1).isLt; have h2 : (i 2).val < 4096 := (i 2).isLt; omega))

/-- The stores into output window 18's block, the last first. -/
def pieces18 (m : (ℓ : Loc nD τ sig) → Buf (Elt Ideal) ℓ) (c : Dev nD) (t : Fin cfg0.N) : List (View.Piece (Elt Ideal) S1x128x1024 .bf16) :=
  [⟨Rect.unit (s := S1x128x1024) (![0, 0, 0] : Fin 3 → ℕ) (![1, 128, 1024] : Fin 3 → ℕ) inb_S1x128x1024_S1x128x1024_0_0_0, (k0_pay21 (k0_pay13 (k0_pay4 (ld0 m c t) (ld1 m c t)) (ld3 m c t)) : Vec Ideal S1x128x1024 .bf16)⟩]

/-- Each of them stores the block of the reference's result. -/
theorem pieces18_eq (c : Dev nD) (h : Same m m' c) (t : Fin cfg0.N) : ∀ p ∈ pieces18 m c t, ∀ x : p.1.shape.Idx,
    p.2 x = (((cfg0.win 18).blk t).view.read (Elt Ideal) (wantVd m' c)) (p.1.emb x) := by
  obtain ⟨e0, e1, e2⟩ := index18 t
  intro p hp
  simp only [pieces18, List.mem_cons, List.not_mem_nil, or_false] at hp
  rcases hp with rfl
  · intro (x : S1x128x1024.Idx)
    idx_vars x
    obtain rfl : x0 = 0 := Subsingleton.elim _ _
    show k0_pay21 (k0_pay13 (k0_pay4 (ld0 m c t) (ld1 m c t)) (ld3 m c t)) (ix3 0 x1 x2) = _
    rw [ld1_at c h t, ld3_at c h t]
    refine (vd_at m' c (ld0 m c t) (batch t) (row t x2) x2 (fun k => ld0_at c h t x2 k) x1).trans ?_
    refine congrArg (wantVd m' c) (funext fun a => Fin.ext ?_)
    match a with
    | ⟨0, _⟩ => show t.val / 4 = win0_18.index t 0 * 1 + 1 * (0 + 1 * 0); omega
    | ⟨1, _⟩ => show x1.val = win0_18.index t 1 * 128 + 1 * (0 + 1 * x1.val); omega
    | ⟨2, _⟩ => show t.val % 4 * 1024 + x2.val = win0_18.index t 2 * 1024 + 1 * (0 + 1 * x2.val); omega

/-- What point `t` writes back of window 18 is its block of the reference's result. -/
theorem flushed18 (c : Dev nD) (h : Same m m' c) (t : Fin cfg0.N) :
    (dats m 0 c).flushed 18 t = ((cfg0.win 18).blk t).view.read (Elt Ideal) (wantVd m' c) := by
  funext y
  by_cases h0 : t.val % 4 = 0
  · rw [Value.flushed18_A m c t h0]
    refine (View.read_writes_apply_of_pieces _ _ (((cfg0.win 18).blk t).view.read (Elt Ideal) (wantVd m' c)) _ ?_ y (cover0_A_18 ..)).trans rfl
    exact pieces18_eq c h t
  · rw [Value.flushed18_B m c t h0]
    refine (View.read_writes_apply_of_pieces _ _ (((cfg0.win 18).blk t).view.read (Elt Ideal) (wantVd m' c)) _ ?_ y (cover0_B_18 ..)).trans rfl
    exact pieces18_eq c h t

theorem final18 (c : Dev nD) (h : Same m m' c) : (dats m 0 c).arrAt 18 cfg0.N = wantVd m' c :=
  (dats m 0 c).arrAt_eq_of_cover 18 (wantVd m' c) (fun t _ => flushed18 c h t) (fun i => (Value.covered_iff18 i).2 (by
    have h0 : (i 0).val < 8 := (i 0).isLt; have h1 : (i 1).val < 128 := (i 1).isLt; have h2 : (i 2).val < 4096 := (i 2).isLt; omega))

/-- The stores into output window 21's block, the last first. -/
def pieces21 (m : (ℓ : Loc nD τ sig) → Buf (Elt Ideal) ℓ) (c : Dev nD) (t : Fin cfg0.N) : List (View.Piece (Elt Ideal) S1x1024x2048 .bf16) :=
  [⟨Rect.unit (s := S1x1024x2048) (![0, 0, 0] : Fin 3 → ℕ) (![1, 1024, 2048] : Fin 3 → ℕ) inb_S1x1024x2048_S1x1024x2048_0_0_0, (k0_pay32 (k0_pay4 (ld0 m c t) (ld1 m c t)) (ld6 m c t) (ld8 m c t) : Vec Ideal S1x1024x2048 .bf16)⟩]

/-- Each of them stores the block of the reference's result. -/
theorem pieces21_eq (c : Dev nD) (h : Same m m' c) (t : Fin cfg0.N) : ∀ p ∈ pieces21 m c t, ∀ x : p.1.shape.Idx,
    p.2 x = (((cfg0.win 21).blk t).view.read (Elt Ideal) (wantG m' c)) (p.1.emb x) := by
  obtain ⟨e0, e1, e2⟩ := index21 t
  intro p hp
  simp only [pieces21, List.mem_cons, List.not_mem_nil, or_false] at hp
  rcases hp with rfl
  · intro (x : S1x1024x2048.Idx)
    idx_vars x
    obtain rfl : x0 = 0 := Subsingleton.elim _ _
    show k0_pay32 (k0_pay4 (ld0 m c t) (ld1 m c t)) (ld6 m c t) (ld8 m c t) (ix3 0 x1 x2) = _
    rw [ld1_at c h t, ld6_at c h t, ld8_at c h t]
    refine (g_at m' c (ld0 m c t) (batch t) (row t x1) x1 (fun k => ld0_at c h t x1 k) x2).trans ?_
    refine congrArg (wantG m' c) (funext fun a => Fin.ext ?_)
    match a with
    | ⟨0, _⟩ => show t.val / 4 = win0_21.index t 0 * 1 + 1 * (0 + 1 * 0); omega
    | ⟨1, _⟩ => show t.val % 4 * 1024 + x1.val = win0_21.index t 1 * 1024 + 1 * (0 + 1 * x1.val); omega
    | ⟨2, _⟩ => show x2.val = win0_21.index t 2 * 2048 + 1 * (0 + 1 * x2.val); omega

/-- What point `t` writes back of window 21 is its block of the reference's result. -/
theorem flushed21 (c : Dev nD) (h : Same m m' c) (t : Fin cfg0.N) :
    (dats m 0 c).flushed 21 t = ((cfg0.win 21).blk t).view.read (Elt Ideal) (wantG m' c) := by
  funext y
  by_cases h0 : t.val % 4 = 0
  · rw [Value.flushed21_A m c t h0]
    refine (View.read_writes_apply_of_pieces _ _ (((cfg0.win 21).blk t).view.read (Elt Ideal) (wantG m' c)) _ ?_ y (cover0_A_21 ..)).trans rfl
    exact pieces21_eq c h t
  · rw [Value.flushed21_B m c t h0]
    refine (View.read_writes_apply_of_pieces _ _ (((cfg0.win 21).blk t).view.read (Elt Ideal) (wantG m' c)) _ ?_ y (cover0_B_21 ..)).trans rfl
    exact pieces21_eq c h t

theorem final21 (c : Dev nD) (h : Same m m' c) : (dats m 0 c).arrAt 21 cfg0.N = wantG m' c :=
  (dats m 0 c).arrAt_eq_of_cover 21 (wantG m' c) (fun t _ => flushed21 c h t) (fun i => (Value.covered_iff21 i).2 (by
    have h0 : (i 0).val < 8 := (i 0).isLt; have h1 : (i 1).val < 4096 := (i 1).isLt; have h2 : (i 2).val < 2048 := (i 2).isLt; omega))

/-- The input stage's call and its reference end with the same results. -/
theorem agrees : algebraic_InputIdeal_InputRefIdeal (hInputIdeal := Cert.InputIdeal.Gen.facts) (hInputRefIdeal := Cert.InputRefIdeal.Gen.facts) := by
  intro m g m' g' _ h
  have hs : ∀ c, Same m m' c := fun c => ⟨(h c).1, (h c).2.1, (h c).2.2.1, (h c).2.2.2.1, (h c).2.2.2.2.2.2.1, (h c).2.2.2.2.2.2.2.2.1⟩
  refine ⟨fun c => wantQk m' c, fun c => wantV m' c, fun c => wantVd m' c, fun c => wantG m' c, ?_, ?_⟩
  · refine (θ_run _ _ _).mono (fun r k c => ?_) (Value.run_blocks (F := Ideal) m g)
    obtain ⟨k0, k1, _, k3, _, _, k6, k7⟩ := k c
    exact ⟨k0.trans (final15 c (hs c)), k1.trans (final16 c (hs c)), k3.trans (final18 c (hs c)), k6.trans (final21 c (hs c)), k7⟩
  · exact Cert.InputRefIdeal.Value.run (F := Ideal) m' g'

end Cert.InputIdeal.Rows

end
-- ==== Proof.FoxMath.lean ====
/-
  The arithmetic of one query's forgetting attention over the extended reals: weights are powers of two of scores
  (a masked score is minus infinity and weighs nothing), the key chunks are taken one at a time with a running maximum,
  and the quotient of the two running sums is the softmax average whatever the maximum was.
-/
module

public import Idealize.ShloMosaic.PureOps.Ideal

@[expose] public section

noncomputable section

namespace Fox

open Idealize.ShloMosaic

/-- The weight of a score against a maximum: two to their difference, a real. -/
def wt (T : EReal) (M : ℝ) : ℝ := (Ideal.exp2 (T - M)).toReal

theorem wt_bot (M : ℝ) : wt ⊥ M = 0 := by simp [wt]

theorem wt_coe (t M : ℝ) : wt t M = Real.rpow 2 (t - M) := by
  rw [wt, ← EReal.coe_sub, Ideal.exp2_coe, EReal.toReal_coe]

theorem exp2_eq {T : EReal} (hT : T ≠ ⊤) (M : ℝ) : Ideal.exp2 (T - M) = (wt T M : EReal) := by
  induction T with
  | bot => simp [wt_bot]
  | top => exact absurd rfl hT
  | coe t => rw [wt_coe, ← EReal.coe_sub, Ideal.exp2_coe]

theorem wt_nonneg {T : EReal} (hT : T ≠ ⊤) (M : ℝ) : 0 ≤ wt T M := by
  induction T with
  | bot => simp [wt_bot]
  | top => exact absurd rfl hT
  | coe t => rw [wt_coe]; exact Real.rpow_nonneg (by norm_num) _

/-- Another maximum, and a shift of the score, scale the weight. -/
theorem wt_shift {T : EReal} (hT : T ≠ ⊤) (g M M' : ℝ) : wt (T + g) M' = Real.rpow 2 (g + M - M') * wt T M := by
  induction T with
  | bot => simp [wt_bot]
  | top => exact absurd rfl hT
  | coe t =>
    rw [← EReal.coe_add, wt_coe, wt_coe]
    show (2 : ℝ) ^ (t + g - M') = (2 : ℝ) ^ (g + M - M') * (2 : ℝ) ^ (t - M)
    rw [← Real.rpow_add (by norm_num)]
    congr 1; ring

theorem wt_move {T : EReal} (hT : T ≠ ⊤) (M M' : ℝ) : wt T M' = Real.rpow 2 (M - M') * wt T M := by
  have h := wt_shift hT 0 M M'
  rwa [EReal.coe_zero, add_zero, zero_add] at h

theorem wt_pos {T : EReal} (hT : T ≠ ⊤) (hB : T ≠ ⊥) (M : ℝ) : 0 < wt T M := by
  induction T with
  | bot => exact absurd rfl hB
  | top => exact absurd rfl hT
  | coe t => rw [wt_coe]; exact Real.rpow_pos_of_pos (by norm_num) _

/-- A nonnegative real distributes over any sum. -/
theorem mul_sum {ι : Type} (s : Finset ι) {a : ℝ} (ha : 0 ≤ a) (f : ι → EReal) : (a : EReal) * ∑ k ∈ s, f k = ∑ k ∈ s, (a : EReal) * f k := by
  classical
  induction s using Finset.induction_on with
  | empty => simp
  | insert i s hi ih =>
    rw [Finset.sum_insert hi, Finset.sum_insert hi, ← ih]
    exact EReal.left_distrib_of_nonneg_of_ne_top (EReal.coe_nonneg.2 ha) (EReal.coe_ne_top a) _ _

theorem coe_sum {ι : Type} (s : Finset ι) (f : ι → ℝ) : ((∑ k ∈ s, f k : ℝ) : EReal) = ∑ k ∈ s, (f k : EReal) := by
  classical
  induction s using Finset.induction_on with
  | empty => simp
  | insert i s hi ih => rw [Finset.sum_insert hi, Finset.sum_insert hi, EReal.coe_add, ih]

/-- What holds of a column of the running buffers before chunk `c`: the maximum, the sum, the pending rescale, the last
    chunk's weights and the accumulator, of scores `S` and values `V`. -/
def Inv (S : ℕ → Fin 256 → EReal) (V : Fin 128 → ℕ → Fin 256 → EReal) (c : ℕ) (m l a : EReal) (p : Fin 256 → EReal)
    (acc : Fin 128 → EReal) : Prop :=
  (∃ α : ℝ, 0 ≤ α ∧ a = α) ∧
  ((c = 0 ∧ m = ⊥ ∧ l = 0 ∧ ∀ d, a * acc d + ∑ k, V d (c - 1) k * p k = 0) ∨
    ∃ M : ℝ, m = M ∧ l = ∑ c' ∈ Finset.range c, ∑ k, (wt (S c' k) M : EReal) ∧
      ∀ d, a * acc d + ∑ k, V d (c - 1) k * p k = ∑ c' ∈ Finset.range c, ∑ k, V d c' k * (wt (S c' k) M : EReal))

theorem Inv.start (S V) : Inv S V 0 ⊥ 0 1 (fun _ => 0) (fun _ => 0) :=
  ⟨⟨1, zero_le_one, rfl⟩, .inl ⟨rfl, rfl, rfl, fun d => by simp⟩⟩

/-- The largest of a chunk's scores and a maximum so far. -/
theorem max_real {m : EReal} (hm : m ≠ ⊤) (s : Fin 256 → EReal) (hs : ∀ k, s k ≠ ⊤) (k₀ : Fin 256) (h₀ : s k₀ ≠ ⊥) :
    ∃ M : ℝ, max m (Finset.univ.fold max ⊥ s) = M := by
  have h1 : max m (Finset.univ.fold max ⊥ s) ≠ ⊤ := by
    refine (max_lt (lt_top_iff_ne_top.2 hm) ?_).ne
    exact (Finset.fold_max_lt ⊤).2 ⟨bot_lt_top, fun k _ => lt_top_iff_ne_top.2 (hs k)⟩
  have h2 : max m (Finset.univ.fold max ⊥ s) ≠ ⊥ := by
    intro h
    refine h₀ (le_bot_iff.1 (le_trans ?_ h.le))
    exact le_trans ((Finset.le_fold_max _).2 (.inr ⟨k₀, Finset.mem_univ _, le_rfl⟩)) (le_max_right _ _)
  exact ⟨_, (EReal.coe_toReal h1 h2).symm⟩

/-- One chunk. -/
theorem Inv.step {S : ℕ → Fin 256 → EReal} {V : Fin 128 → ℕ → Fin 256 → EReal} {c : ℕ} {m l a : EReal} {p : Fin 256 → EReal}
    {acc : Fin 128 → EReal} (h : Inv S V c m l a p acc) (hS : ∀ c' ≤ c, ∀ k, S c' k ≠ ⊤) (k₀ : Fin 256) (h₀ : S c k₀ ≠ ⊥)
    {m' l' a' : EReal} {p' : Fin 256 → EReal} {acc' : Fin 128 → EReal}
    (hm : m' = max m (Finset.univ.fold max ⊥ (S c))) (ha : a' = Ideal.exp2 (m - m')) (hp : ∀ k, p' k = Ideal.exp2 (S c k - m'))
    (hl : l' = a' * l + ∑ k, p' k) (hacc : ∀ d, acc' d = a * acc d + ∑ k, V d (c - 1) k * p k) :
    Inv S V (c + 1) m' l' a' p' acc' := by
  obtain ⟨-, h | ⟨M, rfl, rfl, hd⟩⟩ := h
  · obtain ⟨rfl, rfl, rfl, hd⟩ := h
    obtain ⟨M', hM'⟩ := max_real bot_ne_top (S 0) (hS 0 le_rfl) k₀ h₀
    rw [← hm] at hM'
    subst hM'
    have ha' : a' = 0 := by rw [ha]; simp
    subst ha'
    have hp' : ∀ k, p' k = (wt (S 0 k) M' : EReal) := fun k => (hp k).trans (exp2_eq (hS 0 le_rfl k) M')
    refine ⟨⟨0, le_rfl, by simp⟩, .inr ⟨M', rfl, ?_, fun d => ?_⟩⟩
    · rw [hl]; simp [hp']
    · simp [hp']
  · obtain ⟨M', hM'⟩ := max_real (EReal.coe_ne_top M) (S c) (hS c le_rfl) k₀ h₀
    rw [← hm] at hM'
    subst hM'
    have hα : (0 : ℝ) ≤ Real.rpow 2 (M - M') := Real.rpow_nonneg (by norm_num) _
    have ha' : a' = ((Real.rpow 2 (M - M') : ℝ) : EReal) := by rw [ha, ← EReal.coe_sub, Ideal.exp2_coe]
    subst ha'
    have hp' : ∀ k, p' k = (wt (S c k) M' : EReal) := fun k => (hp k).trans (exp2_eq (hS c le_rfl k) M')
    refine ⟨⟨_, hα, rfl⟩, .inr ⟨M', rfl, ?_, fun d => ?_⟩⟩
    · rw [hl, Finset.sum_range_succ, mul_sum _ hα]
      simp only [hp']
      congr 1
      refine Finset.sum_congr rfl fun c' hc' => ?_
      rw [mul_sum _ hα]
      refine Finset.sum_congr rfl fun k _ => ?_
      rw [wt_move (hS c' (Finset.mem_range.1 hc').le k) M M', EReal.coe_mul]
    · rw [hacc, hd, Finset.sum_range_succ, mul_sum _ hα, Nat.add_sub_cancel]
      simp only [hp']
      congr 1
      refine Finset.sum_congr rfl fun c' hc' => ?_
      rw [mul_sum _ hα]
      refine Finset.sum_congr rfl fun k _ => ?_
      rw [wt_move (hS c' (Finset.mem_range.1 hc').le k) M M', EReal.coe_mul, mul_left_comm]

/-- What a column holds after the last chunk. -/
theorem Inv.last {S : ℕ → Fin 256 → EReal} {V : Fin 128 → ℕ → Fin 256 → EReal} {c : ℕ} {m l a : EReal} {p : Fin 256 → EReal}
    {acc : Fin 128 → EReal} (h : Inv S V (c + 1) m l a p acc) : ∃ M : ℝ, l = ∑ c' ∈ Finset.range (c + 1), ∑ k, (wt (S c' k) M : EReal) ∧
      ∀ d, a * acc d + ∑ k, V d c k * p k = ∑ c' ∈ Finset.range (c + 1), ∑ k, V d c' k * (wt (S c' k) M : EReal) := by
  obtain ⟨-, h | ⟨M, -, hl, hd⟩⟩ := h
  · exact absurd h.1 (Nat.succ_ne_zero c)
  · exact ⟨M, hl, hd⟩

/-- The quotient of the weighted sum by the sum is the average by the shifted scores' normalised weights, whatever the
    two maxima. -/
theorem average {ι : Type} [Fintype ι] (T v : ι → EReal) (hT : ∀ k, T k ≠ ⊤) (k₀ : ι) (h₀ : T k₀ ≠ ⊥) (g M M' : ℝ) :
    Ideal.div (∑ k, v k * (wt (T k) M : EReal)) (∑ k, (wt (T k) M : EReal))
      = ∑ k, v k * Ideal.div (wt (T k + g) M' : EReal) (∑ k, (wt (T k + g) M' : EReal)) := by
  have hL : 0 < ∑ k, wt (T k) M := Finset.sum_pos' (fun k _ => wt_nonneg (hT k) M) ⟨k₀, Finset.mem_univ _, wt_pos (hT k₀) h₀ M⟩
  have hγ : (0 : ℝ) < Real.rpow 2 (g + M - M') := Real.rpow_pos_of_pos (by norm_num) _
  have hL' : ∑ k, wt (T k + g) M' = Real.rpow 2 (g + M - M') * ∑ k, wt (T k) M := by
    rw [Finset.mul_sum]; exact Finset.sum_congr rfl fun k _ => wt_shift (hT k) g M M'
  rw [← coe_sum, ← coe_sum, Ideal.div_coe hL.ne', mul_comm, mul_sum _ (one_div_nonneg.2 hL.le)]
  refine Finset.sum_congr rfl fun k _ => ?_
  rw [Ideal.div_coe (by rw [hL']; positivity), hL', wt_shift (hT k) g M M', ← EReal.coe_mul, mul_left_comm, ← EReal.coe_mul]
  congr 2
  field_simp

end Fox
-- ==== Proof.FoxRef.lean ====
/-
  The reference's forgetting attention, read one element at a time over the extended reals.
-/
module

public import proofs.«01_k».proof.Defs
public import proofs.«01_k».proof.Proof.Gen.ReferenceIdeal.Run
public import proofs.«01_k».proof.Proof.FoxMath
public import Idealize.ShloMosaic.Lib.Pointwise

@[expose] public section

set_option maxRecDepth 16384

noncomputable section

open Idealize.ShloMosaic Idealize.ShloMosaic.TcCoe Idealize.SL.Sem

namespace Cert.ReferenceIdeal.Rows

open Cert.ReferenceIdeal Cert.ReferenceIdeal.Gen

variable (m : (ℓ : Loc nD τ sig) → Buf (Elt Ideal) ℓ) (c : Dev nD)

/-- The scores, masked above the diagonal. -/
def scores : FVec Ideal S8x4x4096x4096 .f32 :=
  select (broadcastInDim S8x4x4096x4096 ![2, 3] bcast_S4096x4096_S8x4x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (addf (Host.dotGeneral (φ₁ := .bf16) (φ₂ := .bf16) dot_S8x4096x4x128_S8x4096x4x128_S8x4x4096x4096_3_3_1_1_02_02 none (shapeCast _ (extractStridedSlice S8x4096x512 ![0, 0, 0] (m ((c.tc : Thread nD τ).loc main_arg0)) slices_S8x4096x1024_S8x4096x512_0_0_0) shapeCasts_S8x4096x512_S8x4096x4x128) (shapeCast _ (extractStridedSlice S8x4096x512 ![0, 0, 512] (m ((c.tc : Thread nD τ).loc main_arg0)) slices_S8x4096x1024_S8x4096x512_0_0_512) shapeCasts_S8x4096x512_S8x4096x4x128)) (subf (broadcastInDim S8x4x4096x4096 ![0, 1, 2, 3] bcast_S8x4x4096x1_S8x4x4096x4096_0_1_2_3 (broadcastInDim S8x4x4096x1 ![0, 1, 2] bcast_S8x4x4096_S8x4x4096x1_0_1_2 (transpose S8x4x4096 [0, 2, 1] (extractStridedSlice S8x4096x4 ![0, 0, 8] (m ((c.tc : Thread nD τ).loc main_arg2)) slices_S8x4096x128_S8x4096x4_0_0_8) transposes_S8x4096x4_S8x4x4096_0_2_1))) (broadcastInDim S8x4x4096x4096 ![0, 1, 2, 3] bcast_S8x4x1x4096_S8x4x4096x4096_0_1_2_3 (broadcastInDim S8x4x1x4096 ![0, 1, 3] bcast_S8x4x4096_S8x4x1x4096_0_1_3 (transpose S8x4x4096 [0, 2, 1] (extractStridedSlice S8x4096x4 ![0, 0, 8] (m ((c.tc : Thread nD τ).loc main_arg2)) slices_S8x4096x128_S8x4096x4_0_0_8) transposes_S8x4096x4_S8x4x4096_0_2_1))))) (broadcastInDim S8x4x4096x4096 ![] bcast_S_S8x4x4096x4096 (id (constant S_ .f32 0xFF800000#32)))

/-- A query's largest score. -/
def largest : FVec Ideal S8x4x4096 .f32 :=
  Host.reduce FloatOps.maximumf (scores m c) (constant S_ .f32 0xFF800000#32) reducesTo_S8x4x4096x4096_S8x4x4096_d3 h_S_

/-- The powers of two of the scores less the largest. -/
def powers : FVec Ideal S8x4x4096x4096 .f32 :=
  Host.powf (broadcastInDim S8x4x4096x4096 ![] bcast_S_S8x4x4096x4096 (constant S_ .f32 0x40000000#32)) (subf (scores m c) (broadcastInDim S8x4x4096x4096 ![0, 1, 2, 3] bcast_S8x4x4096x1_S8x4x4096x4096_0_1_2_3 (broadcastInDim S8x4x4096x1 ![0, 1, 2] bcast_S8x4x4096_S8x4x4096x1_0_1_2 (largest m c))))

/-- The attention weights. -/
def weights : FVec Ideal S8x4x4096x4096 .bf16 :=
  truncf .bf16 (Host.divf (powers m c) (broadcastInDim S8x4x4096x4096 ![0, 1, 2, 3] bcast_S8x4x4096x1_S8x4x4096x4096_0_1_2_3 (broadcastInDim S8x4x4096x1 ![0, 1, 2] bcast_S8x4x4096_S8x4x4096x1_0_1_2 (Host.reduceAdd (powers m c) (constant S_ .f32 0x00000000#32) reducesTo_S8x4x4096x4096_S8x4x4096_d3 h_S_)))) bitsLt_bf16_f32

/-- The weighted values. -/
def want : FVec Ideal S8x4096x512 .bf16 :=
  truncf .bf16 (shapeCast _ (transpose S8x4096x4x128 [0, 3, 1, 2] (Host.dotGeneral (φ₁ := .bf16) (φ₂ := .bf16) dot_S8x4096x4x128_S8x4x4096x4096_S8x4x128x4096_1_3_3_2_02_01 none (shapeCast _ (transpose S8x4096x512 [0, 2, 1] (m ((c.tc : Thread nD τ).loc main_arg1)) transposes_S8x512x4096_S8x4096x512_0_2_1) shapeCasts_S8x4096x512_S8x4096x4x128) (weights m c)) transposes_S8x4x128x4096_S8x4096x4x128_0_3_1_2) shapeCasts_S8x4096x4x128_S8x4096x512) bitsLt_bf16_f32

theorem want_eq : Value.res_main_v36 (F := Ideal) m c = want m c := by
  unfold Value.res_main_v36 want weights powers largest scores
  rfl

variable (b : Fin 8) (h : Fin 4) (r k : Fin 4096)

theorem negInf : Ideal.ofBits FTy.f32 0xFF800000#32 = ⊥ := by
  simp [Ideal.ofBits, Ideal.ieee]

theorem two : Ideal.ofBits FTy.f32 0x40000000#32 = ((2 : ℝ) : EReal) := by
  simp [Ideal.ofBits, Ideal.ieee, -EReal.coe_mul]; norm_num

theorem pow_two (y : EReal) : Ideal.pow ((2 : ℝ) : EReal) y = Ideal.exp2 y := by
  induction y with
  | bot => rw [Ideal.pow_coe_bot, if_neg (by norm_num), if_pos (by norm_num), Ideal.exp2_bot]
  | top => rw [Ideal.pow_coe_top, if_neg (by norm_num), if_pos (by norm_num), Ideal.exp2_top]
  | coe y => rw [Ideal.pow_coe_coe, Ideal.exp2_coe]

theorem le_nat (k r : ℕ) (hk : k < 4096) (hr : r < 4096) : IntOp.cmpi CmpIPredicate.sle (BitVec.ofNat 32 k) (BitVec.ofNat 32 r) = BitVec.ofBool (decide (k ≤ r)) := by
  show BitVec.ofBool ((BitVec.ofNat 32 k).sle (BitVec.ofNat 32 r)) = _
  have ek : (BitVec.ofNat 32 k).toNat = k := by rw [BitVec.toNat_ofNat]; exact Nat.mod_eq_of_lt (by omega)
  have er : (BitVec.ofNat 32 r).toNat = r := by rw [BitVec.toNat_ofNat]; exact Nat.mod_eq_of_lt (by omega)
  rw [BitVec.sle_eq_decide, BitVec.toInt_eq_toNat_of_lt (by rw [ek]; omega), BitVec.toInt_eq_toNat_of_lt (by rw [er]; omega), ek, er]
  congr 1
  exact decide_eq_decide.2 Int.ofNat_le

theorem le_bits : IntOp.cmpi CmpIPredicate.sle (BitVec.ofNat 32 k.val) (BitVec.ofNat 32 r.val) = if k ≤ r then 1#1 else 0#1 := by
  rw [le_nat k.val r.val k.isLt r.isLt]
  by_cases h : k.val ≤ r.val
  · rw [decide_eq_true h, if_pos (show k ≤ r from h)]; rfl
  · rw [decide_eq_false h, if_neg (show ¬k ≤ r from h)]; rfl

/-- An element of the queries and keys, of the values, and of a head's cumulative gates. -/
def qk (j : Fin 1024) : EReal := m (c.tc.loc main_arg0) (ix3 b r j)
def val (l : Fin 512) : EReal := m (c.tc.loc main_arg1) (ix3 b l r)
def gate : EReal := m (c.tc.loc main_arg2) (ix3 b r ⟨8 + h.val, by omega⟩)

theorem scores_at : scores m c (ix4 b h r k) = if k ≤ r then
    (∑ x : Fin 128, qk m c b r ⟨h.val * 128 + x.val, by omega⟩ * qk m c b k ⟨512 + (h.val * 128 + x.val), by omega⟩)
      + (gate m c b h r - gate m c b h k) else ⊥ := by
  pointwise [scores]
  rw [le_bits]
  split
  · rfl
  · exact negInf

theorem largest_at : largest m c (ix3 b h r) = Finset.fold max ⊥ (fun x => (scores m c (ix4 b h r x) : EReal)) Finset.univ := by
  pointwise [largest]
  rw [negInf]

theorem powers_at : powers m c (ix4 b h r k) = Ideal.exp2 (scores m c (ix4 b h r k) - largest m c (ix3 b h r)) := by
  pointwise [powers]
  rw [two, pow_two]

theorem weights_at : weights m c (ix4 b h r k) = Ideal.div (powers m c (ix4 b h r k)) (∑ x : Fin 4096, (powers m c (ix4 b h r x) : EReal)) := by
  pointwise [weights]

theorem want_at (d : Fin 128) : want m c (ix3 b r ⟨128 * h.val + d.val, by omega⟩)
    = ∑ x : Fin 4096, val m c b x ⟨h.val * 128 + d.val, by omega⟩ * weights m c (ix4 b h r x) := by
  pointwise [want]
  rfl

/-- The largest of scores of which none is plus infinity and one is not minus infinity is a real. -/
theorem fold_real {ι : Type} [Fintype ι] (s : ι → EReal) (hs : ∀ k, s k ≠ ⊤) (k₀ : ι) (h₀ : s k₀ ≠ ⊥) :
    ∃ M : ℝ, Finset.univ.fold max ⊥ s = M := by
  have h1 : Finset.univ.fold max ⊥ s ≠ ⊤ :=
    ((Finset.fold_max_lt ⊤).2 ⟨bot_lt_top, fun k _ => lt_top_iff_ne_top.2 (hs k)⟩).ne
  have h2 : Finset.univ.fold max ⊥ s ≠ ⊥ := by
    intro h
    refine h₀ (le_bot_iff.1 (le_trans ?_ h.le))
    exact (Finset.le_fold_max _).2 (.inr ⟨k₀, Finset.mem_univ _, le_rfl⟩)
  exact ⟨_, (EReal.coe_toReal h1 h2).symm⟩

/-- A key's part of a score: the query's own gate is left out, and the keys after the query are masked. -/
def key (r k : Fin 4096) : EReal := if k ≤ r then
  (∑ x : Fin 128, qk m c b k ⟨512 + (h.val * 128 + x.val), by omega⟩ * qk m c b r ⟨h.val * 128 + x.val, by omega⟩) - gate m c b h k else ⊥

/-- What the reference needs of its arguments: the queries, the keys and the cumulative gates are reals. -/
structure Finite : Prop where
  qk_real : ∀ b r j, ∃ x : ℝ, qk m c b r j = x
  gate_real : ∀ b h r, ∃ x : ℝ, gate m c b h r = x

variable {m c}

theorem key_real (f : Finite m c) (hk : k ≤ r) : ∃ x : ℝ, key m c b h r k = x := by
  choose A hA using f.qk_real
  choose C hC using f.gate_real
  unfold key
  rw [if_pos hk]
  simp only [hA, hC, ← EReal.coe_mul, ← Fox.coe_sum, ← EReal.coe_sub]
  exact ⟨_, rfl⟩

theorem key_ne_top (f : Finite m c) : key m c b h r k ≠ ⊤ := by
  by_cases hk : k ≤ r
  · obtain ⟨x, hx⟩ := key_real b h r k f hk
    rw [hx]; exact EReal.coe_ne_top x
  · unfold key; rw [if_neg hk]; exact bot_ne_top

/-- A score is the key's part and the query's gate. -/
theorem scores_key (f : Finite m c) {g : ℝ} (hg : gate m c b h r = g) :
    scores m c (ix4 b h r k) = key m c b h r k + g := by
  choose A hA using f.qk_real
  choose C hC using f.gate_real
  rw [scores_at]
  unfold key
  split
  · rw [hg]
    simp only [hA, hC, ← EReal.coe_mul, ← Fox.coe_sum, ← EReal.coe_sub, ← EReal.coe_add]
    congr 1
    simp only [mul_comm]
    ring
  · rw [EReal.bot_add]

/-- The reference's result is the quotient of the weighted sum by the sum, of the keys' parts against any real. -/
theorem want_quotient (f : Finite m c) (d : Fin 128) (M : ℝ) : want m c (ix3 b r ⟨128 * h.val + d.val, by omega⟩)
    = Ideal.div (∑ x : Fin 4096, val m c b x ⟨h.val * 128 + d.val, by omega⟩ * (Fox.wt (key m c b h r x) M : EReal))
        (∑ x : Fin 4096, (Fox.wt (key m c b h r x) M : EReal)) := by
  obtain ⟨g, hg⟩ := f.gate_real b h r
  obtain ⟨x₀, hx₀⟩ := key_real b h r r f le_rfl
  have hs : ∀ k, scores m c (ix4 b h r k) = key m c b h r k + g := fun k => scores_key b h r k f hg
  have ht : ∀ k, key m c b h r k + (g : EReal) ≠ ⊤ := fun k => EReal.add_ne_top (key_ne_top b h r k f) (EReal.coe_ne_top g)
  obtain ⟨M', hM'⟩ := fold_real (fun k => key m c b h r k + (g : EReal)) ht r (by
    rw [hx₀, ← EReal.coe_add]; exact EReal.coe_ne_bot _)
  have hl : largest m c (ix3 b h r) = (M' : EReal) := by
    rw [largest_at]; simp only [hs]; exact hM'
  have hp : ∀ k, powers m c (ix4 b h r k) = (Fox.wt (key m c b h r k + g) M' : EReal) := fun k => by
    rw [powers_at, hs, hl]; exact Fox.exp2_eq (ht k) M'
  rw [want_at, Fox.average (key m c b h r) _ (fun k => key_ne_top b h r k f) r (by rw [hx₀]; exact EReal.coe_ne_bot _) g M M']
  refine Finset.sum_congr rfl fun k _ => ?_
  rw [weights_at]
  simp only [hp]

end Cert.ReferenceIdeal.Rows
-- ==== Proof.FoxPre.lean ====
/-
  The precondition read back: the queries, the keys and the cumulative gates are real numbers.
-/
module

public import proofs.«01_k».proof.Defs
public import proofs.«01_k».proof.Proof.FoxRef
public import Idealize.ShloMosaic.Lib.Pointwise
public import Idealize.ShloMosaic.Lib.ReduceAll
public import Idealize.ShloMosaic.Lib.Decide

@[expose] public section

set_option maxRecDepth 16384

noncomputable section

open Idealize.ShloMosaic Idealize.ShloMosaic.TcCoe

namespace Cert.Pre_finite.Read

open Cert.Pre_finite

instance facts : Cert.Pre_finite.Facts where
  bitsLt_bf16_f32 := by decide
  bcast_S_S8x4096x1024 := by decide
  reducesTo_S8x4096x1024_S_d0_1_2 := by decide
  h_S_ := by decide
  slices_S8x4096x128_S8x4096x4_0_0_8 := by decide
  bcast_S_S8x4096x4 := by decide
  reducesTo_S8x4096x4_S_d0_1_2 := by decide

theorem posInf : Ideal.ofBits FTy.f32 0x7F800000#32 = ⊤ := by
  simp [Ideal.ofBits, Ideal.ieee]

/-- A number whose absolute value is below infinity is a real. -/
theorem real_of_lt {x : EReal} (h : Ideal.cmp .olt (max x (-x)) (Ideal.ofBits FTy.f32 0x7F800000#32) = 1#1) : ∃ r : ℝ, x = r := by
  rw [posInf] at h
  have e : max x (-x) < ⊤ := by
    by_contra hn
    have h0 : Ideal.cmp .olt (max x (-x)) ⊤ = BitVec.ofBool (decide (max x (-x) < ⊤)) := rfl
    rw [h0, decide_eq_false hn] at h
    exact absurd h (by decide)
  induction x with
  | bot => rw [EReal.neg_bot] at e; simp at e
  | top => simp at e
  | coe r => exact ⟨r, rfl⟩

instance : Subsingleton S_.Idx := ⟨fun _ _ => funext fun a => a.elim0⟩

variable {a0 : FVec Ideal S8x4096x1024 .bf16} {a1 : FVec Ideal S8x512x4096 .bf16} {a2 : FVec Ideal S8x4096x128 .f32}
  {a3 a4 : FVec Ideal S8x4096x640 .bf16} {a5 : FVec Ideal S8x128x4096 .bf16}

theorem both (h : fn (F := Ideal) a0 a1 a2 a3 a4 a5 = fun _ => 1#1) :
    (∀ i, ∃ r : ℝ, (a0 i : EReal) = r) ∧ ∀ i, ∃ r : ℝ, (extractStridedSlice S8x4096x4 ![0, 0, 8] a2 Facts.slices_S8x4096x128_S8x4096x4_0_0_8 i : EReal) = r := by
  have e := IntOp.andi_eq_one.1 (congrFun h fun a => a.elim0)
  exact ⟨fun i => real_of_lt (Host.reduce_andi_all _ _ _ _ _ e.1 i), fun i => real_of_lt (Host.reduce_andi_all _ _ _ _ _ e.2 i)⟩

theorem gates (h : fn (F := Ideal) a0 a1 a2 a3 a4 a5 = fun _ => 1#1) (b : Fin 8) (r : Fin 4096) (j : Fin 4) :
    ∃ x : ℝ, (a2 (ix3 b r ⟨8 + j.val, by omega⟩) : EReal) = x := by
  obtain ⟨x, hx⟩ := (both h).2 (ix3 b r j)
  refine ⟨x, Eq.trans ?_ hx⟩
  symm
  pointwise []

end Cert.Pre_finite.Read

namespace Cert.ReferenceIdeal.Rows

open Cert.ReferenceIdeal

/-- The precondition on arguments that the reference's memory holds too. -/
theorem Finite.of_pre {m : (ℓ : Loc nD τ sig) → Buf (Elt Ideal) ℓ} {c : Dev nD} {a0 a1 a2 a3 a4 a5}
    (h : Cert.Pre_finite.fn (F := Ideal) a0 a1 a2 a3 a4 a5 = fun _ => 1#1)
    (h0 : m (c.tc.loc main_arg0) = a0) (h2 : m (c.tc.loc main_arg2) = a2) : Finite m c := by
  subst h0; subst h2
  exact ⟨fun b r j => (Cert.Pre_finite.Read.both h).1 (ix3 b r j), fun b j r => Cert.Pre_finite.Read.gates h b r j⟩

end Cert.ReferenceIdeal.Rows
-- ==== Proof.FoxReads.lean ====
/-
  What the token mixers' first attention writes, read one element at a time over the extended reals: the scores of a key
  chunk, a chunk's maximum, rescale, sum and weights, the values' weighted sum, and the quotient it returns. The four heads
  lie side by side in the columns, 256 queries each.
-/
module

public import proofs.«01_k».proof.Defs
public import proofs.«01_k».proof.Proof.Gen.KernelIdeal.Skeleton
public import proofs.«01_k».proof.Proof.FoxMath
public import Idealize.ShloMosaic.Lib.Pointwise
public import Idealize.ShloMosaic.Lib.VecWindow

@[expose] public section

set_option maxRecDepth 16384

noncomputable section

open Idealize.ShloMosaic Idealize.ShloMosaic.TcCoe Idealize.SL.Sem

namespace Cert.KernelIdeal.FoxV

open Cert.KernelIdeal Cert.KernelIdeal.Gen

/-- The column of a head's query. -/
def col (h : Fin 4) (q : Fin 256) : Fin 1024 := ⟨256 * h.val + q.val, by omega⟩

theorem negInf : Ideal.ofBits FTy.f32 0xFF800000#32 = ⊥ := by
  simp [Ideal.ofBits, Ideal.ieee]

section Values
variable (a : Vec Ideal S1x1024 .f32) (x : Vec Ideal S128x1024 .f32) (p : Vec Ideal S1x256x1024 .bf16)
  (v : Fin 4 → Vec Ideal S1x128x256 .bf16) (d : Fin 128) (q : Fin 256)

theorem values0 : k0_pay14 (k0_pay13 a x p (v 0) (v 1) (v 2) (v 3)) (ix2 d (col 0 q))
    = a (ix2 0 (col 0 q)) * x (ix2 d (col 0 q)) + ∑ k : Fin 256, v 0 (ix3 0 d k) * p (ix3 0 k (col 0 q)) := by
  rw [show col 0 q = ⟨0 + q.val, by omega⟩ from Fin.ext (by simp [col])]
  pointwise [k0_pay13, k0_pay14]
theorem values1 : k0_pay14 (k0_pay13 a x p (v 0) (v 1) (v 2) (v 3)) (ix2 d (col 1 q))
    = a (ix2 0 (col 1 q)) * x (ix2 d (col 1 q)) + ∑ k : Fin 256, v 1 (ix3 0 d k) * p (ix3 0 k (col 1 q)) := by
  rw [show col 1 q = ⟨256 + q.val, by omega⟩ from Fin.ext (by simp [col])]
  pointwise [k0_pay13, k0_pay14]
theorem values2 : k0_pay14 (k0_pay13 a x p (v 0) (v 1) (v 2) (v 3)) (ix2 d (col 2 q))
    = a (ix2 0 (col 2 q)) * x (ix2 d (col 2 q)) + ∑ k : Fin 256, v 2 (ix3 0 d k) * p (ix3 0 k (col 2 q)) := by
  rw [show col 2 q = ⟨512 + q.val, by omega⟩ from Fin.ext (by simp [col])]
  pointwise [k0_pay13, k0_pay14]
  rw [dif_neg (by omega), dif_neg (by omega), dif_pos (by omega)]
  simp only [show 512 + q.val - 256 - 256 = q.val by omega]
theorem values3 : k0_pay14 (k0_pay13 a x p (v 0) (v 1) (v 2) (v 3)) (ix2 d (col 3 q))
    = a (ix2 0 (col 3 q)) * x (ix2 d (col 3 q)) + ∑ k : Fin 256, v 3 (ix3 0 d k) * p (ix3 0 k (col 3 q)) := by
  rw [show col 3 q = ⟨768 + q.val, by omega⟩ from Fin.ext (by simp [col])]
  pointwise [k0_pay13, k0_pay14]
  rw [dif_neg (by omega), dif_neg (by omega), dif_neg (by omega)]
  simp only [show 768 + q.val - 256 - 256 - 256 = q.val by omega]

/-- The rescaled accumulator plus a chunk's values weighed. -/
theorem values_at (h : Fin 4) : k0_pay14 (k0_pay13 a x p (v 0) (v 1) (v 2) (v 3)) (ix2 d (col h q))
    = a (ix2 0 (col h q)) * x (ix2 d (col h q)) + ∑ k : Fin 256, v h (ix3 0 d k) * p (ix3 0 k (col h q)) :=
  match h with
  | 0 => values0 a x p v d q
  | 1 => values1 a x p v d q
  | 2 => values2 a x p v d q
  | 3 => values3 a x p v d q

end Values

section Scores
variable (K Q : Fin 4 → Vec Ideal S1x256x128 .bf16) (c : Fin 4 → Vec Ideal S1x256x1 .f32) (k q : Fin 256)

theorem score0 : k0_pay18 (k0_pay15 (K 0) (Q 0) (c 0)) (k0_pay16 (K 1) (Q 1) (c 1)) (k0_pay17 (K 2) (Q 2)) (c 2) (K 3) (Q 3) (c 3) (ix3 0 k (col 0 q))
    = (∑ d : Fin 128, K 0 (ix3 0 k d) * Q 0 (ix3 0 q d)) - c 0 (ix3 0 k 0) := by
  rw [show col 0 q = ⟨0 + q.val, by omega⟩ from Fin.ext (by simp [col])]
  pointwise [k0_pay18, k0_pay15, k0_pay16, k0_pay17]
theorem score1 : k0_pay18 (k0_pay15 (K 0) (Q 0) (c 0)) (k0_pay16 (K 1) (Q 1) (c 1)) (k0_pay17 (K 2) (Q 2)) (c 2) (K 3) (Q 3) (c 3) (ix3 0 k (col 1 q))
    = (∑ d : Fin 128, K 1 (ix3 0 k d) * Q 1 (ix3 0 q d)) - c 1 (ix3 0 k 0) := by
  rw [show col 1 q = ⟨256 + q.val, by omega⟩ from Fin.ext (by simp [col])]
  pointwise [k0_pay18, k0_pay15, k0_pay16, k0_pay17]
theorem score2 : k0_pay18 (k0_pay15 (K 0) (Q 0) (c 0)) (k0_pay16 (K 1) (Q 1) (c 1)) (k0_pay17 (K 2) (Q 2)) (c 2) (K 3) (Q 3) (c 3) (ix3 0 k (col 2 q))
    = (∑ d : Fin 128, K 2 (ix3 0 k d) * Q 2 (ix3 0 q d)) - c 2 (ix3 0 k 0) := by
  rw [show col 2 q = ⟨512 + q.val, by omega⟩ from Fin.ext (by simp [col])]
  pointwise [k0_pay18, k0_pay15, k0_pay16, k0_pay17]
  rw [dif_neg (by omega), dif_neg (by omega), dif_pos (by omega)]
  simp only [show 512 + q.val - 256 - 256 = q.val by omega]
theorem score3 : k0_pay18 (k0_pay15 (K 0) (Q 0) (c 0)) (k0_pay16 (K 1) (Q 1) (c 1)) (k0_pay17 (K 2) (Q 2)) (c 2) (K 3) (Q 3) (c 3) (ix3 0 k (col 3 q))
    = (∑ d : Fin 128, K 3 (ix3 0 k d) * Q 3 (ix3 0 q d)) - c 3 (ix3 0 k 0) := by
  rw [show col 3 q = ⟨768 + q.val, by omega⟩ from Fin.ext (by simp [col])]
  pointwise [k0_pay18, k0_pay15, k0_pay16, k0_pay17]
  rw [dif_neg (by omega), dif_neg (by omega), dif_neg (by omega)]
  simp only [show 768 + q.val - 256 - 256 - 256 = q.val by omega]

/-- A chunk's scores. -/
theorem score_at (h : Fin 4) : k0_pay18 (k0_pay15 (K 0) (Q 0) (c 0)) (k0_pay16 (K 1) (Q 1) (c 1)) (k0_pay17 (K 2) (Q 2)) (c 2) (K 3) (Q 3) (c 3) (ix3 0 k (col h q))
    = (∑ d : Fin 128, K h (ix3 0 k d) * Q h (ix3 0 q d)) - c h (ix3 0 k 0) :=
  match h with
  | 0 => score0 K Q c k q
  | 1 => score1 K Q c k q
  | 2 => score2 K Q c k q
  | 3 => score3 K Q c k q

end Scores

section Softmax
variable (s : Vec Ideal S1x256x1024 .f32) (m x : Vec Ideal S1x1024 .f32) (k : Fin 256) (l : Fin 1024)

/-- The running maximum after a chunk. -/
theorem max_at : k0_pay38 (k0_pay31 s m) (ix2 0 l) = max (m (ix2 0 l)) (Finset.univ.fold max ⊥ fun k : Fin 256 => s (ix3 0 k l)) := by
  pointwise [k0_pay38, k0_pay31, k0_pay30]
  rw [negInf]

/-- The rescale a chunk leaves. -/
theorem pend_at : k0_pay37 (k0_pay32 s m) (ix2 0 l) = Ideal.exp2 (m (ix2 0 l) - k0_pay38 (k0_pay31 s m) (ix2 0 l)) := by
  pointwise [k0_pay38, k0_pay31, k0_pay30, k0_pay37, k0_pay32]
  rfl

/-- The running sum after a chunk. -/
theorem sum_at : k0_pay34 s m x (ix2 0 l) = Ideal.exp2 (m (ix2 0 l) - k0_pay38 (k0_pay31 s m) (ix2 0 l)) * x (ix2 0 l)
    + ∑ k : Fin 256, Ideal.exp2 (s (ix3 0 k l) - k0_pay38 (k0_pay31 s m) (ix2 0 l)) := by
  pointwise [k0_pay38, k0_pay31, k0_pay30, k0_pay32, k0_pay34, k0_pay33]
  rfl

/-- A chunk's weights. -/
theorem weight_at : k0_pay36 (k0_pay35 s m) (ix3 0 k l) = Ideal.exp2 (s (ix3 0 k l) - k0_pay38 (k0_pay31 s m) (ix2 0 l)) := by
  pointwise [k0_pay38, k0_pay31, k0_pay30, k0_pay36, k0_pay35, k0_pay33]
  rfl

/-- The last chunk's scores, masked above the diagonal. -/
def masked : Vec Ideal S1x256x1024 .f32 :=
  shapeCast S1x256x1024 (k0_pay240 k0_pay740 s) shapeCasts_S256x1024_S1x256x1024

/-- A column's query, as the mask computes it. -/
theorem query_bits : ∀ l : Fin 1024, Scalar.select
    (IntOp.andi
      (IntOp.xori
        (IntOp.cmpi CmpIPredicate.slt
          (IntOp.remsi ArithUnit.vector (BitVec.ofNat 32 l.val)
            (Scalar.select (Scalar.cmpi CmpIPredicate.eq 256#32 0#32) 1#32 256#32))
          0#32)
        (Scalar.cmpi CmpIPredicate.slt (Scalar.select (Scalar.cmpi CmpIPredicate.eq 256#32 0#32) 1#32 256#32)
          0#32))
      (IntOp.cmpi CmpIPredicate.ne
        (IntOp.remsi ArithUnit.vector (BitVec.ofNat 32 l.val)
          (Scalar.select (Scalar.cmpi CmpIPredicate.eq 256#32 0#32) 1#32 256#32))
        0#32))
    (IntOp.addi
      (IntOp.remsi ArithUnit.vector (BitVec.ofNat 32 l.val)
        (Scalar.select (Scalar.cmpi CmpIPredicate.eq 256#32 0#32) 1#32 256#32))
      (Scalar.select (Scalar.cmpi CmpIPredicate.eq 256#32 0#32) 1#32 256#32))
    (IntOp.remsi ArithUnit.vector (BitVec.ofNat 32 l.val)
      (Scalar.select (Scalar.cmpi CmpIPredicate.eq 256#32 0#32) 1#32 256#32)) = BitVec.ofNat 32 (l.val % 256) := by
  decide +kernel

theorem le_bits : ∀ k q : Fin 256, IntOp.cmpi CmpIPredicate.sle (BitVec.ofNat 32 k.val) (BitVec.ofNat 32 q.val) = if k ≤ q then 1#1 else 0#1 := by
  decide +kernel

theorem masked_at (h : Fin 4) (q : Fin 256) : masked s (ix3 0 k (col h q)) = if k ≤ q then s (ix3 0 k (col h q)) else ⊥ := by
  pointwise [masked, k0_pay240, k0_pay740]
  rw [query_bits, show (col h q).val % 256 = q.val from by simp only [col]; omega, le_bits]
  split <;> rfl

/-- The same of the masked chunk. -/
theorem mmax_at : k0_pay247 k0_pay740 s m (ix2 0 l) = k0_pay38 (k0_pay31 (masked s) m) (ix2 0 l) := by
  pointwise [k0_pay38, k0_pay31, k0_pay30, k0_pay247, k0_pay241, k0_pay240, masked]

theorem mpend_at : k0_pay246 k0_pay740 s m (ix2 0 l) = k0_pay37 (k0_pay32 (masked s) m) (ix2 0 l) := by
  pointwise [k0_pay37, k0_pay32, k0_pay31, k0_pay30, k0_pay246, k0_pay242, k0_pay241, k0_pay240, masked]

theorem msum_at : k0_pay244 k0_pay740 s m x (ix2 0 l) = k0_pay34 (masked s) m x (ix2 0 l) := by
  pointwise [k0_pay34, k0_pay33, k0_pay32, k0_pay31, k0_pay30, k0_pay244, k0_pay243, k0_pay242, k0_pay241, k0_pay240, masked]

theorem mweight_at : k0_pay245 k0_pay740 s m (ix3 0 k l) = k0_pay36 (k0_pay35 (masked s) m) (ix3 0 k l) := by
  pointwise [k0_pay36, k0_pay35, k0_pay33, k0_pay31, k0_pay30, k0_pay245, k0_pay243, k0_pay241, k0_pay240, masked]

end Softmax

/-- A head's quotient. -/
theorem out_at (x : Vec Ideal S128x256 .f32) (l : Vec Ideal S1x256 .f32) (d : Fin 128) (q : Fin 256) :
    k0_pay758 x l (ix3 0 q d) = Ideal.div (x (ix2 d q)) (l (ix2 0 q)) := by
  pointwise [k0_pay758]

end Cert.KernelIdeal.FoxV
-- ==== Proof.FoxStep.lean ====
/-
  A stage of the first attention's key loop, as a change of the recorded buffers: if every column holds what the running
  softmax holds before a chunk, then after the stage's stores it holds what it holds before the next.
-/
module

public import proofs.«01_k».proof.Proof.FoxReads
public import proofs.«01_k».proof.Proof.Triple

@[expose] public section

set_option maxRecDepth 16384

noncomputable section

open Idealize.ShloMosaic Idealize.ShloMosaic.TcCoe Idealize.SL.Sem

namespace Cert.KernelIdeal.FoxV

open Cert.KernelIdeal Cert.KernelIdeal.Gen Mixers

/-- The key row a chunk's row is, a head's columns of the queries and keys, and its column of the biases. -/
def row (c : ℕ) (k : Fin 256) : Fin 4096 := ⟨(256 * c + k.val) % 4096, Nat.mod_lt _ (by decide)⟩
def lane (h : Fin 4) (d : Fin 128) : Fin 512 := ⟨128 * h.val + d.val, by omega⟩
def bias (h : Fin 4) : Fin 128 := ⟨8 + h.val, by omega⟩

section
variable (R : Refs sig (Elt Ideal))

/-- A score, before the mask. -/
def raw (h : Fin 4) (q : Fin 256) (c : ℕ) (k : Fin 256) : EReal :=
  (∑ d : Fin 128, (R.x3 (ix3 0 (row c k) (lane h d)) : EReal) * R.x2 (ix3 0 q (lane h d))) - R.x5 (ix3 0 (row c k) (bias h))

/-- A score: masked above the diagonal of the query block's own chunk. -/
def score (n : ℕ) (h : Fin 4) (q : Fin 256) (c : ℕ) (k : Fin 256) : EReal :=
  if c = n then (if k ≤ q then raw R h q c k else ⊥) else raw R h q c k

/-- A value. -/
def value (h : Fin 4) (d : Fin 128) (c : ℕ) (k : Fin 256) : EReal := R.x4 (ix3 0 (lane h d) (row c k))

/-- What the recorded buffers hold before chunk `c`: the chunk's scores in slot `cur`, the last chunk's weights in slot
    `nxt`, and the running softmax in every column. -/
def At (n c : ℕ) (cur nxt : Fin 2) (s : St (Elt Ideal)) : Prop :=
  (∀ h q, Fox.Inv (score R n h q) (value R h) c (s.m (ix2 0 (col h q))) (s.l (ix2 0 (col h q))) (s.a (ix2 0 (col h q)))
    (fun k => s.pb (ix3 nxt k (col h q))) (fun d => s.acc (ix2 d (col h q)))) ∧
  ∀ h q k, s.sb (ix3 cur k (col h q)) = raw R h q c k

/-- The scores are real. -/
def Real_ : Prop := ∀ h q c k, raw R h q c k ≠ ⊤ ∧ raw R h q c k ≠ ⊥

end

section Windows
variable {e : EltTy} {F : EltTy → Type}

theorem unit_idx {s : Shape} {off size : Fin s.rank → ℕ} {inb} {j : Shape.Idx ⟨s.rank, size⟩} {y : s.Idx}
    (h : ∀ a, off a + (j a).val = (y a).val) : (Rect.unit off size inb).toLoadRect.idx j = y :=
  funext fun a => Fin.ext (by show off a + 1 * (j a).val = _; rw [Nat.one_mul]; exact h a)

theorem unit_ix2 {a b : ℕ} {off size : Fin 2 → ℕ} {inb} (o0 o1 : ℕ) (h : off = ![o0, o1])
    (j : Shape.Idx ⟨2, size⟩) (y0 : Fin a) (y1 : Fin b)
    (h0 : o0 + (j 0).val = y0.val) (h1 : o1 + (j 1).val = y1.val) :
    (Rect.unit (s := ⟨2, ![a, b]⟩) off size inb).toLoadRect.idx j = ix2 y0 y1 := by
  subst h
  refine unit_idx fun x => ?_
  match x with
  | 0 => exact h0
  | 1 => exact h1

theorem unit_ix3 {a b c : ℕ} {off size : Fin 3 → ℕ} {inb} (o0 o1 o2 : ℕ) (h : off = ![o0, o1, o2])
    (j : Shape.Idx ⟨3, size⟩) (y0 : Fin a) (y1 : Fin b) (y2 : Fin c)
    (h0 : o0 + (j 0).val = y0.val) (h1 : o1 + (j 1).val = y1.val) (h2 : o2 + (j 2).val = y2.val) :
    (Rect.unit (s := ⟨3, ![a, b, c]⟩) off size inb).toLoadRect.idx j = ix3 y0 y1 y2 := by
  subst h
  refine unit_idx fun x => ?_
  match x with
  | 0 => exact h0
  | 1 => exact h1
  | 2 => exact h2

theorem hit {s : Shape} {α : Type} (r : Rect s) (X : s.Idx → α) (w : r.shape.Idx → α) (j : r.shape.Idx) {y : s.Idx}
    (h : r.toLoadRect.idx j = y) : r.overlay X w y = w j := by
  subst h; exact r.overlay_emb X w j

theorem miss {s : Shape} {α : Type} (r : Rect s) (X : s.Idx → α) (w : r.shape.Idx → α) {y : s.Idx}
    (h : ∀ j, r.toLoadRect.idx j ≠ y) : r.overlay X w y = X y :=
  r.overlay_of_not_mem X w fun hm => by
    rw [← r.map_emb_univ] at hm
    obtain ⟨j, -, hj⟩ := Finset.mem_map.1 hm
    exact h j hj

end Windows

/-- A rectangle of a buffer. -/
abbrev ld {sh : Shape} {α : Type} (X : sh.Idx → α) (off size : Fin sh.rank → ℕ) (inb : ∀ a, off a + size a ≤ sh.size a) :
    (Rect.unit (s := sh) off size inb).shape.Idx → α := fun j => X ((Rect.unit (s := sh) off size inb).toLoadRect.idx j)

/-- A buffer with a rectangle replaced. -/
abbrev st {sh : Shape} {α : Type} (X : sh.Idx → α) (off size : Fin sh.rank → ℕ) (inb : ∀ a, off a + size a ≤ sh.size a)
    (w : (Rect.unit (s := sh) off size inb).shape.Idx → α) : sh.Idx → α := (Rect.unit (s := sh) off size inb).overlay X w

section Reads
variable {e : EltTy} {off : Fin 3 → ℕ} {inb} {inb0}

theorem ld_buf (X : SBuf.Idx → Elt Ideal e) (cur : Fin 2) (h : off = ![cur.val, 0, 0]) (k : Fin 256) (l : Fin 1024) :
    ld X off S1x256x1024.size inb (ix3 0 k l) = X (ix3 cur k l) :=
  congrArg X (unit_ix3 _ _ _ h _ _ _ _ rfl (Nat.zero_add _) (Nat.zero_add _))

theorem st_buf (X : SBuf.Idx → Elt Ideal e) (w) (cur : Fin 2) (h : off = ![cur.val, 0, 0]) (k : Fin 256) (l : Fin 1024) :
    st X off S1x256x1024.size inb w (ix3 cur k l) = w (ix3 0 k l) :=
  hit _ X w _ (unit_ix3 _ _ _ h _ _ _ _ rfl (Nat.zero_add _) (Nat.zero_add _))

theorem st_buf_ne (X : SBuf.Idx → Elt Ideal e) (w) (nxt cur : Fin 2) (hne : cur ≠ nxt) (h : off = ![nxt.val, 0, 0]) (k : Fin 256) (l : Fin 1024) :
    st X off S1x256x1024.size inb w (ix3 cur k l) = X (ix3 cur k l) :=
  miss _ X w fun j hj => hne (Fin.ext (by
    subst h
    have h0 := congrArg (fun y : SBuf.Idx => (y 0).val) hj
    have h1 : nxt.val + 1 * (j 0).val = cur.val := h0
    have h2 : (j 0).val < 1 := (j 0).isLt
    omega))

theorem ld_row (X : SRow.Idx → Elt Ideal e) (l : Fin 1024) : ld X ![0, 0] S1x1024.size inb0 (ix2 0 l) = X (ix2 0 l) :=
  congrArg X (unit_ix2 _ _ rfl _ _ _ rfl (Nat.zero_add _))

theorem st_row (X : SRow.Idx → Elt Ideal e) (w) (l : Fin 1024) : st X ![0, 0] S1x1024.size inb0 w (ix2 0 l) = w (ix2 0 l) :=
  hit _ X w _ (unit_ix2 _ _ rfl _ _ _ rfl (Nat.zero_add _))

end Reads

theorem ld_acc {e : EltTy} {inb} (X : SAcc.Idx → Elt Ideal e) (d : Fin 128) (l : Fin 1024) : ld X ![0, 0] S128x1024.size inb (ix2 d l) = X (ix2 d l) :=
  congrArg X (unit_ix2 _ _ rfl _ _ _ (Nat.zero_add _) (Nat.zero_add _))

theorem st_acc {e : EltTy} {inb} (X : SAcc.Idx → Elt Ideal e) (w) (d : Fin 128) (l : Fin 1024) : st X ![0, 0] S128x1024.size inb w (ix2 d l) = w (ix2 d l) :=
  hit _ X w _ (unit_ix2 _ _ rfl _ _ _ (Nat.zero_add _) (Nat.zero_add _))

section Step
variable {R : Refs sig (Elt Ideal)} {n c : ℕ} {cur nxt : Fin 2} {s : St (Elt Ideal)}

/-- The accumulator after a stage: the last chunk's values weighed, added to the rescaled accumulator. -/
def Acc (R : Refs sig (Elt Ideal)) (c : ℕ) (nxt : Fin 2) (s : St (Elt Ideal)) (acc : SAcc.Idx → EReal) : Prop :=
  ∀ h q d, acc (ix2 d (col h q)) = (s.a (ix2 0 (col h q)) : EReal) * s.acc (ix2 d (col h q)) + ∑ k, value R h d (c - 1) k * s.pb (ix3 nxt k (col h q))

theorem acc_stage (hc : c ≤ 16) {oa oc ia ic ib} {op : Fin 3 → ℕ} {ip} {o0 o1 o2 o3 : Fin 3 → ℕ} {i0 i1 i2 i3}
    (ha : oa = ![0, 0]) (hcc : oc = ![0, 0]) (hp : op = ![nxt.val, 0, 0])
    (h0 : o0 = ![0, 0, 256 * (c - 1)]) (h1 : o1 = ![0, 128, 256 * (c - 1)]) (h2 : o2 = ![0, 256, 256 * (c - 1)]) (h3 : o3 = ![0, 384, 256 * (c - 1)]) :
    Acc R c nxt s (st s.acc ![0, 0] S128x1024.size ib (k0_pay14 (F := Ideal) (k0_pay13 (ld s.a oa S1x1024.size ia) (ld s.acc oc S128x1024.size ic) (ld s.pb op S1x256x1024.size ip)
      (ld R.x4 o0 S1x128x256.size i0) (ld R.x4 o1 S1x128x256.size i1) (ld R.x4 o2 S1x128x256.size i2) (ld R.x4 o3 S1x128x256.size i3)))) := by
  subst ha hcc
  intro h q d
  rw [st_acc]
  refine (values_at _ _ _ ![_, _, _, _] d q h).trans ?_
  rw [ld_row, ld_acc]
  congr 1
  refine Finset.sum_congr rfl fun k _ => ?_
  rw [ld_buf s.pb nxt hp]
  congr 1
  have hk := k.isLt
  fin_cases h
  · exact congrArg R.x4 (unit_ix3 _ _ _ h0 _ _ _ _ rfl (by simp [lane]) (by simp [row]; omega))
  · exact congrArg R.x4 (unit_ix3 _ _ _ h1 _ _ _ _ rfl (by simp [lane]) (by simp [row]; omega))
  · exact congrArg R.x4 (unit_ix3 _ _ _ h2 _ _ _ _ rfl (by simp [lane]) (by simp [row]; omega))
  · exact congrArg R.x4 (unit_ix3 _ _ _ h3 _ _ _ _ rfl (by simp [lane]) (by simp [row]; omega))

/-- The next chunk's scores, beside the present chunk's. -/
def Next (R : Refs sig (Elt Ideal)) (c : ℕ) (cur nxt : Fin 2) (sb sb' : SBuf.Idx → EReal) : Prop :=
  (∀ k l, sb' (ix3 cur k l) = sb (ix3 cur k l)) ∧ ∀ h q k, sb' (ix3 nxt k (col h q)) = raw R h q c k

theorem next_stage (hc : c < 16) (hne : cur ≠ nxt) (sb : SBuf.Idx → Elt Ideal .f32) {on : Fin 3 → ℕ} {ion} (hn : on = ![nxt.val, 0, 0])
    {k0 k1 k2 k3 q0 q1 q2 q3 b0 b1 b2 b3 : Fin 3 → ℕ} {ik0 ik1 ik2 ik3 iq0 iq1 iq2 iq3 ib0 ib1 ib2 ib3}
    (hk0 : k0 = ![0, 256 * c, 0]) (hk1 : k1 = ![0, 256 * c, 128]) (hk2 : k2 = ![0, 256 * c, 256]) (hk3 : k3 = ![0, 256 * c, 384])
    (hq0 : q0 = ![0, 0, 0]) (hq1 : q1 = ![0, 0, 128]) (hq2 : q2 = ![0, 0, 256]) (hq3 : q3 = ![0, 0, 384])
    (hb0 : b0 = ![0, 256 * c, 8]) (hb1 : b1 = ![0, 256 * c, 9]) (hb2 : b2 = ![0, 256 * c, 10]) (hb3 : b3 = ![0, 256 * c, 11]) :
    Next R c cur nxt sb (st sb on S1x256x1024.size ion (k0_pay18 (F := Ideal)
      (k0_pay15 (ld R.x3 k0 S1x256x128.size ik0) (ld R.x2 q0 S1x256x128.size iq0) (ld R.x5 b0 S1x256x1.size ib0))
      (k0_pay16 (ld R.x3 k1 S1x256x128.size ik1) (ld R.x2 q1 S1x256x128.size iq1) (ld R.x5 b1 S1x256x1.size ib1))
      (k0_pay17 (ld R.x3 k2 S1x256x128.size ik2) (ld R.x2 q2 S1x256x128.size iq2)) (ld R.x5 b2 S1x256x1.size ib2)
      (ld R.x3 k3 S1x256x128.size ik3) (ld R.x2 q3 S1x256x128.size iq3) (ld R.x5 b3 S1x256x1.size ib3))) := by
  refine ⟨fun k l => st_buf_ne sb _ nxt cur hne hn k l, fun h q k => ?_⟩
  rw [st_buf sb _ nxt hn]
  refine (score_at ![_, _, _, _] ![_, _, _, _] ![_, _, _, _] k q h).trans ?_
  have hk := k.isLt
  unfold raw
  fin_cases h
  · exact congrArg₂ (fun a b : EReal => a - b) (Finset.sum_congr rfl fun d _ => congrArg₂ (fun a b : EReal => a * b)
      (congrArg R.x3 (unit_ix3 _ _ _ hk0 _ _ _ _ rfl (by simp [row]; omega) (by simp [lane]))) (congrArg R.x2 (unit_ix3 _ _ _ hq0 _ _ _ _ rfl (by simp) (by simp [lane]))))
      (congrArg R.x5 (unit_ix3 _ _ _ hb0 _ _ _ _ rfl (by simp [row]; omega) (by simp [bias])))
  · exact congrArg₂ (fun a b : EReal => a - b) (Finset.sum_congr rfl fun d _ => congrArg₂ (fun a b : EReal => a * b)
      (congrArg R.x3 (unit_ix3 _ _ _ hk1 _ _ _ _ rfl (by simp [row]; omega) (by simp [lane]))) (congrArg R.x2 (unit_ix3 _ _ _ hq1 _ _ _ _ rfl (by simp) (by simp [lane]))))
      (congrArg R.x5 (unit_ix3 _ _ _ hb1 _ _ _ _ rfl (by simp [row]; omega) (by simp [bias])))
  · exact congrArg₂ (fun a b : EReal => a - b) (Finset.sum_congr rfl fun d _ => congrArg₂ (fun a b : EReal => a * b)
      (congrArg R.x3 (unit_ix3 _ _ _ hk2 _ _ _ _ rfl (by simp [row]; omega) (by simp [lane]))) (congrArg R.x2 (unit_ix3 _ _ _ hq2 _ _ _ _ rfl (by simp) (by simp [lane]))))
      (congrArg R.x5 (unit_ix3 _ _ _ hb2 _ _ _ _ rfl (by simp [row]; omega) (by simp [bias])))
  · exact congrArg₂ (fun a b : EReal => a - b) (Finset.sum_congr rfl fun d _ => congrArg₂ (fun a b : EReal => a * b)
      (congrArg R.x3 (unit_ix3 _ _ _ hk3 _ _ _ _ rfl (by simp [row]; omega) (by simp [lane]))) (congrArg R.x2 (unit_ix3 _ _ _ hq3 _ _ _ _ rfl (by simp) (by simp [lane]))))
      (congrArg R.x5 (unit_ix3 _ _ _ hb3 _ _ _ _ rfl (by simp [row]; omega) (by simp [bias])))

/-- A score is not above every real, and a chunk's first key is never masked. -/
theorem score_ne_top (hr : Real_ R) (h q c k) : score R n h q c k ≠ ⊤ := by
  unfold score
  split
  · split
    · exact (hr h q c k).1
    · exact bot_ne_top
  · exact (hr h q c k).1

theorem score_first (hr : Real_ R) (h q c) : score R n h q c 0 ≠ ⊥ := by
  unfold score
  rw [if_pos (Fin.zero_le q)]
  split <;> exact (hr h q c 0).2

/-- A stage's stores, read at the columns. -/
theorem step_core (H : At R n c cur nxt s) (hr : Real_ R) {s' : St (Elt Ideal)} (ha : Acc R c nxt s s'.acc)
    (S : Vec Ideal S1x256x1024 .f32) (M L : Vec Ideal S1x1024 .f32)
    (hS : ∀ h q k, S (ix3 0 k (col h q)) = score R n h q c k) (hM : ∀ l, M (ix2 0 l) = s.m (ix2 0 l)) (hL : ∀ l, L (ix2 0 l) = s.l (ix2 0 l))
    (hm : ∀ l, s'.m (ix2 0 l) = k0_pay38 (k0_pay31 S M) (ix2 0 l)) (hp : ∀ k l, s'.pb (ix3 cur k l) = k0_pay36 (k0_pay35 S M) (ix3 0 k l))
    (hpend : ∀ l, s'.a (ix2 0 l) = k0_pay37 (k0_pay32 S M) (ix2 0 l)) (hl : ∀ l, s'.l (ix2 0 l) = k0_pay34 S M L (ix2 0 l)) (h : Fin 4) (q : Fin 256) :
    Fox.Inv (score R n h q) (value R h) (c + 1) (s'.m (ix2 0 (col h q))) (s'.l (ix2 0 (col h q))) (s'.a (ix2 0 (col h q)))
      (fun k => s'.pb (ix3 cur k (col h q))) (fun d => s'.acc (ix2 d (col h q))) := by
  refine (H.1 h q).step (fun c' _ k => score_ne_top hr h q c' k) 0 (score_first hr h q c) ?_ ?_ (fun k => ?_) ?_ (ha h q)
  · rw [hm, max_at, hM]
    exact congrArg (max _) (Finset.fold_congr fun k _ => hS h q k)
  · rw [hpend, pend_at, hM, hm]
  · rw [hp, weight_at, hS, hm]
  · rw [hl, sum_at, hpend, pend_at, hL]
    exact congrArg _ (Finset.sum_congr rfl fun k _ => by rw [hp, weight_at])

/-- A stage before the last. -/
theorem step (H : At R n c cur nxt s) (hr : Real_ R) (hc : c < n) {acc : SAcc.Idx → EReal} {sb : SBuf.Idx → EReal}
    (ha : Acc R c nxt s acc) (hs : Next R (c + 1) cur nxt s.sb sb)
    {oc oc' : Fin 3 → ℕ} (hoc : oc = ![cur.val, 0, 0]) (hoc' : oc' = ![cur.val, 0, 0]) {i1 i2 i3 i4 i5 i6 i7 i8 i9 i11 i12 i13 i14}
    {s' : St (Elt Ideal)}
    (e1 : s'.m = st s.m ![0, 0] S1x1024.size i4 (k0_pay38 (F := Ideal) (k0_pay31 (ld sb oc' S1x256x1024.size i5) (ld s.m ![0, 0] S1x1024.size i6))))
    (e2 : s'.pb = st s.pb oc S1x256x1024.size i1 (k0_pay36 (F := Ideal) (k0_pay35 (ld sb oc' S1x256x1024.size i2) (ld s.m ![0, 0] S1x1024.size i3))))
    (e3 : s'.a = st s.a ![0, 0] S1x1024.size i7 (k0_pay37 (F := Ideal) (k0_pay32 (ld sb oc' S1x256x1024.size i8) (ld s.m ![0, 0] S1x1024.size i9))))
    (e4 : s'.l = st s.l ![0, 0] S1x1024.size i11 (k0_pay34 (F := Ideal) (ld sb oc' S1x256x1024.size i12) (ld s.m ![0, 0] S1x1024.size i13) (ld s.l ![0, 0] S1x1024.size i14)))
    (e5 : s'.acc = acc) (e6 : s'.sb = sb) :
    At R n (c + 1) nxt cur s' := by
  refine ⟨step_core H hr (e5 ▸ ha) (ld sb oc' S1x256x1024.size i2) (ld s.m ![0, 0] S1x1024.size i3) (ld s.l ![0, 0] S1x1024.size i14)
    (fun h q k => ?_) (fun l => ld_row _ l) (fun l => ld_row _ l) (fun l => (congrFun e1 _).trans (st_row _ _ l))
    (fun k l => (congrFun e2 _).trans (st_buf _ _ cur hoc k l)) (fun l => (congrFun e3 _).trans (st_row _ _ l))
    (fun l => (congrFun e4 _).trans (st_row _ _ l)), fun h q k => (congrFun e6 _).trans (hs.2 h q k)⟩
  refine (ld_buf (e := .f32) sb cur hoc' k _).trans ((hs.1 _ _).trans ((H.2 h q k).trans ?_))
  rw [score, if_neg hc.ne]

/-- The last stage, its scores masked: the columns after it. -/
theorem step_last (H : At R n n cur nxt s) (hr : Real_ R) {acc : SAcc.Idx → EReal} (ha : Acc R n nxt s acc)
    {oc oc' : Fin 3 → ℕ} (hoc : oc = ![cur.val, 0, 0]) (hoc' : oc' = ![cur.val, 0, 0]) {i1 i2 i3 i4 i5 i6 i7 i8 i9 i11 i12 i13 i14}
    {s' : St (Elt Ideal)}
    (e1 : s'.m = st s.m ![0, 0] S1x1024.size i4 (k0_pay247 (F := Ideal) k0_pay740 (ld s.sb oc' S1x256x1024.size i5) (ld s.m ![0, 0] S1x1024.size i6)))
    (e2 : s'.pb = st s.pb oc S1x256x1024.size i1 (k0_pay245 (F := Ideal) k0_pay740 (ld s.sb oc' S1x256x1024.size i2) (ld s.m ![0, 0] S1x1024.size i3)))
    (e3 : s'.a = st s.a ![0, 0] S1x1024.size i7 (k0_pay246 (F := Ideal) k0_pay740 (ld s.sb oc' S1x256x1024.size i8) (ld s.m ![0, 0] S1x1024.size i9)))
    (e4 : s'.l = st s.l ![0, 0] S1x1024.size i11 (k0_pay244 (F := Ideal) k0_pay740 (ld s.sb oc' S1x256x1024.size i12) (ld s.m ![0, 0] S1x1024.size i13) (ld s.l ![0, 0] S1x1024.size i14)))
    (e5 : s'.acc = acc)
    (h : Fin 4) (q : Fin 256) :
    Fox.Inv (score R n h q) (value R h) (n + 1) (s'.m (ix2 0 (col h q))) (s'.l (ix2 0 (col h q))) (s'.a (ix2 0 (col h q)))
      (fun k => s'.pb (ix3 cur k (col h q))) (fun d => s'.acc (ix2 d (col h q))) := by
  refine step_core H hr (e5 ▸ ha) (masked (ld s.sb oc' S1x256x1024.size i2)) (ld s.m ![0, 0] S1x1024.size i3) (ld s.l ![0, 0] S1x1024.size i14)
    (fun h q k => ?_) (fun l => ld_row _ l) (fun l => ld_row _ l) (fun l => (congrFun e1 _).trans ((st_row _ _ l).trans (mmax_at _ _ l)))
    (fun k l => (congrFun e2 _).trans ((st_buf _ _ cur hoc k l).trans (mweight_at _ _ k l))) (fun l => (congrFun e3 _).trans ((st_row _ _ l).trans (mpend_at _ _ l)))
    (fun l => (congrFun e4 _).trans ((st_row _ _ l).trans (msum_at _ _ _ l))) h q
  refine (masked_at _ k h q).trans ?_
  rw [score, if_pos rfl, ← H.2 h q k]
  exact congrArg (fun x : EReal => if k ≤ q then x else ⊥) (ld_buf s.sb cur hoc' k _)

end Step

end Cert.KernelIdeal.FoxV
-- ==== Proof.FoxRules.lean ====
/-
  Rules for walking the first attention's stages: loads the second attention makes are forgotten, a stage's last store
  closes the stage, and the offsets of the key loop's loads.
-/
module

public import proofs.«01_k».proof.Proof.FoxStep

@[expose] public section

set_option maxRecDepth 16384

noncomputable section

open Idealize.ShloMosaic Idealize.ShloMosaic.TcCoe Idealize.SL.Sem Idealize.SL.RA

namespace Mixers

variable {nD : Nat} {τ : Topo} {sig : RefSig} {Val : EltTy → Type}
variable {Ix : Type} [DecidableEq Ix] {Name : Type} [DecidableEq Name] {U : Type} [URA U] {Lvl : Type}
  [Preorder Lvl] {Λ : Labels} {C : Ctx nD τ sig Val Λ Ix} {β : Type} {s : St Val}

/-- Loads whose contents do not matter. -/
theorem W.skip6 {r : LoadRect SQ} {hl : C.R.r6.view.LoadsAt r} {k : (r.shape.Idx → Val _) → Prog (TpuEff nD τ sig Val Λ .tc) β} {Q : β → St Val → Prop}
    (hk : ∀ v, W Name U Lvl C (k v) Q s) : W Name U Lvl C (Prog.lift (.load C.R.r6 r hl) >>= k) Q s := W.load6 (hk _)

theorem W.skip7 {r : LoadRect SM} {hl : C.R.r7.view.LoadsAt r} {k : (r.shape.Idx → Val _) → Prog (TpuEff nD τ sig Val Λ .tc) β} {Q : β → St Val → Prop}
    (hk : ∀ v, W Name U Lvl C (k v) Q s) : W Name U Lvl C (Prog.lift (.load C.R.r7 r hl) >>= k) Q s := W.load7 (hk _)

theorem W.skip8 {r : LoadRect SQ} {hl : C.R.r8.view.LoadsAt r} {k : (r.shape.Idx → Val _) → Prog (TpuEff nD τ sig Val Λ .tc) β} {Q : β → St Val → Prop}
    (hk : ∀ v, W Name U Lvl C (k v) Q s) : W Name U Lvl C (Prog.lift (.load C.R.r8 r hl) >>= k) Q s := W.load8 (hk _)

theorem W.skip9 {r : LoadRect SM} {hl : C.R.r9.view.LoadsAt r} {k : (r.shape.Idx → Val _) → Prog (TpuEff nD τ sig Val Λ .tc) β} {Q : β → St Val → Prop}
    (hk : ∀ v, W Name U Lvl C (k v) Q s) : W Name U Lvl C (Prog.lift (.load C.R.r9 r hl) >>= k) Q s := W.load9 (hk _)

theorem W.skip10 {r : LoadRect SVd} {hl : C.R.r10.view.LoadsAt r} {k : (r.shape.Idx → Val _) → Prog (TpuEff nD τ sig Val Λ .tc) β} {Q : β → St Val → Prop}
    (hk : ∀ v, W Name U Lvl C (k v) Q s) : W Name U Lvl C (Prog.lift (.load C.R.r10 r hl) >>= k) Q s := W.load10 (hk _)

/-- A part and then the rest, the rest set aside while the part runs. -/
theorem W.enter {α : Type} {p : Prog (TpuEff nD τ sig Val Λ .tc) α} {k : α → Prog (TpuEff nD τ sig Val Λ .tc) β} {Q : β → St Val → Prop}
    (h : ∀ Q' : α → St Val → Prop, (∀ a s', W Name U Lvl C (k a) Q s' → Q' a s') → W Name U Lvl C p Q' s) : W Name U Lvl C (p >>= k) Q s :=
  W.seq (h _ fun _ _ h => h)

/-- The end of a part. -/
theorem W.leave {α : Type} {a : α} {k : α → Prog (TpuEff nD τ sig Val Λ .tc) β} {Q : β → St Val → Prop} {Q' : α → St Val → Prop}
    (hQ : ∀ a s', W Name U Lvl C (k a) Q s' → Q' a s') (h : W Name U Lvl C (k a) Q s) : W Name U Lvl C (Pure.pure a) Q' s := W.pure (hQ _ _ h)

/-! Loads and stores at a state given by its components; what a store leaves is named. -/

variable {o : SQ.Idx → Val .bf16} {sb : SBuf.Idx → Val .f32} {pb : SBuf.Idx → Val .bf16} {m l a : SRow.Idx → Val .f32} {acc : SAcc.Idx → Val .f32}

theorem W.read15 {r : LoadRect SBuf} {hl : C.R.r15.view.LoadsAt r} {k : (r.shape.Idx → Val _) → Prog (TpuEff nD τ sig Val Λ .tc) β} {Q : β → St Val → Prop}
    (hk : W Name U Lvl C (k fun j => sb (r.idx j)) Q ⟨o, sb, pb, m, l, a, acc⟩) : W Name U Lvl C (Prog.lift (.load C.R.r15 r hl) >>= k) Q ⟨o, sb, pb, m, l, a, acc⟩ := W.load15 hk

theorem W.read16 {r : LoadRect SBuf} {hl : C.R.r16.view.LoadsAt r} {k : (r.shape.Idx → Val _) → Prog (TpuEff nD τ sig Val Λ .tc) β} {Q : β → St Val → Prop}
    (hk : W Name U Lvl C (k fun j => pb (r.idx j)) Q ⟨o, sb, pb, m, l, a, acc⟩) : W Name U Lvl C (Prog.lift (.load C.R.r16 r hl) >>= k) Q ⟨o, sb, pb, m, l, a, acc⟩ := W.load16 hk

theorem W.read17 {r : LoadRect SRow} {hl : C.R.r17.view.LoadsAt r} {k : (r.shape.Idx → Val _) → Prog (TpuEff nD τ sig Val Λ .tc) β} {Q : β → St Val → Prop}
    (hk : W Name U Lvl C (k fun j => m (r.idx j)) Q ⟨o, sb, pb, m, l, a, acc⟩) : W Name U Lvl C (Prog.lift (.load C.R.r17 r hl) >>= k) Q ⟨o, sb, pb, m, l, a, acc⟩ := W.load17 hk

theorem W.read18 {r : LoadRect SRow} {hl : C.R.r18.view.LoadsAt r} {k : (r.shape.Idx → Val _) → Prog (TpuEff nD τ sig Val Λ .tc) β} {Q : β → St Val → Prop}
    (hk : W Name U Lvl C (k fun j => l (r.idx j)) Q ⟨o, sb, pb, m, l, a, acc⟩) : W Name U Lvl C (Prog.lift (.load C.R.r18 r hl) >>= k) Q ⟨o, sb, pb, m, l, a, acc⟩ := W.load18 hk

theorem W.read19 {r : LoadRect SRow} {hl : C.R.r19.view.LoadsAt r} {k : (r.shape.Idx → Val _) → Prog (TpuEff nD τ sig Val Λ .tc) β} {Q : β → St Val → Prop}
    (hk : W Name U Lvl C (k fun j => a (r.idx j)) Q ⟨o, sb, pb, m, l, a, acc⟩) : W Name U Lvl C (Prog.lift (.load C.R.r19 r hl) >>= k) Q ⟨o, sb, pb, m, l, a, acc⟩ := W.load19 hk

theorem W.read20 {r : LoadRect SAcc} {hl : C.R.r20.view.LoadsAt r} {k : (r.shape.Idx → Val _) → Prog (TpuEff nD τ sig Val Λ .tc) β} {Q : β → St Val → Prop}
    (hk : W Name U Lvl C (k fun j => acc (r.idx j)) Q ⟨o, sb, pb, m, l, a, acc⟩) : W Name U Lvl C (Prog.lift (.load C.R.r20 r hl) >>= k) Q ⟨o, sb, pb, m, l, a, acc⟩ := W.load20 hk

theorem W.name11 {r : Rect SQ} {w : r.shape.Idx → Val _} {hx : (C.R.r11.access r).Stores Finset.univ} {hm}
    {k : PUnit → Prog (TpuEff nD τ sig Val Λ .tc) β} {Q : β → St Val → Prop} (hk : ∀ o', o' = r.overlay o w → W Name U Lvl C (k ⟨⟩) Q ⟨o', sb, pb, m, l, a, acc⟩) :
    W Name U Lvl C (Prog.lift (.store C.R.r11 r w Finset.univ hx hm) >>= k) Q ⟨o, sb, pb, m, l, a, acc⟩ := W.store11 (hk _ rfl)

theorem W.name15 {r : Rect SBuf} {w : r.shape.Idx → Val _} {hx : (C.R.r15.access r).Stores Finset.univ} {hm}
    {k : PUnit → Prog (TpuEff nD τ sig Val Λ .tc) β} {Q : β → St Val → Prop} (hk : ∀ sb', sb' = r.overlay sb w → W Name U Lvl C (k ⟨⟩) Q ⟨o, sb', pb, m, l, a, acc⟩) :
    W Name U Lvl C (Prog.lift (.store C.R.r15 r w Finset.univ hx hm) >>= k) Q ⟨o, sb, pb, m, l, a, acc⟩ := W.store15 (hk _ rfl)

theorem W.name16 {r : Rect SBuf} {w : r.shape.Idx → Val _} {hx : (C.R.r16.access r).Stores Finset.univ} {hm}
    {k : PUnit → Prog (TpuEff nD τ sig Val Λ .tc) β} {Q : β → St Val → Prop} (hk : ∀ pb', pb' = r.overlay pb w → W Name U Lvl C (k ⟨⟩) Q ⟨o, sb, pb', m, l, a, acc⟩) :
    W Name U Lvl C (Prog.lift (.store C.R.r16 r w Finset.univ hx hm) >>= k) Q ⟨o, sb, pb, m, l, a, acc⟩ := W.store16 (hk _ rfl)

theorem W.name17 {r : Rect SRow} {w : r.shape.Idx → Val _} {hx : (C.R.r17.access r).Stores Finset.univ} {hm}
    {k : PUnit → Prog (TpuEff nD τ sig Val Λ .tc) β} {Q : β → St Val → Prop} (hk : ∀ m', m' = r.overlay m w → W Name U Lvl C (k ⟨⟩) Q ⟨o, sb, pb, m', l, a, acc⟩) :
    W Name U Lvl C (Prog.lift (.store C.R.r17 r w Finset.univ hx hm) >>= k) Q ⟨o, sb, pb, m, l, a, acc⟩ := W.store17 (hk _ rfl)

theorem W.name18 {r : Rect SRow} {w : r.shape.Idx → Val _} {hx : (C.R.r18.access r).Stores Finset.univ} {hm}
    {k : PUnit → Prog (TpuEff nD τ sig Val Λ .tc) β} {Q : β → St Val → Prop} (hk : ∀ l', l' = r.overlay l w → W Name U Lvl C (k ⟨⟩) Q ⟨o, sb, pb, m, l', a, acc⟩) :
    W Name U Lvl C (Prog.lift (.store C.R.r18 r w Finset.univ hx hm) >>= k) Q ⟨o, sb, pb, m, l, a, acc⟩ := W.store18 (hk _ rfl)

theorem W.name19 {r : Rect SRow} {w : r.shape.Idx → Val _} {hx : (C.R.r19.access r).Stores Finset.univ} {hm}
    {k : PUnit → Prog (TpuEff nD τ sig Val Λ .tc) β} {Q : β → St Val → Prop} (hk : ∀ a', a' = r.overlay a w → W Name U Lvl C (k ⟨⟩) Q ⟨o, sb, pb, m, l, a', acc⟩) :
    W Name U Lvl C (Prog.lift (.store C.R.r19 r w Finset.univ hx hm) >>= k) Q ⟨o, sb, pb, m, l, a, acc⟩ := W.store19 (hk _ rfl)

theorem W.name20 {r : Rect SAcc} {w : r.shape.Idx → Val _} {hx : (C.R.r20.access r).Stores Finset.univ} {hm}
    {k : PUnit → Prog (TpuEff nD τ sig Val Λ .tc) β} {Q : β → St Val → Prop} (hk : ∀ acc', acc' = r.overlay acc w → W Name U Lvl C (k ⟨⟩) Q ⟨o, sb, pb, m, l, a, acc'⟩) :
    W Name U Lvl C (Prog.lift (.store C.R.r20 r w Finset.univ hx hm) >>= k) Q ⟨o, sb, pb, m, l, a, acc⟩ := W.store20 (hk _ rfl)

/-- The store that ends a stage: what the stage leaves is all that is kept of it. -/
theorem W.cut17 {r : Rect SRow} {w : r.shape.Idx → Val _} {hx : (C.R.r17.access r).Stores Finset.univ} {hm}
    {k : PUnit → Prog (TpuEff nD τ sig Val Λ .tc) β} {Q : β → St Val → Prop} (P : St Val → Prop)
    (h : ∀ m', m' = r.overlay m w → P ⟨o, sb, pb, m', l, a, acc⟩)
    (hk : ∀ o sb pb m l a acc, P ⟨o, sb, pb, m, l, a, acc⟩ → W Name U Lvl C (k ⟨⟩) Q ⟨o, sb, pb, m, l, a, acc⟩) :
    W Name U Lvl C (Prog.lift (.store C.R.r17 r w Finset.univ hx hm) >>= k) Q ⟨o, sb, pb, m, l, a, acc⟩ := W.store17 (hk _ _ _ _ _ _ _ (h _ rfl))

end Mixers

namespace Cert.KernelIdeal.FoxV

open Cert.KernelIdeal Cert.KernelIdeal.Gen Mixers

/-- The end of a stage, after `H` held at the end of the one before it. -/
theorem cut {Ix : Type} [DecidableEq Ix] {Name : Type} [DecidableEq Name] {U : Type} [URA U] {Lvl : Type} [Preorder Lvl]
    {C : Ctx nD τ sig (Elt Ideal) (Λ₀ Ideal) Ix} {β : Type} {n c : ℕ} {cur nxt : Fin 2} {s : St (Elt Ideal)} {o : SQ.Idx → Elt Ideal .bf16} {sb : SBuf.Idx → Elt Ideal .f32}
    {pb : SBuf.Idx → Elt Ideal .bf16} {m l a : SRow.Idx → Elt Ideal .f32} {acc : SAcc.Idx → Elt Ideal .f32}
    (_ : At C.R n c cur nxt s) {r : Rect SRow} {w : r.shape.Idx → Elt Ideal _} {hx : (C.R.r17.access r).Stores Finset.univ} {hm}
    {k : PUnit → Prog (TpuEff nD τ sig (Elt Ideal) (Λ₀ Ideal) .tc) β} {Q : β → St (Elt Ideal) → Prop}
    (h : ∀ m', m' = r.overlay m w → At C.R n (c + 1) nxt cur ⟨o, sb, pb, m', l, a, acc⟩)
    (hk : ∀ o sb pb m l a acc, At C.R n (c + 1) nxt cur ⟨o, sb, pb, m, l, a, acc⟩ → W Name U Lvl C (k ⟨⟩) Q ⟨o, sb, pb, m, l, a, acc⟩) :
    W Name U Lvl C (Prog.lift (.store C.R.r17 r w Finset.univ hx hm) >>= k) Q ⟨o, sb, pb, m, l, a, acc⟩ := W.cut17 _ h hk

/-- Four chunks a trip. -/
theorem trips_eq : ∀ i : grid0.Coords, (k0_t1_loop i).trips = (i 1).val / 4 := by decide +kernel

theorem trips2_eq : ∀ i : grid0.Coords, (k0_t2_loop i).trips = 0 := by decide +kernel

theorem trip_lt (i : grid0.Coords) (tr : Fin (k0_t1_loop i).trips) : tr.val < 3 := Nat.lt_of_lt_of_le tr.isLt (k0_t1_abs i).2.1

/-- A stage of a trip: the constant its offsets are computed from, and its chunk. -/
def Stage (t : ℕ) (b : BitVec 32) (c : ℕ) : Prop := t < 3 ∧ ∃ r : Fin 4, b = BitVec.ofNat 32 r.val ∧ c = 4 * t + r.val

theorem lag_bits : ∀ t : Fin 3, ∀ r : Fin 4, (Scalar.indexCast (Scalar.muli (Scalar.maxsi (Scalar.subi (Scalar.addi (Scalar.muli 4#32 (Scf.iv 0#32 1#32 t.val))
    (BitVec.ofNat 32 r.val)) 1#32) 0#32) 256#32)).toNat = 256 * (4 * t.val + r.val - 1) := by decide +kernel

theorem next_bits : ∀ t : Fin 3, ∀ r : Fin 4, (Scalar.indexCast (Scalar.muli (Scalar.addi (Scalar.addi (Scalar.muli 4#32 (Scf.iv 0#32 1#32 t.val))
    (BitVec.ofNat 32 r.val)) 1#32) 256#32)).toNat = 256 * (4 * t.val + r.val + 1) := by decide +kernel

theorem trip_le (i : grid0.Coords) (tr : Fin (k0_t1_loop i).trips) : 4 * tr.val + 4 ≤ (i 1).val := by
  have h := Nat.lt_of_lt_of_eq tr.isLt (trips_eq i)
  omega

section Offsets
variable {i : grid0.Coords} {tr : Fin (k0_t1_loop i).trips} {b : BitVec 32} {c : ℕ} (h : Stage tr.val b c)
include h

theorem off2_eq : k0_off2 i tr b = ![0, 0, 256 * (c - 1)] := by
  obtain ⟨ht, r, rfl, rfl⟩ := h
  exact congrArg (fun x => ![0, 0, x]) (lag_bits ⟨tr.val, ht⟩ r)

theorem off3_eq : k0_off3 i tr b = ![0, 128, 256 * (c - 1)] := by
  obtain ⟨ht, r, rfl, rfl⟩ := h
  exact congrArg (fun x => ![0, 128, x]) (lag_bits ⟨tr.val, ht⟩ r)

theorem off4_eq : k0_off4 i tr b = ![0, 256, 256 * (c - 1)] := by
  obtain ⟨ht, r, rfl, rfl⟩ := h
  exact congrArg (fun x => ![0, 256, x]) (lag_bits ⟨tr.val, ht⟩ r)

theorem off5_eq : k0_off5 i tr b = ![0, 384, 256 * (c - 1)] := by
  obtain ⟨ht, r, rfl, rfl⟩ := h
  exact congrArg (fun x => ![0, 384, x]) (lag_bits ⟨tr.val, ht⟩ r)

theorem off6_eq : k0_off6 i tr b = ![0, 256 * (c + 1), 0] := by
  obtain ⟨ht, r, rfl, rfl⟩ := h
  exact congrArg (fun x => ![0, x, 0]) (next_bits ⟨tr.val, ht⟩ r)

theorem off7_eq : k0_off7 i tr b = ![0, 256 * (c + 1), 8] := by
  obtain ⟨ht, r, rfl, rfl⟩ := h
  exact congrArg (fun x => ![0, x, 8]) (next_bits ⟨tr.val, ht⟩ r)

theorem off8_eq : k0_off8 i tr b = ![0, 256 * (c + 1), 128] := by
  obtain ⟨ht, r, rfl, rfl⟩ := h
  exact congrArg (fun x => ![0, x, 128]) (next_bits ⟨tr.val, ht⟩ r)

theorem off9_eq : k0_off9 i tr b = ![0, 256 * (c + 1), 9] := by
  obtain ⟨ht, r, rfl, rfl⟩ := h
  exact congrArg (fun x => ![0, x, 9]) (next_bits ⟨tr.val, ht⟩ r)

theorem off10_eq : k0_off10 i tr b = ![0, 256 * (c + 1), 256] := by
  obtain ⟨ht, r, rfl, rfl⟩ := h
  exact congrArg (fun x => ![0, x, 256]) (next_bits ⟨tr.val, ht⟩ r)

theorem off11_eq : k0_off11 i tr b = ![0, 256 * (c + 1), 10] := by
  obtain ⟨ht, r, rfl, rfl⟩ := h
  exact congrArg (fun x => ![0, x, 10]) (next_bits ⟨tr.val, ht⟩ r)

theorem off12_eq : k0_off12 i tr b = ![0, 256 * (c + 1), 384] := by
  obtain ⟨ht, r, rfl, rfl⟩ := h
  exact congrArg (fun x => ![0, x, 384]) (next_bits ⟨tr.val, ht⟩ r)

theorem off13_eq : k0_off13 i tr b = ![0, 256 * (c + 1), 11] := by
  obtain ⟨ht, r, rfl, rfl⟩ := h
  exact congrArg (fun x => ![0, x, 11]) (next_bits ⟨tr.val, ht⟩ r)

end Offsets

end Cert.KernelIdeal.FoxV
-- ==== Proof.FoxTrip.lean ====
/-
  A trip of the first attention's key loop is four of its stages.
-/
module

public import proofs.«01_k».proof.Proof.FoxRules

@[expose] public section

set_option maxRecDepth 16384

noncomputable section

open Idealize.ShloMosaic Idealize.ShloMosaic.TcCoe Idealize.SL.Sem Idealize.SL.RA

namespace Cert.KernelIdeal.FoxV

open Cert.KernelIdeal Cert.KernelIdeal.Gen Mixers

variable {Ix : Type} [DecidableEq Ix] {Name : Type} [DecidableEq Name] {U : Type} [URA U] {Lvl : Type} [Preorder Lvl]
variable {C : Ctx nD τ sig (Elt Ideal) (Λ₀ Ideal) Ix}

set_option maxHeartbeats 1000000 in
/-- A trip over four chunks. -/
theorem trip (i harg2 harg3 harg4 harg5 harg6 harg7 harg8 harg9 harg10 harg11 harg12 harg13 harg14 harg15 harg16 harg17 harg18 harg19 harg20 _arg1 _v34 _v40 _v46 _v52 _v58 _v64 _v70 _v76 _v82 _v175 tr cy) (hr : Real_ C.R) {s : St (Elt Ideal)}
    (H : At C.R (i 1).val (4 * tr.val) 0 1 s) :
    W Name U Lvl C (k0_t1_body (F := Ideal) i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v34 _v40 _v46 _v52 _v58 _v64 _v70 _v76 _v82 _v175 tr cy)
      (fun _ s' => At C.R (i 1).val (4 * (tr.val + 1)) 0 1 s') s := by
  have ht : tr.val < 3 := trip_lt i tr
  have hn : 4 * tr.val + 4 ≤ (i 1).val := trip_le i tr
  have hn' : (i 1).val < 16 := (i 1).isLt
  have L0 : Stage tr.val 0#32 (4 * tr.val) := ⟨ht, 0, rfl, rfl⟩
  have L1 : Stage tr.val 1#32 (4 * tr.val + 1) := ⟨ht, 1, rfl, rfl⟩
  have L2 : Stage tr.val 2#32 (4 * tr.val + 1 + 1) := ⟨ht, 2, rfl, rfl⟩
  have L3 : Stage tr.val 3#32 (4 * tr.val + 1 + 1 + 1) := ⟨ht, 3, rfl, rfl⟩
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  delta k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel
  beta_reduce
  obtain ⟨o, sb, pb, m, l, a, acc⟩ := s
  iterate 4
    repeat' first
      | with_reducible refine W.load4 ?_
      | with_reducible refine W.load3 ?_
      | with_reducible refine W.load2 ?_
      | with_reducible refine W.load5 ?_
      | with_reducible refine W.read19 ?_
      | with_reducible refine W.read20 ?_
      | with_reducible refine W.read16 ?_
      | with_reducible refine W.read15 ?_
      | with_reducible refine W.read17 ?_
      | with_reducible refine W.read18 ?_
      | with_reducible refine W.skip7 fun _ => ?_
      | with_reducible refine W.skip6 fun _ => ?_
      | with_reducible refine W.skip8 fun _ => ?_
      | with_reducible refine W.skip9 fun _ => ?_
      | with_reducible refine W.skip10 fun _ => ?_
      | with_reducible refine W.load14 fun _ => ?_
      | with_reducible refine W.load13 fun _ => ?_
      | with_reducible refine W.load12 fun _ => ?_
      | with_reducible refine W.store14 ?_
      | with_reducible refine W.store13 ?_
      | with_reducible refine W.store12 ?_
      | with_reducible refine W.name20 fun acc' hacc => ?_
      | with_reducible refine W.name15 fun sb' hsb => ?_
      | with_reducible refine W.name18 fun l' hl => ?_
      | with_reducible refine W.name16 fun pb' hpb => ?_
      | with_reducible refine W.name19 fun a' ha => ?_
      | (fail_if_success with_reducible refine W.name17 fun _ _ => ?_
         first
           | with_reducible refine W.enter fun Q' hQ => ?_
           | (with_reducible refine W.leave hQ ?_; clear hQ)
           | with_reducible refine W.tail (p := Prog.lift _) ?_
           | dsimp only)
    with_reducible refine cut H (fun m' hm => ?_) fun o sb pb m l a acc H => ?_
    · refine step (acc := acc') (sb := sb') H hr (by omega) ?_ ?_ rfl rfl hm hpb ha hl rfl rfl
      · subst hacc
        first
          | exact acc_stage (by omega) rfl rfl rfl (off2_eq L0) (off3_eq L0) (off4_eq L0) (off5_eq L0)
          | exact acc_stage (by omega) rfl rfl rfl (off2_eq L1) (off3_eq L1) (off4_eq L1) (off5_eq L1)
          | exact acc_stage (by omega) rfl rfl rfl (off2_eq L2) (off3_eq L2) (off4_eq L2) (off5_eq L2)
          | exact acc_stage (by omega) rfl rfl rfl (off2_eq L3) (off3_eq L3) (off4_eq L3) (off5_eq L3)
      · subst hsb
        first
          | exact next_stage (by omega) (by decide) _ rfl (off6_eq L0) (off8_eq L0) (off10_eq L0) (off12_eq L0) rfl rfl rfl rfl (off7_eq L0) (off9_eq L0) (off11_eq L0) (off13_eq L0)
          | exact next_stage (by omega) (by decide) _ rfl (off6_eq L1) (off8_eq L1) (off10_eq L1) (off12_eq L1) rfl rfl rfl rfl (off7_eq L1) (off9_eq L1) (off11_eq L1) (off13_eq L1)
          | exact next_stage (by omega) (by decide) _ rfl (off6_eq L2) (off8_eq L2) (off10_eq L2) (off12_eq L2) rfl rfl rfl rfl (off7_eq L2) (off9_eq L2) (off11_eq L2) (off13_eq L2)
          | exact next_stage (by omega) (by decide) _ rfl (off6_eq L3) (off8_eq L3) (off10_eq L3) (off12_eq L3) rfl rfl rfl rfl (off7_eq L3) (off9_eq L3) (off11_eq L3) (off13_eq L3)
    clear hacc hsb hpb ha hl
  exact W.pure H

end Cert.KernelIdeal.FoxV
-- ==== Proof.FoxTail.lean ====
/-
  The first attention's last stages: the chunks left over after its key loop, the last of them masked, and the last
  accumulation.
-/
module

public import proofs.«01_k».proof.Proof.FoxTrip

@[expose] public section

set_option maxRecDepth 16384

noncomputable section

open Idealize.ShloMosaic Idealize.ShloMosaic.TcCoe Idealize.SL.Sem Idealize.SL.RA

namespace Cert.KernelIdeal.FoxV

open Cert.KernelIdeal Cert.KernelIdeal.Gen Mixers

variable {Ix : Type} [DecidableEq Ix] {Name : Type} [DecidableEq Name] {U : Type} [URA U] {Lvl : Type} [Preorder Lvl]
variable {C : Ctx nD τ sig (Elt Ideal) (Λ₀ Ideal) Ix} {β : Type} {n c : ℕ} {cur nxt : Fin 2} {s s' : St (Elt Ideal)}
variable {R : Refs sig (Elt Ideal)}

/-- After the masked stage. -/
def Last (R : Refs sig (Elt Ideal)) (n : ℕ) (cur : Fin 2) (s : St (Elt Ideal)) : Prop :=
  ∀ h q, Fox.Inv (score R n h q) (value R h) (n + 1) (s.m (ix2 0 (col h q))) (s.l (ix2 0 (col h q))) (s.a (ix2 0 (col h q)))
    (fun k => s.pb (ix3 cur k (col h q))) (fun d => s.acc (ix2 d (col h q)))

/-- After the last accumulation: the sums of the weights, and of the weighted values. -/
def Summed (R : Refs sig (Elt Ideal)) (n : ℕ) (s : St (Elt Ideal)) : Prop :=
  ∀ h q, ∃ M : ℝ, s.l (ix2 0 (col h q)) = ∑ c' ∈ Finset.range (n + 1), ∑ k, (Fox.wt (score R n h q c' k) M : EReal) ∧
    ∀ d, s.acc (ix2 d (col h q)) = ∑ c' ∈ Finset.range (n + 1), ∑ k, value R h d c' k * (Fox.wt (score R n h q c' k) M : EReal)

theorem finish {acc : SAcc.Idx → EReal} (H : Last R n cur s) (hcn : c = n) (ha : Acc R (c + 1) cur s acc)
    (hl : s'.l = s.l) (hacc : s'.acc = acc) : Summed R n s' := by
  subst hcn
  intro h q
  obtain ⟨M, h1, h2⟩ := Fox.Inv.last (H h q)
  exact ⟨M, (congrFun hl _).trans h1, fun d => ((congrFun hacc _).trans (ha h q d)).trans (h2 d)⟩

/-- The end of the masked stage. -/
theorem cut_last {o : SQ.Idx → Elt Ideal .bf16} {sb : SBuf.Idx → Elt Ideal .f32}
    {pb : SBuf.Idx → Elt Ideal .bf16} {m l a : SRow.Idx → Elt Ideal .f32} {acc : SAcc.Idx → Elt Ideal .f32}
    (_ : At C.R n c cur nxt s) {r : Rect SRow} {w : r.shape.Idx → Elt Ideal _} {hx : (C.R.r17.access r).Stores Finset.univ} {hm}
    {k : PUnit → Prog (TpuEff nD τ sig (Elt Ideal) (Λ₀ Ideal) .tc) β} {Q : β → St (Elt Ideal) → Prop}
    (h : ∀ m', m' = r.overlay m w → Last C.R n cur ⟨o, sb, pb, m', l, a, acc⟩)
    (hk : ∀ o sb pb m l a acc, Last C.R n cur ⟨o, sb, pb, m, l, a, acc⟩ → W Name U Lvl C (k ⟨⟩) Q ⟨o, sb, pb, m, l, a, acc⟩) :
    W Name U Lvl C (Prog.lift (.store C.R.r17 r w Finset.univ hx hm) >>= k) Q ⟨o, sb, pb, m, l, a, acc⟩ := W.cut17 _ h hk

/-- The state the masked stage starts from, its chunk being the last. -/
theorem At.here (H : At R n c cur nxt s) (hcn : c = n) : At R n n cur nxt s := hcn ▸ H

/-- What part 184 leaves: the sums, the first head's output, and the second head's quotient. -/
def Out0 (R : Refs sig (Elt Ideal)) (n : ℕ) (v : FVec Ideal S256x128 .f32) (s : St (Elt Ideal)) : Prop :=
  Summed R n s ∧ ∃ (o : SQ.Idx → Elt Ideal .bf16) (i1 : _) (i2 : _) (i3 : _) (i4 : _) (i5 : _), s.o = st (sh := SQ) (α := Elt Ideal .bf16) o ![0, 0, 0] S1x256x128.size i1 (k0_pay758 (F := Ideal) (ld s.acc ![0, 0] S128x256.size i2) (ld s.l ![0, 0] S1x256.size i3)) ∧
    v = k0_pay759 (F := Ideal) (ld s.acc ![0, 256] S128x256.size i4) (ld s.l ![0, 256] S1x256.size i5)

theorem cond1_iff : ∀ i : grid0.Coords, k0_cond1 i = 1#1 ↔ (i 1).val % 4 = 0 := by decide +kernel
theorem cond2_iff : ∀ i : grid0.Coords, k0_cond2 i = 1#1 ↔ (i 1).val % 4 = 1 := by decide +kernel
theorem cond3_iff : ∀ i : grid0.Coords, k0_cond3 i = 1#1 ↔ (i 1).val % 4 = 2 := by decide +kernel
theorem cond4_iff : ∀ i : grid0.Coords, k0_cond4 i = 1#1 ↔ (i 1).val % 4 = 3 := by decide +kernel

set_option maxHeartbeats 8000000 in
/-- The four cases of chunks left over, and the first outputs. -/
theorem part184 (_i harg2 harg3 harg4 harg5 harg6 harg7 harg8 harg9 harg10 harg11 harg12 harg13 harg14 harg15 harg16 harg17 harg18 harg19 harg20 _arg1 _v3 _v34 _v40 _v46 _v52 _v58 _v64 _v70 _v76 _v82 _v203 _v214 _v216) (hr : Real_ C.R) {s : St (Elt Ideal)} (H : At C.R (_i 1).val (4 * ((_i 1).val / 4)) 0 1 s) :
    W Name U Lvl C (k0_part184 (F := Ideal) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v3 _v34 _v40 _v46 _v52 _v58 _v64 _v70 _v76 _v82 k0_pay740 _v203 _v214 _v216) (Out0 C.R (_i 1).val) s := by
  rw [k0_part184_eq_skeleton]
  unfold k0_part184_skel
  have hn' : (_i 1).val < 16 := (_i 1).isLt
  obtain ⟨o, sb, pb, m, l, a, acc⟩ := s
  have hc : (_i 1).val % 4 = 0 ∨ (_i 1).val % 4 = 1 ∨ (_i 1).val % 4 = 2 ∨ (_i 1).val % 4 = 3 := by omega
  rcases hc with hc | hc | hc | hc
  on_goal 1 =>
    simp only [dif_pos ((cond1_iff _i).2 hc), dif_neg (mt (cond2_iff _i).1 (by omega)), dif_neg (mt (cond3_iff _i).1 (by omega)), dif_neg (mt (cond4_iff _i).1 (by omega))]
    simp only [k0_part59_eq_skeleton, k0_part60_eq_skeleton, k0_part61_eq_skeleton, k0_part62_eq_skeleton, k0_part63_eq_skeleton, k0_part64_eq_skeleton]
    delta k0_part59_skel k0_part60_skel k0_part61_skel k0_part62_skel k0_part63_skel k0_part64_skel
    beta_reduce
  on_goal 2 =>
    simp only [dif_neg (mt (cond1_iff _i).1 (by omega)), dif_pos ((cond2_iff _i).2 hc), dif_neg (mt (cond3_iff _i).1 (by omega)), dif_neg (mt (cond4_iff _i).1 (by omega))]
    simp only [k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton]
    delta k0_part65_skel k0_part66_skel k0_part67_skel k0_part68_skel k0_part69_skel k0_part70_skel k0_part71_skel k0_part72_skel k0_part73_skel k0_part74_skel k0_part75_skel k0_part76_skel k0_part77_skel k0_part78_skel
    beta_reduce
  on_goal 3 =>
    simp only [dif_neg (mt (cond1_iff _i).1 (by omega)), dif_neg (mt (cond2_iff _i).1 (by omega)), dif_pos ((cond3_iff _i).2 hc), dif_neg (mt (cond4_iff _i).1 (by omega))]
    simp only [k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton]
    delta k0_part79_skel k0_part80_skel k0_part81_skel k0_part82_skel k0_part83_skel k0_part84_skel k0_part85_skel k0_part86_skel k0_part87_skel k0_part88_skel k0_part89_skel k0_part90_skel k0_part91_skel k0_part92_skel k0_part93_skel k0_part94_skel k0_part95_skel k0_part96_skel k0_part97_skel k0_part98_skel k0_part99_skel
    beta_reduce
  on_goal 4 =>
    simp only [dif_neg (mt (cond1_iff _i).1 (by omega)), dif_neg (mt (cond2_iff _i).1 (by omega)), dif_neg (mt (cond3_iff _i).1 (by omega)), dif_pos ((cond4_iff _i).2 hc), k0_part128_eq_skeleton]
    delta k0_part128_skel
    simp only [k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton]
    delta k0_part100_skel k0_part101_skel k0_part102_skel k0_part103_skel k0_part104_skel k0_part105_skel k0_part106_skel k0_part107_skel k0_part108_skel k0_part109_skel k0_part110_skel k0_part111_skel k0_part112_skel k0_part113_skel k0_part114_skel k0_part115_skel k0_part116_skel k0_part117_skel k0_part118_skel k0_part119_skel k0_part120_skel k0_part121_skel k0_part122_skel k0_part123_skel k0_part124_skel k0_part125_skel k0_part126_skel k0_part127_skel
    beta_reduce
  all_goals
    repeat
      repeat' first
        | with_reducible refine W.load4 ?_
        | with_reducible refine W.load3 ?_
        | with_reducible refine W.load2 ?_
        | with_reducible refine W.load5 ?_
        | with_reducible refine W.load11 ?_
        | with_reducible refine W.read19 ?_
        | with_reducible refine W.read20 ?_
        | with_reducible refine W.read16 ?_
        | with_reducible refine W.read15 ?_
        | with_reducible refine W.read17 ?_
        | with_reducible refine W.read18 ?_
        | with_reducible refine W.skip7 fun _ => ?_
        | with_reducible refine W.skip6 fun _ => ?_
        | with_reducible refine W.skip8 fun _ => ?_
        | with_reducible refine W.skip9 fun _ => ?_
        | with_reducible refine W.skip10 fun _ => ?_
        | with_reducible refine W.load14 fun _ => ?_
        | with_reducible refine W.load13 fun _ => ?_
        | with_reducible refine W.load12 fun _ => ?_
        | with_reducible refine W.store14 ?_
        | with_reducible refine W.store13 ?_
        | with_reducible refine W.store12 ?_
        | with_reducible refine W.name11 fun o' ho => ?_
        | with_reducible refine W.name20 fun acc' hacc => ?_
        | with_reducible refine W.name15 fun sb' hsb => ?_
        | with_reducible refine W.name18 fun l' hl => ?_
        | with_reducible refine W.name16 fun pb' hpb => ?_
        | with_reducible refine W.name19 fun a' ha => ?_
        | (fail_if_success with_reducible refine W.name17 fun _ _ => ?_
           first
             | with_reducible refine W.enter fun Q' hQ => ?_
             | (with_reducible refine W.leave hQ ?_; clear hQ)
             | with_reducible refine W.tail (p := Prog.lift _) ?_
             | dsimp only)
      first
        | with_reducible refine cut H (fun m' hm => ?_) fun o sb pb m l a acc H => ?_
          · have _ := hsb
            refine step (acc := acc') (sb := sb') H hr (by omega) ?_ ?_ rfl rfl hm hpb ha hl rfl rfl
            · subst hacc
              refine acc_stage (by omega) rfl rfl rfl ?_ ?_ ?_ ?_ <;> (clear * - hc; revert hc; revert _i; decide +kernel)
            · subst hsb
              refine next_stage (by omega) (by decide) _ rfl ?_ ?_ ?_ ?_ rfl rfl rfl rfl ?_ ?_ ?_ ?_ <;> (clear * - hc; revert hc; revert _i; decide +kernel)
          clear hacc hsb hpb ha hl
        | with_reducible refine cut_last H (fun m' hm => ?_) fun o sb pb m l a acc H => ?_
          · refine step_last (acc := acc') (H.here (by omega)) hr ?_ rfl rfl hm hpb ha hl rfl
            subst hacc
            refine acc_stage (by omega) rfl rfl rfl ?_ ?_ ?_ ?_ <;> (clear * - hc; revert hc; revert _i; decide +kernel)
          clear hacc hpb ha hl
        | refine W.pure ⟨finish (c := (_i 1).val) H rfl (acc := acc') ?_ rfl rfl, _, _, _, _, _, _, ho, rfl⟩
          subst hacc
          refine acc_stage (by omega) rfl rfl rfl ?_ ?_ ?_ ?_ <;> (clear * - hc; revert hc; revert _i; decide +kernel)

end Cert.KernelIdeal.FoxV
-- ==== Proof.FoxBody.lean ====
/-
  The body leaves the first attention's output: the start of the running softmax, its key loop, its last stages, and the
  four heads' quotients; what comes after keeps them.
-/
module

public import proofs.«01_k».proof.Proof.FoxTail
public import proofs.«01_k».proof.Proof.KernelIdeal.Run

@[expose] public section

set_option maxRecDepth 16384

noncomputable section

open Idealize.ShloMosaic Idealize.ShloMosaic.TcCoe Idealize.SL.Sem Idealize.SL.RA

namespace Cert.KernelIdeal.FoxV

open Cert.KernelIdeal Cert.KernelIdeal.Gen Cert.KernelIdeal.Body Mixers

/-- What the body leaves in the first output's block: in every column a quotient of the two sums. -/
def Fine (R : Refs sig (Elt Ideal)) (n : ℕ) (o : SQ.Idx → Elt Ideal .bf16) : Prop :=
  ∀ h q, ∃ M : ℝ, ∀ d, o (ix3 0 q (lane h d)) =
    Ideal.div (∑ c' ∈ Finset.range (n + 1), ∑ k, value R h d c' k * (Fox.wt (score R n h q c' k) M : EReal))
      (∑ c' ∈ Finset.range (n + 1), ∑ k, (Fox.wt (score R n h q c' k) M : EReal))

section Windows

theorem st_rows {inb} (X : SRow.Idx → Elt Ideal .f32) (w) (l : Fin 1024) : st X ![0, 0] S8x1024.size inb w (ix2 0 l) = w (ix2 0 l) :=
  hit _ X w _ (unit_ix2 _ _ rfl _ _ _ rfl (Nat.zero_add _))

theorem ld_rows (X : SRow.Idx → Elt Ideal .f32) (h : Fin 4) (q : Fin 256) {o : ℕ} {inb} (ho : o = 256 * h.val) :
    ld X ![0, o] S1x256.size inb (ix2 0 q) = X (ix2 0 (col h q)) :=
  congrArg X (unit_ix2 _ _ rfl _ _ _ rfl (by subst ho; rfl))

theorem ld_accs (X : SAcc.Idx → Elt Ideal .f32) (h : Fin 4) (d : Fin 128) (q : Fin 256) {o : ℕ} {inb} (ho : o = 256 * h.val) :
    ld X ![0, o] S128x256.size inb (ix2 d q) = X (ix2 d (col h q)) :=
  congrArg X (unit_ix2 _ _ rfl _ _ _ (Nat.zero_add _) (by subst ho; rfl))

theorem st_out {o : ℕ} {inb} (X : SQ.Idx → Elt Ideal .bf16) (w) (h : Fin 4) (q : Fin 256) (d : Fin 128) (ho : o = 128 * h.val) :
    st X ![0, 0, o] S1x256x128.size inb w (ix3 0 q (lane h d)) = w (ix3 0 q d) :=
  hit _ X w _ (unit_ix3 _ _ _ rfl _ _ _ _ rfl (Nat.zero_add _) (by subst ho; rfl))

theorem st_out_ne {o : ℕ} {inb} (X : SQ.Idx → Elt Ideal .bf16) (w) (h g : Fin 4) (hg : h ≠ g) (q : Fin 256) (d : Fin 128) (ho : o = 128 * g.val) :
    st X ![0, 0, o] S1x256x128.size inb w (ix3 0 q (lane h d)) = X (ix3 0 q (lane h d)) :=
  miss _ X w fun j hj => hg (Fin.ext (by
    have h0 := congrArg (fun y : SQ.Idx => (y 2).val) hj
    have h1 : o + 1 * (j 2).val = 128 * h.val + d.val := h0
    have h2 : (j 2).val < 128 := (j 2).isLt
    have h3 := d.isLt
    omega))

end Windows

theorem fill_m (l : Fin 1024) (r : Fin 8) : k0_pay742 (F := Ideal) k0_pay741 (ix2 r l) = ⊥ := by
  pointwise [k0_pay742, k0_pay741]
  rfl
theorem fill_l (l : Fin 1024) (r : Fin 8) : k0_pay743 (F := Ideal) (ix2 r l) = 0 := by
  pointwise [k0_pay743]
theorem fill_a (l : Fin 1024) (r : Fin 8) : k0_pay744 (F := Ideal) (ix2 r l) = 1 := by
  pointwise [k0_pay744]
theorem fill_acc (l : Fin 1024) (d : Fin 128) : k0_pay745 (F := Ideal) (ix2 d l) = 0 := by
  pointwise [k0_pay745]
theorem fill_p (l : Fin 1024) (k : Fin 256) : k0_pay746 (F := Ideal) (ix3 0 k l) = 0 := by
  pointwise [k0_pay746]

/-- The four heads' quotients, stored one after another. -/
theorem outputs {R : Refs sig (Elt Ideal)} {n : ℕ} {s s' : St (Elt Ideal)} {v} (H : Out0 R n v s) {i1 i2 i3 i4 i5 i6 i7}
    (ho : s'.o = st (st (st s.o ![0, 0, 128] S1x256x128.size i1 (k0_pay760 (F := Ideal) v)) ![0, 0, 256] S1x256x128.size i2
        (k0_pay761 (F := Ideal) (ld s.acc ![0, 512] S128x256.size i3) (ld s.l ![0, 512] S1x256.size i4)))
      ![0, 0, 384] S1x256x128.size i5 (k0_pay762 (F := Ideal) (ld s.acc ![0, 768] S128x256.size i6) (ld s.l ![0, 768] S1x256.size i7))) :
    Fine R n s'.o := by
  obtain ⟨hS, o, j1, j2, j3, j4, j5, ho0, rfl⟩ := H
  intro h q
  obtain ⟨M, h1, h2⟩ := hS h q
  refine ⟨M, fun d => ?_⟩
  rw [← h1, ← h2 d]
  refine (congrFun ho _).trans ?_
  clear h1 h2
  have e (h : Fin 4) {i j} : Ideal.div (ld (sh := SAcc) (α := EReal) s.acc ![0, 256 * h.val] S128x256.size i (ix2 d q)) (ld (sh := SRow) (α := EReal) s.l ![0, 256 * h.val] S1x256.size j (ix2 0 q))
      = Ideal.div (s.acc (ix2 d (col h q))) (s.l (ix2 0 (col h q))) := congrArg₂ Ideal.div (ld_accs _ h d q rfl) (ld_rows _ h q rfl)
  match h with
  | 0 => exact (st_out_ne _ _ 0 3 (by decide) q d rfl).trans ((st_out_ne _ _ 0 2 (by decide) q d rfl).trans ((st_out_ne _ _ 0 1 (by decide) q d rfl).trans
      ((congrFun ho0 _).trans ((st_out _ _ 0 q d rfl).trans ((out_at _ _ d q).trans (e 0))))))
  | 1 => exact (st_out_ne _ _ 1 3 (by decide) q d rfl).trans ((st_out_ne _ _ 1 2 (by decide) q d rfl).trans ((st_out _ _ 1 q d rfl).trans ((out_at _ _ d q).trans (e 1))))
  | 2 => exact (st_out_ne _ _ 2 3 (by decide) q d rfl).trans ((st_out _ _ 2 q d rfl).trans ((out_at _ _ d q).trans (e 2)))
  | 3 => exact (st_out _ _ 3 q d rfl).trans ((out_at _ _ d q).trans (e 3))

variable {Ix : Type} [DecidableEq Ix] {Name : Type} [DecidableEq Name] {U : Type} [URA U] {Lvl : Type} [Preorder Lvl]

section
variable {C : Ctx nD τ sig (Elt Ideal) (Λ₀ Ideal) Ix}

set_option maxHeartbeats 1000000 in
/-- The key loop, from the running softmax's start. -/
theorem part183 (_i harg2 harg3 harg4 harg5 harg6 harg7 harg8 harg9 harg10 harg11 harg12 harg13 harg14 harg15 harg16 harg17 harg18 harg19 harg20 _arg1 _v34 _v40 _v46 _v52 _v58 _v64 _v70 _v76 _v82 _v175) (hr : Real_ C.R) {s : St (Elt Ideal)}
    (H : ∀ sb', sb' = st s.sb ![0, 0, 0] S1x256x1024.size inb_S2x256x1024_S1x256x1024_0_0_0 (k0_pay749 (F := Ideal) _v175) → At C.R (_i 1).val 0 0 1 { s with sb := sb' }) :
    W Name U Lvl C (k0_part183 (F := Ideal) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20 _arg1 _v34 _v40 _v46 _v52 _v58 _v64 _v70 _v76 _v82 _v175) (fun _ s' => At C.R (_i 1).val (4 * ((_i 1).val / 4)) 0 1 s') s := by
  rw [k0_part183_eq_skeleton]
  unfold k0_part183_skel
  obtain ⟨o, sb, pb, m, l, a, acc⟩ := s
  dsimp only
  refine W.load15 ?_
  refine W.name15 fun sb' hsb => ?_
  refine W.bind (fun _ s => At C.R (_i 1).val (4 * ((_i 1).val / 4)) 0 1 s) ?_ fun _ s H => ?_
  · refine W.mono (W.for (k0_t1_loop _i) (k0_t1_ok _i) _ _ (fun k _ s => At C.R (_i 1).val (4 * k) 0 1 s) (H sb' hsb) fun k cy s H => trip _ _ _ _ _ _ _ _ _ _ _ _ _ _ _ _ _ _ _ _ _ _ _ _ _ _ _ _ _ _ _ _ _ hr H) fun _ s' h => ?_
    rwa [trips_eq] at h
  refine W.bind (fun _ s => At C.R (_i 1).val (4 * ((_i 1).val / 4)) 0 1 s) ?_ fun _ s H => W.pure H
  refine W.mono (W.for (k0_t2_loop _i) (k0_t2_ok _i) _ _ (fun _ _ s => At C.R (_i 1).val (4 * ((_i 1).val / 4)) 0 1 s) H fun k => ?_) fun _ s' h => h
  exact absurd (Nat.lt_of_lt_of_eq k.isLt (trips2_eq _i)) (Nat.not_lt_zero _)

end

/-- A program that keeps the first output. -/
theorem kept {C : Ctx nD τ sig (Elt Ideal) (Λ₀ Ideal) Ix} {α : Type} {p : Prog (TpuEff nD τ sig (Elt Ideal) (Λ₀ Ideal) .tc) α} {s : St (Elt Ideal)}
    {Q : α → St (Elt Ideal) → Prop} (hk : Keep Name U Lvl true C p) (hQ : ∀ a s', s'.o = s.o → Q a s') : W Name U Lvl C p Q s :=
  W.mono (hk s) fun a s' h => hQ a s' (h rfl)

/-- The first chunk's scores, computed before the loop. -/
theorem first_scores (k1 q1 b1 k2 q2 b2 k3 q3 b3 k4 q4 b4) :
    k0_pay749 (F := Ideal) (k0_pay748 (k0_pay747 k1 q1 b1) k2 q2 b2 k3 q3 b3 k4 q4 b4)
      = k0_pay18 (k0_pay15 k1 q1 b1) (k0_pay16 k2 q2 b2) (k0_pay17 k3 q3) b3 k4 q4 b4 := rfl

/-- The running softmax's start. -/
theorem start {R : Refs sig (Elt Ideal)} {n : ℕ} {o : SQ.Idx → Elt Ideal .bf16} {sb : SBuf.Idx → Elt Ideal .f32}
    {pb pb₀ : SBuf.Idx → Elt Ideal .bf16} {m l a m₀ l₀ a₀ : SRow.Idx → Elt Ideal .f32} {acc acc₀ : SAcc.Idx → Elt Ideal .f32} {i1 i2 i3 i4 i5}
    (hs : ∀ h q k, sb (ix3 0 k (col h q)) = raw R h q 0 k)
    (hm : m = st m₀ ![0, 0] S8x1024.size i1 (k0_pay742 (F := Ideal) k0_pay741)) (hl : l = st l₀ ![0, 0] S8x1024.size i2 (k0_pay743 (F := Ideal)))
    (ha : a = st a₀ ![0, 0] S8x1024.size i3 (k0_pay744 (F := Ideal))) (hacc : acc = st acc₀ ![0, 0] S128x1024.size i4 (k0_pay745 (F := Ideal)))
    (hp : pb = st pb₀ ![1, 0, 0] S1x256x1024.size i5 (k0_pay746 (F := Ideal))) : At R n 0 0 1 ⟨o, sb, pb, m, l, a, acc⟩ := by
  refine ⟨fun h q => ?_, hs⟩
  have e1 : m (ix2 0 (col h q)) = ⊥ := (congrFun hm _).trans ((st_rows _ _ _).trans (fill_m _ _))
  have e2 : l (ix2 0 (col h q)) = 0 := (congrFun hl _).trans ((st_rows _ _ _).trans (fill_l _ _))
  have e3 : a (ix2 0 (col h q)) = 1 := (congrFun ha _).trans ((st_rows _ _ _).trans (fill_a _ _))
  have e4 : (fun d => acc (ix2 d (col h q))) = fun _ => (0 : EReal) := funext fun d => (congrFun hacc _).trans ((st_acc _ _ _ _).trans (fill_acc _ _))
  have e5 : (fun k => pb (ix3 1 k (col h q))) = fun _ => (0 : EReal) := funext fun k => (congrFun hp _).trans ((st_buf _ _ 1 rfl _ _).trans (fill_p _ _))
  dsimp only
  rw [e1, e2, e3, e4, e5]
  exact Fox.Inv.start _ _

variable {c : Dev nD} {R : Refs sig (Elt Ideal)} {Γ : PendingWaitsCtx sig Ix}

set_option maxHeartbeats 4000000 in
/-- The body, its first output's block. -/
theorem body_of {C : Ctx nD τ sig (Elt Ideal) (Λ₀ Ideal) Ix} (hC : C = wctx c R none Γ) (_i harg2 harg3 harg4 harg5 harg6 harg7 harg8 harg9 harg10 harg11 harg12 harg13 harg14 harg15 harg16 harg17 harg18 harg19 harg20) (hr : Real_ C.R) (s : St (Elt Ideal)) :
    W Name U Lvl C (cc0_token_mixers (F := Ideal) _i C.R.r2 harg2 C.R.r3 harg3 C.R.r4 harg4 C.R.r5 harg5 C.R.r6 harg6 C.R.r7 harg7 C.R.r8 harg8 C.R.r9 harg9 C.R.r10 harg10 C.R.r11 harg11 C.R.r12 harg12 C.R.r13 harg13 C.R.r14 harg14 C.R.r15 harg15 C.R.r16 harg16 C.R.r17 harg17 C.R.r18 harg18 C.R.r19 harg19 C.R.r20 harg20) (fun _ s' => Fine C.R (_i 1).val s'.o) s := by
  rw [cc0_token_mixers_eq_skeleton]
  unfold cc0_token_mixers_skel
  rw [k0_part190_eq_skeleton]
  unfold k0_part190_skel
  simp only [k0_part178_eq_skeleton, k0_part179_eq_skeleton, k0_part180_eq_skeleton, k0_part181_eq_skeleton, k0_part182_eq_skeleton, k0_part185_eq_skeleton, k0_part187_eq_skeleton]
  delta k0_part178_skel k0_part179_skel k0_part180_skel k0_part181_skel k0_part182_skel k0_part185_skel k0_part187_skel
  beta_reduce
  obtain ⟨o, sb, pb, m, l, a, acc⟩ := s

  repeat' first
    | with_reducible refine W.load4 ?_
    | with_reducible refine W.load3 ?_
    | with_reducible refine W.load2 ?_
    | with_reducible refine W.load5 ?_
    | with_reducible refine W.load11 ?_
    | with_reducible refine W.read19 ?_
    | with_reducible refine W.read20 ?_
    | with_reducible refine W.read16 ?_
    | with_reducible refine W.read15 ?_
    | with_reducible refine W.read17 ?_
    | with_reducible refine W.read18 ?_
    | with_reducible refine W.skip7 fun _ => ?_
    | with_reducible refine W.skip6 fun _ => ?_
    | with_reducible refine W.skip8 fun _ => ?_
    | with_reducible refine W.skip9 fun _ => ?_
    | with_reducible refine W.skip10 fun _ => ?_
    | with_reducible refine W.load14 fun _ => ?_
    | with_reducible refine W.load13 fun _ => ?_
    | with_reducible refine W.load12 fun _ => ?_
    | with_reducible refine W.store14 ?_
    | with_reducible refine W.store13 ?_
    | with_reducible refine W.store12 ?_
    | with_reducible refine W.name11 fun o' ho => ?_
    | with_reducible refine W.name17 fun m' hm => ?_
    | with_reducible refine W.name20 fun acc' hacc => ?_
    | with_reducible refine W.name15 fun sb' hsb => ?_
    | with_reducible refine W.name18 fun l' hl => ?_
    | with_reducible refine W.name16 fun pb' hpb => ?_
    | with_reducible refine W.name19 fun a' ha => ?_
    | (first
         | with_reducible refine W.enter fun Q' hQ => ?_
         | (with_reducible refine W.leave hQ ?_; clear hQ)
         | with_reducible refine W.tail (p := Prog.lift _) ?_
         | dsimp only)
  refine W.mono (part183 _ _ _ _ _ _ _ _ _ _ _ _ _ _ _ _ _ _ _ _ _ _ _ _ _ _ _ _ _ _ _ hr fun sb' hsb => start ?_ hm hl ha hacc hpb) fun _ s H => ?_
  · intro h q k
    rw [hsb, first_scores]
    exact (next_stage (c := 0) (cur := 1) (nxt := 0) (by decide) (by decide) _ rfl rfl rfl rfl rfl rfl rfl rfl rfl rfl rfl rfl rfl).2 h q k
  clear hm hl ha hacc hpb
  refine hQ _ _ ?_
  clear hQ
  obtain ⟨o, sb, pb, m, l, a, acc⟩ := s
  repeat' first
    | with_reducible refine W.load4 ?_
    | with_reducible refine W.load3 ?_
    | with_reducible refine W.load2 ?_
    | with_reducible refine W.load5 ?_
    | with_reducible refine W.load11 ?_
    | with_reducible refine W.read19 ?_
    | with_reducible refine W.read20 ?_
    | with_reducible refine W.read16 ?_
    | with_reducible refine W.read15 ?_
    | with_reducible refine W.read17 ?_
    | with_reducible refine W.read18 ?_
    | with_reducible refine W.skip7 fun _ => ?_
    | with_reducible refine W.skip6 fun _ => ?_
    | with_reducible refine W.skip8 fun _ => ?_
    | with_reducible refine W.skip9 fun _ => ?_
    | with_reducible refine W.skip10 fun _ => ?_
    | with_reducible refine W.load14 fun _ => ?_
    | with_reducible refine W.load13 fun _ => ?_
    | with_reducible refine W.load12 fun _ => ?_
    | with_reducible refine W.store14 ?_
    | with_reducible refine W.store13 ?_
    | with_reducible refine W.store12 ?_
    | with_reducible refine W.name11 fun o' ho => ?_
    | with_reducible refine W.name17 fun m' hm => ?_
    | with_reducible refine W.name20 fun acc' hacc => ?_
    | with_reducible refine W.name15 fun sb' hsb => ?_
    | with_reducible refine W.name18 fun l' hl => ?_
    | with_reducible refine W.name16 fun pb' hpb => ?_
    | with_reducible refine W.name19 fun a' ha => ?_
    | (first
         | with_reducible refine W.enter fun Q' hQ => ?_
         | (with_reducible refine W.leave hQ ?_; clear hQ)
         | with_reducible refine W.tail (p := Prog.lift _) ?_
         | dsimp only)
  refine W.mono (part184 _ _ _ _ _ _ _ _ _ _ _ _ _ _ _ _ _ _ _ _ _ _ _ _ _ _ _ _ _ _ _ _ _ _ hr H) fun v s H => ?_
  refine hQ _ _ ?_
  clear hQ
  obtain ⟨o, sb, pb, m, l, a, acc⟩ := s
  repeat' first
    | with_reducible refine W.load4 ?_
    | with_reducible refine W.load3 ?_
    | with_reducible refine W.load2 ?_
    | with_reducible refine W.load5 ?_
    | with_reducible refine W.load11 ?_
    | with_reducible refine W.read19 ?_
    | with_reducible refine W.read20 ?_
    | with_reducible refine W.read16 ?_
    | with_reducible refine W.read15 ?_
    | with_reducible refine W.read17 ?_
    | with_reducible refine W.read18 ?_
    | with_reducible refine W.skip7 fun _ => ?_
    | with_reducible refine W.skip6 fun _ => ?_
    | with_reducible refine W.skip8 fun _ => ?_
    | with_reducible refine W.skip9 fun _ => ?_
    | with_reducible refine W.skip10 fun _ => ?_
    | with_reducible refine W.load14 fun _ => ?_
    | with_reducible refine W.load13 fun _ => ?_
    | with_reducible refine W.load12 fun _ => ?_
    | with_reducible refine W.store14 ?_
    | with_reducible refine W.store13 ?_
    | with_reducible refine W.store12 ?_
    | with_reducible refine W.name11 fun o' ho => ?_
    | with_reducible refine W.name17 fun m' hm => ?_
    | with_reducible refine W.name20 fun acc' hacc => ?_
    | with_reducible refine W.name15 fun sb' hsb => ?_
    | with_reducible refine W.name18 fun l' hl => ?_
    | with_reducible refine W.name16 fun pb' hpb => ?_
    | with_reducible refine W.name19 fun a' ha => ?_
    | (first
         | with_reducible refine W.enter fun Q' hQ => ?_
         | (with_reducible refine W.leave hQ ?_; clear hQ)
         | with_reducible refine W.tail (p := Prog.lift _) ?_
         | dsimp only)
  have hF : Fine C.R (_i 1).val o' := outputs (s' := ⟨o', sb, pb, m, l, a, acc⟩) H (by subst_vars; rfl)
  subst hC
  refine kept (keep_part186 _ _ _ _ _ _ _ _ _ _ _ _ _ _ _ _ _ _ _ _ _ _ _ _ _ _ ) fun _ s1 h1 => hQ _ _ ?_
  clear hQ
  refine kept ?_ fun _ s2 h2 => hQ _ _ ?_
  · repeat' first
      | with_reducible refine Keep.load fun _ => ?_
      | with_reducible refine Keep.store ?_
      | with_reducible exact Keep.store'
      | with_reducible exact Keep.pure
      | with_reducible apply keep_part188
      | with_reducible apply keep_part189
      | with_reducible refine Keep.seq ?_ fun _ => ?_
      | dsimp only
  clear hQ
  refine kept ?_ fun _ s3 h3 => ?_
  · repeat' first
      | with_reducible refine Keep.load fun _ => ?_
      | with_reducible refine Keep.store ?_
      | with_reducible exact Keep.store'
      | with_reducible exact Keep.pure
      | with_reducible apply keep_part188
      | with_reducible apply keep_part189
      | with_reducible refine Keep.seq ?_ fun _ => ?_
      | dsimp only
  rw [show s3.o = o' from h3.trans (h2.trans h1)]
  exact hF

/-- The body leaves quotients of the two sums in the first output's block. -/
theorem body (_i harg2 harg3 harg4 harg5 harg6 harg7 harg8 harg9 harg10 harg11 harg12 harg13 harg14 harg15 harg16 harg17 harg18 harg19 harg20) (hr : Real_ R) (s : St (Elt Ideal)) :
    W Name U Lvl (wctx c R none Γ) (cc0_token_mixers (F := Ideal) _i (wctx c R none Γ).R.r2 harg2 (wctx c R none Γ).R.r3 harg3 (wctx c R none Γ).R.r4 harg4 (wctx c R none Γ).R.r5 harg5 (wctx c R none Γ).R.r6 harg6 (wctx c R none Γ).R.r7 harg7 (wctx c R none Γ).R.r8 harg8 (wctx c R none Γ).R.r9 harg9 (wctx c R none Γ).R.r10 harg10 (wctx c R none Γ).R.r11 harg11 (wctx c R none Γ).R.r12 harg12 (wctx c R none Γ).R.r13 harg13 (wctx c R none Γ).R.r14 harg14 (wctx c R none Γ).R.r15 harg15 (wctx c R none Γ).R.r16 harg16 (wctx c R none Γ).R.r17 harg17 (wctx c R none Γ).R.r18 harg18 (wctx c R none Γ).R.r19 harg19 (wctx c R none Γ).R.r20 harg20) (fun _ s' => Fine R (_i 1).val s'.o) s :=
  body_of rfl _ _ _ _ _ _ _ _ _ _ _ _ _ _ _ _ _ _ _ _ hr s

end Cert.KernelIdeal.FoxV
-- ==== Proof.FoxValue.lean ====
/-
  The forgetting attention's value: at every point of the grid the body leaves the reference's block, and the blocks
  tile the result.
-/
module

public import proofs.«01_k».proof.Proof.FoxBody
public import proofs.«01_k».proof.Proof.FoxPre
public import Idealize.ShloMosaic.Lib.Pipeline.ArrRel
public import Idealize.ShloMosaic.Lib.Pipeline.Value
public import Idealize.ShloMosaic.Lib.Pipeline.ValueKit.Geometry

@[expose] public section

set_option maxRecDepth 16384

noncomputable section

open Idealize.ShloMosaic Idealize.ShloMosaic.TcCoe Idealize.SL.Sem Idealize.SL.RA

namespace Cert.KernelIdeal.FoxV

open Cert.KernelIdeal Cert.KernelIdeal.Gen Cert.KernelIdeal.Body Mixers
open Cert.ReferenceIdeal.Rows (qk val gate key want Finite)

/-- A sum over the keys, chunk by chunk. -/
theorem sum_rows (F : Fin 4096 → EReal) : ∑ x, F x = ∑ c ∈ Finset.range 16, ∑ k : Fin 256, F (row c k) := by
  rw [Finset.sum_range, ← Fintype.sum_prod_type' (fun (c : Fin 16) (k : Fin 256) => F (row c.val k))]
  refine (Fintype.sum_equiv (finProdFinEquiv : Fin 16 × Fin 256 ≃ Fin (16 * 256)) _ _ fun p => congrArg F (Fin.ext ?_)).symm
  have h1 := p.1.isLt; have h2 := p.2.isLt
  show (256 * p.1.val + p.2.val) % 4096 = p.2.val + 256 * p.1.val
  omega

/-- The chunks after the query block's own add nothing. -/
theorem sum_upto {n : ℕ} (hn : n < 16) (F : Fin 4096 → EReal) (hF : ∀ x : Fin 4096, 256 * (n + 1) ≤ x.val → F x = 0) :
    ∑ x, F x = ∑ c ∈ Finset.range (n + 1), ∑ k : Fin 256, F (row c k) := by
  rw [sum_rows]
  refine (Finset.sum_subset (Finset.range_subset_range.2 hn) fun c hc hc' => Finset.sum_eq_zero fun k _ => hF _ ?_).symm
  have h1 := Finset.mem_range.1 hc; have h2 := mt Finset.mem_range.2 hc'; have h3 := k.isLt
  show 256 * (n + 1) ≤ (256 * c + k.val) % 4096
  omega

section Block

variable (m' : (ℓ : Loc Cert.ReferenceIdeal.nD Cert.ReferenceIdeal.τ Cert.ReferenceIdeal.sig) → Buf (Elt Ideal) ℓ) (c : Dev Cert.ReferenceIdeal.nD)

/-- The input windows hold the blocks of the arguments for query block `n` of batch `b`. -/
structure Blocks (R : Refs sig (Elt Ideal)) (b : Fin 8) (n : ℕ) : Prop where
  q : ∀ (q : Fin 256) (l : Fin 512), R.x2 (ix3 0 q l) = qk m' c b (row n q) ⟨l.val, by omega⟩
  k : ∀ (r : Fin 4096) (l : Fin 512), R.x3 (ix3 0 r l) = qk m' c b r ⟨512 + l.val, by omega⟩
  v : ∀ (l : Fin 512) (r : Fin 4096), R.x4 (ix3 0 l r) = val m' c b r l
  g : ∀ (r : Fin 4096) (h : Fin 4), R.x5 (ix3 0 r (bias h)) = gate m' c b h r

variable {m' c} {R : Refs sig (Elt Ideal)} {b : Fin 8} {n : ℕ} (B : Blocks m' c R b n) (f : Finite m' c)
include B

theorem raw_eq (h : Fin 4) (q : Fin 256) (i : ℕ) (k : Fin 256) : raw R h q i k
    = (∑ x : Fin 128, qk m' c b (row i k) ⟨512 + (h.val * 128 + x.val), by omega⟩ * qk m' c b (row n q) ⟨h.val * 128 + x.val, by omega⟩) - gate m' c b h (row i k) := by
  unfold raw
  rw [B.g]
  congr 1
  refine Finset.sum_congr rfl fun x _ => ?_
  rw [B.k, B.q]
  congr 2
  · exact Fin.ext (by show 512 + (128 * h.val + x.val) = _; rw [mul_comm 128])
  · exact Fin.ext (by show 128 * h.val + x.val = _; rw [mul_comm 128])

theorem value_eq (h : Fin 4) (d : Fin 128) (i : ℕ) (k : Fin 256) : value R h d i k = val m' c b (row i k) ⟨h.val * 128 + d.val, by omega⟩ := by
  unfold value
  rw [B.v]
  congr 1
  exact Fin.ext (by show 128 * h.val + d.val = _; rw [mul_comm 128])

include f in
theorem real : Real_ R := by
  intro h q i k
  rw [raw_eq B]
  choose A hA using f.qk_real
  choose C hC using f.gate_real
  simp only [hA, hC, ← EReal.coe_mul, ← Fox.coe_sum, ← EReal.coe_sub]
  exact ⟨EReal.coe_ne_top _, EReal.coe_ne_bot _⟩

theorem score_eq (hn : n < 16) (h : Fin 4) (q : Fin 256) {i : ℕ} (hi : i ≤ n) (k : Fin 256) :
    score R n h q i k = key m' c b h (row n q) (row i k) := by
  have h1 := q.isLt; have h2 := k.isLt
  unfold score key
  rw [raw_eq B]
  split
  · next e =>
    subst e
    refine if_congr ?_ rfl rfl
    show k.val ≤ q.val ↔ (256 * i + k.val) % 4096 ≤ (256 * i + q.val) % 4096
    omega
  · next e =>
    refine (if_pos ?_).symm
    show (256 * i + k.val) % 4096 ≤ (256 * n + q.val) % 4096
    omega

include f in
/-- What the body leaves is the reference's block. -/
theorem fine_want (hn : n < 16) {o : SQ.Idx → Elt Ideal .bf16} (H : Fine R n o) (h : Fin 4) (q : Fin 256) (d : Fin 128) :
    o (ix3 0 q (lane h d)) = want m' c (ix3 b (row n q) (lane h d)) := by
  obtain ⟨M, hM⟩ := H h q
  have h1 := q.isLt
  have hk : ∀ x : Fin 4096, 256 * (n + 1) ≤ x.val → key m' c b h (row n q) x = ⊥ := fun x hx => by
    unfold key
    refine if_neg fun hle => ?_
    have : x.val ≤ (256 * n + q.val) % 4096 := hle
    omega
  refine (hM d).trans (Eq.trans ?_ (Cert.ReferenceIdeal.Rows.want_quotient b h (row n q) f d M).symm)
  rw [sum_upto hn (fun x => val m' c b x ⟨h.val * 128 + d.val, by omega⟩ * (Fox.wt (key m' c b h (row n q) x) M : EReal)) fun x hx => by
      rw [hk x hx, Fox.wt_bot, EReal.coe_zero, mul_zero],
    sum_upto hn (fun x => (Fox.wt (key m' c b h (row n q) x) M : EReal)) fun x hx => by rw [hk x hx, Fox.wt_bot, EReal.coe_zero]]
  congr 1
  · refine Finset.sum_congr rfl fun i hi => Finset.sum_congr rfl fun k _ => ?_
    rw [value_eq B, score_eq B hn h q (Nat.lt_succ_iff.1 (Finset.mem_range.1 hi))]
  · refine Finset.sum_congr rfl fun i hi => Finset.sum_congr rfl fun k _ => ?_
    rw [score_eq B hn h q (Nat.lt_succ_iff.1 (Finset.mem_range.1 hi))]

end Block

section Launch

variable {m : (ℓ : Loc nD τ sig) → Buf (Elt Ideal) ℓ} {G : Dev nD → Fin (cfg0 (F := Ideal)).N → (SQ.Idx → Elt Ideal .bf16) → Prop} {c : Dev nD}

/-- Where the windows stand at point `t`. -/
theorem index0 : ∀ t : Fin (cfg0 (F := Ideal)).N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem index1 : ∀ t : Fin (cfg0 (F := Ideal)).N, win0_1.index t 0 = t.val / 16 ∧ win0_1.index t 1 = 0 ∧ win0_1.index t 2 = 1 :=
  (by decide +kernel : ∀ t : Fin grid0.N, win0_1.index t 0 = t.val / 16 ∧ win0_1.index t 1 = 0 ∧ win0_1.index t 2 = 1)
theorem index2 : ∀ t : Fin (cfg0 (F := Ideal)).N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem index3 : ∀ t : Fin (cfg0 (F := Ideal)).N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
theorem index9 : ∀ t : Fin (cfg0 (F := Ideal)).N, win0_9.index t 0 = t.val / 16 ∧ win0_9.index t 1 = t.val % 16 ∧ win0_9.index t 2 = 0 :=
  (by decide +kernel : ∀ t : Fin grid0.N, win0_9.index t 0 = t.val / 16 ∧ win0_9.index t 1 = t.val % 16 ∧ win0_9.index t 2 = 0)
theorem coord : ∀ t : Fin (cfg0 (F := Ideal)).N, (grid0.coords t 1).val = t.val % 16 :=
  (by decide +kernel : ∀ t : Fin grid0.N, (grid0.coords t 1).val = t.val % 16)
theorem below (t : Fin (cfg0 (F := Ideal)).N) : t.val < 128 := lt_of_lt_of_eq t.isLt (by decide +kernel : grid0.N = 128)

/-- A point's batch. -/
def batch (t : Fin (cfg0 (F := Ideal)).N) : Fin 8 := ⟨t.val / 16, by have := below t; omega⟩

/-- An input window that is fetched at a batch's first point holds, at all of the batch's points, what the fetch left. -/
theorem finds_in (w : Fin (cfg0 (F := Ideal)).W) (hin : ((cfg0 (F := Ideal)).win w).isOut = false)
    (hlv : ∀ t Y X, (rdat m G c).after w t Y X → X = Y) (hf : ∀ t, ((cfg0 (F := Ideal)).win w).fetch t = true ↔ t.val % 16 = 0)
    (P : ℕ → (((cfg0 (F := Ideal)).win w).block.Idx → Elt Ideal ((cfg0 (F := Ideal)).win w).elt) → Prop) (hP : ∀ t d, P (t.val / 16) ((rdat m G c).fetched w t d)) :
    ∀ (n : ℕ) (hn : n < (cfg0 (F := Ideal)).N) X, (rdat m G c).Finds w ⟨n, hn⟩ X → P (n / 16) X := by
  intro n
  induction n with
  | zero =>
    intro hn X h
    obtain ⟨d, rfl⟩ := ((rdat m G c).finds_of_fetch ((hf ⟨0, hn⟩).2 rfl) X).1 h
    exact hP ⟨0, hn⟩ d
  | succ n ih =>
    intro hn X h
    by_cases e : (n + 1) % 16 = 0
    · obtain ⟨d, rfl⟩ := ((rdat m G c).finds_of_fetch ((hf ⟨n + 1, hn⟩).2 e) X).1 h
      exact hP ⟨n + 1, hn⟩ d
    · rcases ((rdat m G c).finds_of_pos (Bool.eq_false_iff.2 (mt (hf ⟨n + 1, hn⟩).1 e)) (Nat.succ_ne_zero n) X).1 h with h | h
      · rw [Pipeline.Window.flush_in _ hin] at h; exact absurd h Bool.false_ne_true
      · obtain ⟨Y, hY, hX⟩ := h
        obtain rfl := hlv _ _ _ hX
        have := ih (by omega) _ hY
        rwa [show (n + 1) / 16 = n / 16 by omega]

theorem fetched0 (t : Fin (cfg0 (F := Ideal)).N) (d) (q : Fin 256) (l : Fin 512) :
    (rdat m G c).fetched 0 t d (ix3 0 q l) = m (c.tc.loc main_arg0) (ix3 (batch t) (row (t.val % 16) q) ⟨l.val, by omega⟩) := by
  show m (c.tc.loc main_arg0) _ = _
  refine congrArg (m (c.tc.loc main_arg0)) (funext fun a => Fin.ext ?_)
  obtain ⟨e0, e1, e2⟩ := index0 t
  have := q.isLt
  match a with
  | ⟨0, _⟩ => show win0_0.index t 0 * 1 + 1 * 0 = t.val / 16; omega
  | ⟨1, _⟩ => show win0_0.index t 1 * 256 + 1 * q.val = (256 * (t.val % 16) + q.val) % 4096; omega
  | ⟨2, _⟩ => show win0_0.index t 2 * 512 + 1 * l.val = l.val; omega

theorem fetched1 (t : Fin (cfg0 (F := Ideal)).N) (d) (r : Fin 4096) (l : Fin 512) :
    (rdat m G c).fetched 1 t d (ix3 0 r l) = m (c.tc.loc main_arg0) (ix3 (batch t) r ⟨512 + l.val, by omega⟩) := by
  show m (c.tc.loc main_arg0) _ = _
  refine congrArg (m (c.tc.loc main_arg0)) (funext fun a => Fin.ext ?_)
  obtain ⟨e0, e1, e2⟩ := index1 t
  match a with
  | ⟨0, _⟩ => show win0_1.index t 0 * 1 + 1 * 0 = t.val / 16; omega
  | ⟨1, _⟩ => show win0_1.index t 1 * 4096 + 1 * r.val = r.val; omega
  | ⟨2, _⟩ => show win0_1.index t 2 * 512 + 1 * l.val = 512 + l.val; omega

theorem fetched2 (t : Fin (cfg0 (F := Ideal)).N) (d) (l : Fin 512) (r : Fin 4096) :
    (rdat m G c).fetched 2 t d (ix3 0 l r) = m (c.tc.loc main_arg1) (ix3 (batch t) l r) := by
  show m (c.tc.loc main_arg1) _ = _
  refine congrArg (m (c.tc.loc main_arg1)) (funext fun a => Fin.ext ?_)
  obtain ⟨e0, e1, e2⟩ := index2 t
  match a with
  | ⟨0, _⟩ => show win0_2.index t 0 * 1 + 1 * 0 = t.val / 16; omega
  | ⟨1, _⟩ => show win0_2.index t 1 * 512 + 1 * l.val = l.val; omega
  | ⟨2, _⟩ => show win0_2.index t 2 * 4096 + 1 * r.val = r.val; omega

theorem fetched3 (t : Fin (cfg0 (F := Ideal)).N) (d) (r : Fin 4096) (j : Fin 128) :
    (rdat m G c).fetched 3 t d (ix3 0 r j) = m (c.tc.loc main_arg2) (ix3 (batch t) r j) := by
  show m (c.tc.loc main_arg2) _ = _
  refine congrArg (m (c.tc.loc main_arg2)) (funext fun a => Fin.ext ?_)
  obtain ⟨e0, e1, e2⟩ := index3 t
  match a with
  | ⟨0, _⟩ => show win0_3.index t 0 * 1 + 1 * 0 = t.val / 16; omega
  | ⟨1, _⟩ => show win0_3.index t 1 * 4096 + 1 * r.val = r.val; omega
  | ⟨2, _⟩ => show win0_3.index t 2 * 128 + 1 * j.val = j.val; omega

variable {m' : (ℓ : Loc Cert.ReferenceIdeal.nD Cert.ReferenceIdeal.τ Cert.ReferenceIdeal.sig) → Buf (Elt Ideal) ℓ}

/-- The two programs' memories, holding the same queries, keys, values and gates. -/
def Same (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop :=
  m' (c.tc.loc Cert.ReferenceIdeal.main_arg0) = m (c.tc.loc main_arg0) ∧ m' (c.tc.loc Cert.ReferenceIdeal.main_arg1) = m (c.tc.loc main_arg1)
  ∧ m' (c.tc.loc Cert.ReferenceIdeal.main_arg2) = m (c.tc.loc main_arg2)

/-- What the windows hold at a point. -/
theorem blocks (hs : Same m m' c) (t : Fin (cfg0 (F := Ideal)).N) (Y : Body.Stage Ideal) (hY : ∀ w, (rdat m G c).Finds w t (Y w)) :
    Blocks m' c (refs t Y) (batch t) (t.val % 16) where
  q q l := by
    obtain ⟨d, hd⟩ := ((rdat m G c).finds_of_fetch (fetch0_0 t) (Y 0)).1 (hY 0)
    show Y 0 (ix3 0 q l) = _
    rw [hd, fetched0, ← hs.1]; rfl
  k r l := by
    have := finds_in (m := m) (G := G) (c := c) 1 rfl (fun _ _ _ h => h) fetch0_1
      (fun b X => ∀ (hb : b < 8) (r : Fin 4096) (l : Fin 512), X (ix3 0 r l) = m (c.tc.loc main_arg0) (ix3 ⟨b, hb⟩ r ⟨512 + l.val, by omega⟩))
      (fun t d _ r l => fetched1 t d r l) t.val t.isLt (Y 1) (hY 1) (batch t).isLt r l
    show Y 1 (ix3 0 r l) = _
    rw [this, ← hs.1]; rfl
  v l r := by
    have := finds_in (m := m) (G := G) (c := c) 2 rfl (fun _ _ _ h => h) fetch0_2
      (fun b X => ∀ (hb : b < 8) (l : Fin 512) (r : Fin 4096), X (ix3 0 l r) = m (c.tc.loc main_arg1) (ix3 ⟨b, hb⟩ l r))
      (fun t d _ l r => fetched2 t d l r) t.val t.isLt (Y 2) (hY 2) (batch t).isLt l r
    show Y 2 (ix3 0 l r) = _
    rw [this, ← hs.2.1]; rfl
  g r h := by
    have := finds_in (m := m) (G := G) (c := c) 3 rfl (fun _ _ _ h => h) fetch0_3
      (fun b X => ∀ (hb : b < 8) (r : Fin 4096) (j : Fin 128), X (ix3 0 r j) = m (c.tc.loc main_arg2) (ix3 ⟨b, hb⟩ r j))
      (fun t d _ r j => fetched3 t d r j) t.val t.isLt (Y 3) (hY 3) (batch t).isLt r (bias h)
    show Y 3 (ix3 0 r (bias h)) = _
    rw [this, ← hs.2.2]; rfl

/-- What the body leaves of the first output at a point: the reference's block. -/
def Leaves (m' : (ℓ : Loc Cert.ReferenceIdeal.nD Cert.ReferenceIdeal.τ Cert.ReferenceIdeal.sig) → Buf (Elt Ideal) ℓ) (c : Dev nD)
    (t : Fin (cfg0 (F := Ideal)).N) (o : SQ.Idx → Elt Ideal .bf16) : Prop :=
  ∀ h q d, o (ix3 0 q (lane h d)) = want m' c (ix3 (batch t) (row (t.val % 16) q) (lane h d))

theorem runs_want (hs : ∀ c, Same m m' c) (f : ∀ c, Finite m' c) : Runs m (Leaves m') := fun c t Y hY s =>
  have B := blocks (hs c) t Y hY
  W.mono (body (c := c) (R := refs t Y) (Γ := .empty) _ _ _ _ _ _ _ _ _ _ _ _ _ _ _ _ _ _ _ _ (real B (f c)) s) fun _ s' H h q d =>
    fine_want B (f c) (Nat.mod_lt _ (by decide)) (coord t ▸ H) h q d

/-- The blocks tile the result. -/
theorem final (c : Dev nD) {r : PUnit × MemSt nD τ sig (Elt Ideal)}
    (h : Pipeline.RDat.FramePost cfg0 (rdat m (Leaves m')) (fun c b => m ((c.tc : Thread nD τ).loc b)) r) :
    r.2.mem (c.tc.loc main_v0_0) = want m' c := by
  obtain ⟨after, hL, hA⟩ := h.exists_exact c
  refine (hA 9).trans ?_
  refine ((rdat m (Leaves m') c).withAfter after).arrAt_eq_of_covers 9 (want m' c) (by decide +kernel) fun t hf y => ?_
  obtain ⟨Y, -, hG⟩ := hL 9 t hf
  replace hG : Leaves m' c t (after 9 t) := hG
  revert y
  intro (y : S1x256x512.Idx)
  idx_vars y
  obtain rfl : y0 = 0 := Subsingleton.elim _ _
  have h1 := y1.isLt
  have e := hG ⟨y2.val / 128, by omega⟩ y1 ⟨y2.val % 128, Nat.mod_lt _ (by decide)⟩
  rw [show lane ⟨y2.val / 128, by omega⟩ ⟨y2.val % 128, Nat.mod_lt _ (by decide)⟩ = y2 from Fin.ext (Nat.div_add_mod _ _)] at e
  show after 9 t (ix3 0 y1 y2) = _
  refine Eq.trans e (congrArg (want m' c) (funext fun a => Fin.ext ?_))
  obtain ⟨e0, e1, e2⟩ := index9 t
  match a with
  | ⟨0, _⟩ => show t.val / 16 = win0_9.index t 0 * 1 + 1 * 0; omega
  | ⟨1, _⟩ => show (256 * (t.val % 16) + y1.val) % 4096 = win0_9.index t 1 * 256 + 1 * y1.val; omega
  | ⟨2, _⟩ => show y2.val = win0_9.index t 2 * 512 + 1 * y2.val; omega

/-- From real queries, keys and cumulative gates, the kernel and the reference end with the same first result. -/
theorem agrees : algebraic_KernelIdeal_ReferenceIdeal_pre_finite (hKernelIdeal := Cert.KernelIdeal.Gen.facts)
    (hReferenceIdeal := Cert.ReferenceIdeal.Gen.facts) (hPre_finite := Cert.Pre_finite.Read.facts) := by
  intro m g m' g' hp h
  have hs : ∀ c, Same m m' c := fun c => ⟨(h c).1, (h c).2.1, (h c).2.2.1⟩
  have f : ∀ c, Finite m' c := fun c => Finite.of_pre (hp c) (hs c).1 (hs c).2.2
  refine ⟨fun c => want m' c, ?_, ?_⟩
  · refine (θ_run _ _ _).mono (fun r k c => ?_) (run (runs_want hs f) g)
    exact ⟨final c k.1, k.1.arr_in c 0 rfl, k.1.arr_in c 2 rfl, k.1.arr_in c 3 rfl, k.1.arr_in c 4 rfl, k.1.arr_in c 6 rfl, k.1.arr_in c 8 rfl⟩
  · refine (θ_run _ _ _).mono (fun r k c => ⟨(k c).1.trans (Cert.ReferenceIdeal.Rows.want_eq m' c), (k c).2⟩) (Cert.ReferenceIdeal.Value.run (F := Ideal) m' g')

end Launch

end Cert.KernelIdeal.FoxV
-- ==== Proof.lean ====
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Gen.Ffn.Frame
public import proofs.«01_k».proof.Proof.Gen.FfnIdeal.Value
public import proofs.«01_k».proof.Proof.Gen.FfnRefIdeal.Run
public import proofs.«01_k».proof.Proof.Gen.Merge.Frame
public import proofs.«01_k».proof.Proof.Gen.MergeIdeal.Value
public import proofs.«01_k».proof.Proof.Gen.MergeRefIdeal.Run
public import proofs.«01_k».proof.Proof.Gen.Input.Frame
public import proofs.«01_k».proof.Proof.Gen.InputIdeal.Value
public import proofs.«01_k».proof.Proof.Gen.InputRefIdeal.Run
public import proofs.«01_k».proof.Proof.FfnValue
public import proofs.«01_k».proof.Proof.MergeValue
public import proofs.«01_k».proof.Proof.InputValue
public import proofs.«01_k».proof.Proof.FoxPre
public import proofs.«01_k».proof.Proof.FoxValue
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Merge.Gen.facts, Cert.MergeIdeal.Gen.facts, Cert.MergeRefIdeal.Gen.facts,
  Cert.Input.Gen.facts, Cert.InputIdeal.Gen.facts, Cert.InputRefIdeal.Gen.facts,
  Cert.Pre_finite.Read.facts,
  fun m ρ _ => Cert.Kernel.Body.frame m ρ,
  fun m ρ _ => Cert.KernelIdeal.Body.frame m ρ,
  fun m ρ _ => Cert.KernelIdeal.Body.frame m ρ,
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => (θ_run Cert.ReferenceIdeal.defs _ _).mono (fun r h => ⟨fun c => (h c).2, sem_eq_zero_of_no_sems (by decide) r.2⟩)
    (Cert.ReferenceIdeal.Value.run (F := Ideal) m ρ),
  fun m ρ _ => Cert.Ffn.Gen.frame m ρ,
  fun m ρ _ => Cert.FfnIdeal.Gen.frame m ρ,
  fun m ρ _ => (θ_run Cert.FfnRefIdeal.defs _ _).mono (fun r h => ⟨fun c => (h c).2, sem_eq_zero_of_no_sems (by decide) r.2⟩)
    (Cert.FfnRefIdeal.Value.run (F := Ideal) m ρ),
  fun m ρ _ => Cert.Merge.Gen.frame m ρ,
  fun m ρ _ => Cert.MergeIdeal.Gen.frame m ρ,
  fun m ρ _ => (θ_run Cert.MergeRefIdeal.defs _ _).mono (fun r h => ⟨fun c => (h c).2, sem_eq_zero_of_no_sems (by decide) r.2⟩)
    (Cert.MergeRefIdeal.Value.run (F := Ideal) m ρ),
  fun m ρ _ => Cert.Input.Gen.frame m ρ,
  fun m ρ _ => Cert.InputIdeal.Gen.frame m ρ,
  fun m ρ _ => (θ_run Cert.InputRefIdeal.defs _ _).mono (fun r h => ⟨fun c => (h c).2.2.2.2, sem_eq_zero_of_no_sems (by decide) r.2⟩)
    (Cert.InputRefIdeal.Value.run (F := Ideal) m ρ),
  IdealRules.named_const.statement Cert.KernelIdeal.κ "mask" .f32 0xF149F2CA#32 ⊥ rfl,
  Cert.KernelIdeal.FoxV.agrees,
  trivial, Cert.FfnIdeal.Rows.agrees, trivial, Cert.MergeIdeal.Rows.agrees,
  trivial, Cert.InputIdeal.Rows.agrees⟩

end Cert.Proof

end
